-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sphere_graph [hPre_sphere_graph : Cert.Pre_sphere_graph.Facts] (m : (ℓ : Loc Cert.KernelIdeal.nD Cert.KernelIdeal.τ Cert.KernelIdeal.sig) → Buf (Elt Ideal) ℓ) : Prop :=
  ∀ c : Dev Cert.KernelIdeal.nD,
    (Cert.Pre_sphere_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).1 = (fun _ => 1#1)
    ∧ (Cert.Pre_sphere_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.1 = (fun _ => 1#1)
    ∧ (Cert.Pre_sphere_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.1 = (fun _ => 1#1)
    ∧ (Cert.Pre_sphere_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.1 = (fun _ => 1#1)
    ∧ (Cert.Pre_sphere_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.1 = (fun _ => 1#1)
    ∧ (Cert.Pre_sphere_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.1 = (fun _ => 1#1)
    ∧ (Cert.Pre_sphere_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.1 = (fun _ => 1#1)
    ∧ (Cert.Pre_sphere_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.1 = (fun _ => 1#1)
    ∧ (Cert.Pre_sphere_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sphere_graph [hPre_sphere_graph : Cert.Pre_sphere_graph.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sphere_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).1 = (fun _ => 1#1)
    ∧ (Cert.Pre_sphere_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.1 = (fun _ => 1#1)
    ∧ (Cert.Pre_sphere_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.1 = (fun _ => 1#1)
    ∧ (Cert.Pre_sphere_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.1 = (fun _ => 1#1)
    ∧ (Cert.Pre_sphere_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.1 = (fun _ => 1#1)
    ∧ (Cert.Pre_sphere_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.1 = (fun _ => 1#1)
    ∧ (Cert.Pre_sphere_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.1 = (fun _ => 1#1)
    ∧ (Cert.Pre_sphere_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.1 = (fun _ => 1#1)
    ∧ (Cert.Pre_sphere_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_sphere_graph [hKernelIdeal : Cert.KernelIdeal.Facts] [hPre_sphere_graph : Cert.Pre_sphere_graph.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sphere_graph m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_sphere_graph [hReferenceIdeal : Cert.ReferenceIdeal.Facts] [hPre_sphere_graph : Cert.Pre_sphere_graph.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sphere_graph m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_sphere_graph [hKernelIdeal : Cert.KernelIdeal.Facts] [hReferenceIdeal : Cert.ReferenceIdeal.Facts] [hPre_sphere_graph : Cert.Pre_sphere_graph.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sphere_graph m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v137)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v137) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v260) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_sphere_graph : Cert.Pre_sphere_graph.Facts),
    quiescent_Kernel (hKernel := hKernel)
    ∧ quiescent_KernelIdeal (hKernelIdeal := hKernelIdeal)
    ∧ quiescent_KernelIdeal_pre_sphere_graph (hKernelIdeal := hKernelIdeal) (hPre_sphere_graph := hPre_sphere_graph)
    ∧ quiescent_ReferenceIdeal (hReferenceIdeal := hReferenceIdeal)
    ∧ quiescent_ReferenceIdeal_pre_sphere_graph (hReferenceIdeal := hReferenceIdeal) (hPre_sphere_graph := hPre_sphere_graph)
    ∧ preserves_Kernel_KernelIdeal
    ∧ algebraic_KernelIdeal_ReferenceIdeal_pre_sphere_graph (hKernelIdeal := hKernelIdeal) (hReferenceIdeal := hReferenceIdeal) (hPre_sphere_graph := hPre_sphere_graph)
-- ==== Pre_sphere_graph.lean ====
abbrev S2x196608x1 : Shape := ⟨3, ![2, 196608, 1]⟩
abbrev S1572864 : Shape := ⟨1, ![1572864]⟩
abbrev S393216 : Shape := ⟨1, ![393216]⟩
abbrev S98304 : Shape := ⟨1, ![98304]⟩
abbrev S4x1x16 : Shape := ⟨3, ![4, 1, 16]⟩
abbrev S4x16x32 : Shape := ⟨3, ![4, 16, 32]⟩
abbrev S4x32x16 : Shape := ⟨3, ![4, 32, 16]⟩
abbrev S4x16x16 : Shape := ⟨3, ![4, 16, 16]⟩
abbrev S4x16x1 : Shape := ⟨3, ![4, 16, 1]⟩
abbrev S8 : Shape := ⟨1, ![8]⟩
abbrev S196608x8 : Shape := ⟨2, ![196608, 8]⟩
abbrev S1x8 : Shape := ⟨2, ![1, 8]⟩
abbrev S_ : Shape := ⟨0, ![]⟩
abbrev S49152x8 : Shape := ⟨2, ![49152, 8]⟩
abbrev S12288x8 : Shape := ⟨2, ![12288, 8]⟩

class Facts : Prop where
  bcast_S8_S1x8_1 : S8.BroadcastsInDim S1x8 (![1] : Fin 1 → Fin S1x8.rank)
  bcast_S1x8_S196608x8_0_1 : S1x8.BroadcastsInDim S196608x8 (![0, 1] : Fin 2 → Fin S196608x8.rank)
  bcast_S_S196608x8 : S_.BroadcastsInDim S196608x8 (![] : Fin 0 → Fin S196608x8.rank)
  shapeCasts_S1572864_S196608x8 : S1572864.ShapeCasts S196608x8
  bcast_S_S1572864 : S_.BroadcastsInDim S1572864 (![] : Fin 0 → Fin S1572864.rank)
  bcast_S1x8_S49152x8_0_1 : S1x8.BroadcastsInDim S49152x8 (![0, 1] : Fin 2 → Fin S49152x8.rank)
  bcast_S_S49152x8 : S_.BroadcastsInDim S49152x8 (![] : Fin 0 → Fin S49152x8.rank)
  shapeCasts_S393216_S49152x8 : S393216.ShapeCasts S49152x8
  bcast_S_S393216 : S_.BroadcastsInDim S393216 (![] : Fin 0 → Fin S393216.rank)
  bcast_S1x8_S12288x8_0_1 : S1x8.BroadcastsInDim S12288x8 (![0, 1] : Fin 2 → Fin S12288x8.rank)
  bcast_S_S12288x8 : S_.BroadcastsInDim S12288x8 (![] : Fin 0 → Fin S12288x8.rank)
  shapeCasts_S98304_S12288x8 : S98304.ShapeCasts S12288x8
  bcast_S_S98304 : S_.BroadcastsInDim S98304 (![] : Fin 0 → Fin S98304.rank)

variable [Facts]

noncomputable abbrev lit0 : Fin 8 → BitVec 32 := fun
  | 0 => 196609#32 | 1 => 196607#32 | 2 => 196610#32 | 3 => 196606#32 | 4 => 245760#32 | 5 => 147456#32 | 6 => 294913#32 | 7 => 98303#32
  | _ => 0#32

noncomputable abbrev lit1 : Fin 8 → BitVec 32 := fun
  | 0 => 49153#32 | 1 => 49151#32 | 2 => 49154#32 | 3 => 49150#32 | 4 => 61440#32 | 5 => 36864#32 | 6 => 73729#32 | 7 => 24575#32
  | _ => 0#32

noncomputable abbrev lit2 : Fin 8 → BitVec 32 := fun
  | 0 => 12289#32 | 1 => 12287#32 | 2 => 12290#32 | 3 => 12286#32 | 4 => 15360#32 | 5 => 9216#32 | 6 => 18433#32 | 7 => 6143#32
  | _ => 0#32

def fn_part1 {F : FTy → Type} [FloatOps F] (main_arg4 : IVec S393216 32) (main_arg5 : IVec S393216 32) (main_arg6 : FVec F S393216 .f32) (main_arg7 : IVec S98304 32) (main_arg8 : IVec S98304 32) (main_arg9 : FVec F S98304 .f32) (main_c_1 : IVec S8 32) (main_v7 : IVec S196608x8 1) (main_v9 : IVec S196608x8 1) (main_v11 : IVec S1572864 1) (main_v12 : IVec S49152x8 32) (main_v17 : IVec S49152x8 32) : IVec S196608x8 1 × IVec S196608x8 1 × IVec S1572864 1 × IVec S49152x8 1 × IVec S49152x8 1 × IVec S393216 1 × IVec S12288x8 1 × IVec S12288x8 1 × IVec S98304 1 :=
  let main_v18 : IVec S49152x8 32 := shapeCast S49152x8 main_arg4 shapeCasts_S393216_S49152x8
  let main_v19 : IVec S49152x8 1 := cmpi .eq main_v18 main_v17
  let main_v20 : IVec S49152x8 32 := shapeCast S49152x8 main_arg5 shapeCasts_S393216_S49152x8
  let main_v21 : IVec S49152x8 1 := cmpi .eq main_v20 main_v12
  let main_cst_4 : FVec F S_ .f32 := constant S_ .f32 0x3E000000#32
  let main_v22 : FVec F S393216 .f32 := broadcastInDim S393216 ![] bcast_S_S393216 main_cst_4
  let main_v23 : IVec S393216 1 := cmpf .oeq main_arg6 main_v22
  let main_v24 : IVec S12288x8 32 := iotaInDim S12288x8 32 0
  let main_v25 : IVec S1x8 32 := broadcastInDim S1x8 ![1] bcast_S8_S1x8_1 main_c_1
  let main_v26 : IVec S12288x8 32 := broadcastInDim S12288x8 ![0, 1] bcast_S1x8_S12288x8_0_1 main_v25
  let main_v27 : IVec S12288x8 32 := addi main_v24 main_v26
  let main_c_5 : IVec S_ 32 := constantI S_ 32 12288#32
  let main_v28 : IVec S12288x8 32 := broadcastInDim S12288x8 ![] bcast_S_S12288x8 main_c_5
  let main_v29 : IVec S12288x8 32 := Host.remsi main_v27 main_v28
  let main_v30 : IVec S12288x8 32 := shapeCast S12288x8 main_arg7 shapeCasts_S98304_S12288x8
  let main_v31 : IVec S12288x8 1 := cmpi .eq main_v30 main_v29
  let main_v32 : IVec S12288x8 32 := shapeCast S12288x8 main_arg8 shapeCasts_S98304_S12288x8
  let main_v33 : IVec S12288x8 1 := cmpi .eq main_v32 main_v24
  let main_cst_6 : FVec F S_ .f32 := constant S_ .f32 0x3E000000#32
  let main_v34 : FVec F S98304 .f32 := broadcastInDim S98304 ![] bcast_S_S98304 main_cst_6
  let main_v35 : IVec S98304 1 := cmpf .oeq main_arg9 main_v34
  (main_v7, main_v9, main_v11, main_v19, main_v21, main_v23, main_v31, main_v33, main_v35)

def fn {F : FTy → Type} [FloatOps F] (main_arg0 : FVec F S2x196608x1 .f32) (main_arg1 : IVec S1572864 32) (main_arg2 : IVec S1572864 32) (main_arg3 : FVec F S1572864 .f32) (main_arg4 : IVec S393216 32) (main_arg5 : IVec S393216 32) (main_arg6 : FVec F S393216 .f32) (main_arg7 : IVec S98304 32) (main_arg8 : IVec S98304 32) (main_arg9 : FVec F S98304 .f32) (main_arg10 : FVec F S4x1x16 .f32) (main_arg11 : FVec F S4x16x32 .f32) (main_arg12 : FVec F S4x32x16 .f32) (main_arg13 : FVec F S4x16x16 .f32) (main_arg14 : FVec F S4x16x1 .f32) : IVec S196608x8 1 × IVec S196608x8 1 × IVec S1572864 1 × IVec S49152x8 1 × IVec S49152x8 1 × IVec S393216 1 × IVec S12288x8 1 × IVec S12288x8 1 × IVec S98304 1 :=
  let main_c : IVec S8 32 := fun i => lit0 (S8.rowMajor i)
  let main_c_0 : IVec S8 32 := fun i => lit1 (S8.rowMajor i)
  let main_c_1 : IVec S8 32 := fun i => lit2 (S8.rowMajor i)
  let main_v0 : IVec S196608x8 32 := iotaInDim S196608x8 32 0
  let main_v1 : IVec S1x8 32 := broadcastInDim S1x8 ![1] bcast_S8_S1x8_1 main_c
  let main_v2 : IVec S196608x8 32 := broadcastInDim S196608x8 ![0, 1] bcast_S1x8_S196608x8_0_1 main_v1
  let main_v3 : IVec S196608x8 32 := addi main_v0 main_v2
  let main_c_2 : IVec S_ 32 := constantI S_ 32 196608#32
  let main_v4 : IVec S196608x8 32 := broadcastInDim S196608x8 ![] bcast_S_S196608x8 main_c_2
  let main_v5 : IVec S196608x8 32 := Host.remsi main_v3 main_v4
  let main_v6 : IVec S196608x8 32 := shapeCast S196608x8 main_arg1 shapeCasts_S1572864_S196608x8
  let main_v7 : IVec S196608x8 1 := cmpi .eq main_v6 main_v5
  let main_v8 : IVec S196608x8 32 := shapeCast S196608x8 main_arg2 shapeCasts_S1572864_S196608x8
  let main_v9 : IVec S196608x8 1 := cmpi .eq main_v8 main_v0
  let main_cst : FVec F S_ .f32 := constant S_ .f32 0x3E000000#32
  let main_v10 : FVec F S1572864 .f32 := broadcastInDim S1572864 ![] bcast_S_S1572864 main_cst
  let main_v11 : IVec S1572864 1 := cmpf .oeq main_arg3 main_v10
  let main_v12 : IVec S49152x8 32 := iotaInDim S49152x8 32 0
  let main_v13 : IVec S1x8 32 := broadcastInDim S1x8 ![1] bcast_S8_S1x8_1 main_c_0
  let main_v14 : IVec S49152x8 32 := broadcastInDim S49152x8 ![0, 1] bcast_S1x8_S49152x8_0_1 main_v13
  let main_v15 : IVec S49152x8 32 := addi main_v12 main_v14
  let main_c_3 : IVec S_ 32 := constantI S_ 32 49152#32
  let main_v16 : IVec S49152x8 32 := broadcastInDim S49152x8 ![] bcast_S_S49152x8 main_c_3
  let main_v17 : IVec S49152x8 32 := Host.remsi main_v15 main_v16
  fn_part1 (F := F) main_arg4 main_arg5 main_arg6 main_arg7 main_arg8 main_arg9 main_c_1 main_v7 main_v9 main_v11 main_v12 main_v17
-- ==== Kernel.lean ====
abbrev S2x196608x1 : Shape := ⟨3, ![2, 196608, 1]⟩
abbrev S1572864 : Shape := ⟨1, ![1572864]⟩
abbrev S393216 : Shape := ⟨1, ![393216]⟩
abbrev S98304 : Shape := ⟨1, ![98304]⟩
abbrev S4x1x16 : Shape := ⟨3, ![4, 1, 16]⟩
abbrev S4x16x32 : Shape := ⟨3, ![4, 16, 32]⟩
abbrev S4x32x16 : Shape := ⟨3, ![4, 32, 16]⟩
abbrev S4x16x16 : Shape := ⟨3, ![4, 16, 16]⟩
abbrev S4x16x1 : Shape := ⟨3, ![4, 16, 1]⟩
abbrev S2x1536x128 : Shape := ⟨3, ![2, 1536, 128]⟩
abbrev S128x128 : Shape := ⟨2, ![128, 128]⟩
abbrev S_ : Shape := ⟨0, ![]⟩
abbrev S1x128x1x128x1 : Shape := ⟨5, ![1, 128, 1, 128, 1]⟩
abbrev S4x1x1x1x16 : Shape := ⟨5, ![4, 1, 1, 1, 16]⟩
abbrev S4x128x1x128x16 : Shape := ⟨5, ![4, 128, 1, 128, 16]⟩
abbrev S4x128x2048 : Shape := ⟨3, ![4, 128, 2048]⟩
abbrev S8x8 : Shape := ⟨2, ![8, 8]⟩
abbrev S1x8x1x8x1 : Shape := ⟨5, ![1, 8, 1, 8, 1]⟩
abbrev S4x1x16x1x32 : Shape := ⟨5, ![4, 1, 16, 1, 32]⟩
abbrev S4x8x16x8x32 : Shape := ⟨5, ![4, 8, 16, 8, 32]⟩
abbrev S4x128x256 : Shape := ⟨3, ![4, 128, 256]⟩
abbrev S4x4 : Shape := ⟨2, ![4, 4]⟩
abbrev S1x4x1x4x1 : Shape := ⟨5, ![1, 4, 1, 4, 1]⟩
abbrev S4x1x32x1x16 : Shape := ⟨5, ![4, 1, 32, 1, 16]⟩
abbrev S4x4x32x4x16 : Shape := ⟨5, ![4, 4, 32, 4, 16]⟩
abbrev S4x128x64 : Shape := ⟨3, ![4, 128, 64]⟩
abbrev S32x32 : Shape := ⟨2, ![32, 32]⟩
abbrev S1x32x1x32x1 : Shape := ⟨5, ![1, 32, 1, 32, 1]⟩
abbrev S4x1x16x1x16 : Shape := ⟨5, ![4, 1, 16, 1, 16]⟩
abbrev S4x32x16x32x16 : Shape := ⟨5, ![4, 32, 16, 32, 16]⟩
abbrev S4x512x512 : Shape := ⟨3, ![4, 512, 512]⟩
abbrev S4x8x1 : Shape := ⟨3, ![4, 8, 1]⟩
abbrev S64x64 : Shape := ⟨2, ![64, 64]⟩
abbrev S1x64x1x64x1 : Shape := ⟨5, ![1, 64, 1, 64, 1]⟩
abbrev S4x1x8x1x1 : Shape := ⟨5, ![4, 1, 8, 1, 1]⟩
abbrev S4x64x8x64x1 : Shape := ⟨5, ![4, 64, 8, 64, 1]⟩
abbrev S4x512x64 : Shape := ⟨3, ![4, 512, 64]⟩
abbrev S1x4x512x64 : Shape := ⟨4, ![1, 4, 512, 64]⟩
abbrev S2x4x512x64 : Shape := ⟨4, ![2, 4, 512, 64]⟩
abbrev S1x4 : Shape := ⟨2, ![1, 4]⟩
abbrev S16x16 : Shape := ⟨2, ![16, 16]⟩
abbrev S1x1x4x1 : Shape := ⟨4, ![1, 1, 4, 1]⟩
abbrev S1x16x1x16 : Shape := ⟨4, ![1, 16, 1, 16]⟩
abbrev S1x16x4x16 : Shape := ⟨4, ![1, 16, 4, 16]⟩
abbrev S16x64 : Shape := ⟨2, ![16, 64]⟩
abbrev S8x1x8x1 : Shape := ⟨4, ![8, 1, 8, 1]⟩
abbrev S1x16x1x64 : Shape := ⟨4, ![1, 16, 1, 64]⟩
abbrev S8x16x8x64 : Shape := ⟨4, ![8, 16, 8, 64]⟩
abbrev S128x512 : Shape := ⟨2, ![128, 512]⟩
abbrev S1x8x1x8 : Shape := ⟨4, ![1, 8, 1, 8]⟩
abbrev S1x8x4x8 : Shape := ⟨4, ![1, 8, 4, 8]⟩
abbrev S8x32 : Shape := ⟨2, ![8, 32]⟩
abbrev S16x1x16x1 : Shape := ⟨4, ![16, 1, 16, 1]⟩
abbrev S1x8x1x32 : Shape := ⟨4, ![1, 8, 1, 32]⟩
abbrev S16x8x16x32 : Shape := ⟨4, ![16, 8, 16, 32]⟩
abbrev S2x1536x512 : Shape := ⟨3, ![2, 1536, 512]⟩
abbrev S1x1536x128 : Shape := ⟨3, ![1, 1536, 128]⟩
abbrev S1x1536x512 : Shape := ⟨3, ![1, 1536, 512]⟩
abbrev S1536x128 : Shape := ⟨2, ![1536, 128]⟩
abbrev S1535x128 : Shape := ⟨2, ![1535, 128]⟩
abbrev S1x128 : Shape := ⟨2, ![1, 128]⟩
abbrev S1536x127 : Shape := ⟨2, ![1536, 127]⟩
abbrev S1536x1 : Shape := ⟨2, ![1536, 1]⟩
abbrev S1536x126 : Shape := ⟨2, ![1536, 126]⟩
abbrev S1536x2 : Shape := ⟨2, ![1536, 2]⟩
abbrev S1152x128 : Shape := ⟨2, ![1152, 128]⟩
abbrev S384x128 : Shape := ⟨2, ![384, 128]⟩
abbrev S768x128 : Shape := ⟨2, ![768, 128]⟩
abbrev S767x128 : Shape := ⟨2, ![767, 128]⟩
abbrev S769x128 : Shape := ⟨2, ![769, 128]⟩
abbrev S1x128x512 : Shape := ⟨3, ![1, 128, 512]⟩
abbrev S1536x512 : Shape := ⟨2, ![1536, 512]⟩
abbrev S1536x16 : Shape := ⟨2, ![1536, 16]⟩
abbrev S2x6144x128 : Shape := ⟨3, ![2, 6144, 128]⟩
abbrev S2x6144x64 : Shape := ⟨3, ![2, 6144, 64]⟩
abbrev S1x6144x128 : Shape := ⟨3, ![1, 6144, 128]⟩
abbrev S1x6144x64 : Shape := ⟨3, ![1, 6144, 64]⟩
abbrev S6144x128 : Shape := ⟨2, ![6144, 128]⟩
abbrev S6143x128 : Shape := ⟨2, ![6143, 128]⟩
abbrev S6144x112 : Shape := ⟨2, ![6144, 112]⟩
abbrev S6144x16 : Shape := ⟨2, ![6144, 16]⟩
abbrev S6144x96 : Shape := ⟨2, ![6144, 96]⟩
abbrev S6144x32 : Shape := ⟨2, ![6144, 32]⟩
abbrev S4608x128 : Shape := ⟨2, ![4608, 128]⟩
abbrev S3072x128 : Shape := ⟨2, ![3072, 128]⟩
abbrev S3071x128 : Shape := ⟨2, ![3071, 128]⟩
abbrev S3073x128 : Shape := ⟨2, ![3073, 128]⟩
abbrev S1x128x128 : Shape := ⟨3, ![1, 128, 128]⟩
abbrev S1x6144x32 : Shape := ⟨3, ![1, 6144, 32]⟩
abbrev S2x3072x128 : Shape := ⟨3, ![2, 3072, 128]⟩
abbrev S2x3072x64 : Shape := ⟨3, ![2, 3072, 64]⟩
abbrev S1x3072x128 : Shape := ⟨3, ![1, 3072, 128]⟩
abbrev S1x3072x64 : Shape := ⟨3, ![1, 3072, 64]⟩
abbrev S3072x96 : Shape := ⟨2, ![3072, 96]⟩
abbrev S3072x32 : Shape := ⟨2, ![3072, 32]⟩
abbrev S3072x64 : Shape := ⟨2, ![3072, 64]⟩
abbrev S2304x128 : Shape := ⟨2, ![2304, 128]⟩
abbrev S1537x128 : Shape := ⟨2, ![1537, 128]⟩
abbrev S1x128x64 : Shape := ⟨3, ![1, 128, 64]⟩
abbrev S128x64 : Shape := ⟨2, ![128, 64]⟩
abbrev S1535x512 : Shape := ⟨2, ![1535, 512]⟩
abbrev S1x512 : Shape := ⟨2, ![1, 512]⟩
abbrev S1536x496 : Shape := ⟨2, ![1536, 496]⟩
abbrev S1536x480 : Shape := ⟨2, ![1536, 480]⟩
abbrev S1536x32 : Shape := ⟨2, ![1536, 32]⟩
abbrev S1152x512 : Shape := ⟨2, ![1152, 512]⟩
abbrev S384x512 : Shape := ⟨2, ![384, 512]⟩
abbrev S768x512 : Shape := ⟨2, ![768, 512]⟩
abbrev S767x512 : Shape := ⟨2, ![767, 512]⟩
abbrev S769x512 : Shape := ⟨2, ![769, 512]⟩
abbrev S1x512x512 : Shape := ⟨3, ![1, 512, 512]⟩
abbrev S512x512 : Shape := ⟨2, ![512, 512]⟩
abbrev S2x6144x8 : Shape := ⟨3, ![2, 6144, 8]⟩
abbrev S3072x512 : Shape := ⟨2, ![3072, 512]⟩
abbrev S3071x512 : Shape := ⟨2, ![3071, 512]⟩
abbrev S3072x504 : Shape := ⟨2, ![3072, 504]⟩
abbrev S3072x8 : Shape := ⟨2, ![3072, 8]⟩
abbrev S3072x496 : Shape := ⟨2, ![3072, 496]⟩
abbrev S3072x16 : Shape := ⟨2, ![3072, 16]⟩
abbrev S2304x512 : Shape := ⟨2, ![2304, 512]⟩
abbrev S1537x512 : Shape := ⟨2, ![1537, 512]⟩
abbrev S1x1x512x64 : Shape := ⟨4, ![1, 1, 512, 64]⟩
abbrev S512x64 : Shape := ⟨2, ![512, 64]⟩

abbrev nBuf : Space → Nat
  | .hbm => 185
  | .vmem => 29
  | .smem => 0
  | _ => 0

abbrev hbmTy0_0 (i : Nat) : BufTy := match i % 128 with
  | 0 => ⟨S2x196608x1, .f32⟩
  | 1 => ⟨S1572864, .i32⟩
  | 2 => ⟨S1572864, .i32⟩
  | 3 => ⟨S1572864, .f32⟩
  | 4 => ⟨S393216, .i32⟩
  | 5 => ⟨S393216, .i32⟩
  | 6 => ⟨S393216, .f32⟩
  | 7 => ⟨S98304, .i32⟩
  | 8 => ⟨S98304, .i32⟩
  | 9 => ⟨S98304, .f32⟩
  | 10 => ⟨S4x1x16, .f32⟩
  | 11 => ⟨S4x16x32, .f32⟩
  | 12 => ⟨S4x32x16, .f32⟩
  | 13 => ⟨S4x16x16, .f32⟩
  | 14 => ⟨S4x16x1, .f32⟩
  | 15 => ⟨S2x1536x128, .f32⟩
  | 16 => ⟨S128x128, .i32⟩
  | 17 => ⟨S128x128, .i32⟩
  | 18 => ⟨S_, .i32⟩
  | 19 => ⟨S128x128, .i32⟩
  | 20 => ⟨S128x128, .i32⟩
  | 21 => ⟨S128x128, .i1⟩
  | 22 => ⟨S128x128, .f32⟩
  | 23 => ⟨S1x128x1x128x1, .f32⟩
  | 24 => ⟨S4x1x1x1x16, .f32⟩
  | 25 => ⟨S4x128x1x128x16, .f32⟩
  | 26 => ⟨S4x128x1x128x16, .f32⟩
  | 27 => ⟨S4x128x1x128x16, .f32⟩
  | 28 => ⟨S4x128x2048, .f32⟩
  | 29 => ⟨S8x8, .i32⟩
  | 30 => ⟨S8x8, .i32⟩
  | 31 => ⟨S_, .i32⟩
  | 32 => ⟨S8x8, .i32⟩
  | 33 => ⟨S8x8, .i32⟩
  | 34 => ⟨S8x8, .i1⟩
  | 35 => ⟨S8x8, .f32⟩
  | 36 => ⟨S1x8x1x8x1, .f32⟩
  | 37 => ⟨S4x1x16x1x32, .f32⟩
  | 38 => ⟨S4x8x16x8x32, .f32⟩
  | 39 => ⟨S4x8x16x8x32, .f32⟩
  | 40 => ⟨S4x8x16x8x32, .f32⟩
  | 41 => ⟨S4x128x256, .f32⟩
  | 42 => ⟨S4x4, .i32⟩
  | 43 => ⟨S4x4, .i32⟩
  | 44 => ⟨S_, .i32⟩
  | 45 => ⟨S4x4, .i32⟩
  | 46 => ⟨S4x4, .i32⟩
  | 47 => ⟨S4x4, .i1⟩
  | 48 => ⟨S4x4, .f32⟩
  | 49 => ⟨S1x4x1x4x1, .f32⟩
  | 50 => ⟨S4x1x32x1x16, .f32⟩
  | 51 => ⟨S4x4x32x4x16, .f32⟩
  | 52 => ⟨S4x4x32x4x16, .f32⟩
  | 53 => ⟨S4x4x32x4x16, .f32⟩
  | 54 => ⟨S4x128x64, .f32⟩
  | 55 => ⟨S32x32, .i32⟩
  | 56 => ⟨S32x32, .i32⟩
  | 57 => ⟨S_, .i32⟩
  | 58 => ⟨S32x32, .i32⟩
  | 59 => ⟨S32x32, .i32⟩
  | 60 => ⟨S32x32, .i1⟩
  | 61 => ⟨S32x32, .f32⟩
  | 62 => ⟨S1x32x1x32x1, .f32⟩
  | 63 => ⟨S4x1x16x1x16, .f32⟩
  | 64 => ⟨S4x32x16x32x16, .f32⟩
  | 65 => ⟨S4x32x16x32x16, .f32⟩
  | 66 => ⟨S4x32x16x32x16, .f32⟩
  | 67 => ⟨S4x512x512, .f32⟩
  | 68 => ⟨S4x8x1, .f32⟩
  | 69 => ⟨S64x64, .i32⟩
  | 70 => ⟨S64x64, .i32⟩
  | 71 => ⟨S_, .i32⟩
  | 72 => ⟨S64x64, .i32⟩
  | 73 => ⟨S64x64, .i32⟩
  | 74 => ⟨S64x64, .i1⟩
  | 75 => ⟨S64x64, .f32⟩
  | 76 => ⟨S1x64x1x64x1, .f32⟩
  | 77 => ⟨S4x1x8x1x1, .f32⟩
  | 78 => ⟨S4x64x8x64x1, .f32⟩
  | 79 => ⟨S4x64x8x64x1, .f32⟩
  | 80 => ⟨S4x64x8x64x1, .f32⟩
  | 81 => ⟨S4x512x64, .f32⟩
  | 82 => ⟨S4x8x1, .f32⟩
  | 83 => ⟨S64x64, .i32⟩
  | 84 => ⟨S64x64, .i32⟩
  | 85 => ⟨S_, .i32⟩
  | 86 => ⟨S64x64, .i32⟩
  | 87 => ⟨S64x64, .i32⟩
  | 88 => ⟨S64x64, .i1⟩
  | 89 => ⟨S64x64, .f32⟩
  | 90 => ⟨S1x64x1x64x1, .f32⟩
  | 91 => ⟨S4x1x8x1x1, .f32⟩
  | 92 => ⟨S4x64x8x64x1, .f32⟩
  | 93 => ⟨S4x64x8x64x1, .f32⟩
  | 94 => ⟨S4x64x8x64x1, .f32⟩
  | 95 => ⟨S4x512x64, .f32⟩
  | 96 => ⟨S1x4x512x64, .f32⟩
  | 97 => ⟨S1x4x512x64, .f32⟩
  | 98 => ⟨S2x4x512x64, .f32⟩
  | 99 => ⟨S8x8, .i32⟩
  | 100 => ⟨S8x8, .i32⟩
  | 101 => ⟨S_, .i32⟩
  | 102 => ⟨S8x8, .i32⟩
  | 103 => ⟨S8x8, .i32⟩
  | 104 => ⟨S8x8, .i1⟩
  | 105 => ⟨S8x8, .f32⟩
  | 106 => ⟨S8x8, .i32⟩
  | 107 => ⟨S8x8, .i32⟩
  | 108 => ⟨S_, .i32⟩
  | 109 => ⟨S8x8, .i32⟩
  | 110 => ⟨S8x8, .i32⟩
  | 111 => ⟨S8x8, .i1⟩
  | 112 => ⟨S8x8, .f32⟩
  | 113 => ⟨S_, .f32⟩
  | 114 => ⟨S1x4, .f32⟩
  | 115 => ⟨S16x16, .i32⟩
  | 116 => ⟨S16x16, .i32⟩
  | 117 => ⟨S_, .i32⟩
  | 118 => ⟨S16x16, .i32⟩
  | 119 => ⟨S16x16, .i32⟩
  | 120 => ⟨S16x16, .i1⟩
  | 121 => ⟨S16x16, .f32⟩
  | 122 => ⟨S1x1x4x1, .f32⟩
  | 123 => ⟨S1x16x1x16, .f32⟩
  | 124 => ⟨S1x16x4x16, .f32⟩
  | 125 => ⟨S1x16x4x16, .f32⟩
  | 126 => ⟨S1x16x4x16, .f32⟩
  | 127 => ⟨S16x64, .f32⟩
  | _ => ⟨S2x196608x1, .f32⟩

abbrev hbmTy0_1 (i : Nat) : BufTy := match i % 128 with
  | 0 => ⟨S8x1x8x1, .f32⟩
  | 1 => ⟨S1x16x1x64, .f32⟩
  | 2 => ⟨S8x16x8x64, .f32⟩
  | 3 => ⟨S8x16x8x64, .f32⟩
  | 4 => ⟨S8x16x8x64, .f32⟩
  | 5 => ⟨S128x512, .f32⟩
  | 6 => ⟨S16x16, .i32⟩
  | 7 => ⟨S16x16, .i32⟩
  | 8 => ⟨S_, .i32⟩
  | 9 => ⟨S16x16, .i32⟩
  | 10 => ⟨S16x16, .i32⟩
  | 11 => ⟨S16x16, .i1⟩
  | 12 => ⟨S16x16, .f32⟩
  | 13 => ⟨S_, .f32⟩
  | 14 => ⟨S1x4, .f32⟩
  | 15 => ⟨S1x1x4x1, .f32⟩
  | 16 => ⟨S1x8x1x8, .f32⟩
  | 17 => ⟨S1x8x4x8, .f32⟩
  | 18 => ⟨S1x8x4x8, .f32⟩
  | 19 => ⟨S1x8x4x8, .f32⟩
  | 20 => ⟨S8x32, .f32⟩
  | 21 => ⟨S16x1x16x1, .f32⟩
  | 22 => ⟨S1x8x1x32, .f32⟩
  | 23 => ⟨S16x8x16x32, .f32⟩
  | 24 => ⟨S16x8x16x32, .f32⟩
  | 25 => ⟨S16x8x16x32, .f32⟩
  | 26 => ⟨S128x512, .f32⟩
  | 27 => ⟨S2x1536x512, .f32⟩
  | 28 => ⟨S2x6144x128, .f32⟩
  | 29 => ⟨S2x6144x64, .f32⟩
  | 30 => ⟨S2x3072x128, .f32⟩
  | 31 => ⟨S2x3072x64, .f32⟩
  | 32 => ⟨S2x1536x128, .f32⟩
  | 33 => ⟨S2x1536x512, .f32⟩
  | 34 => ⟨S2x6144x128, .f32⟩
  | 35 => ⟨S2x6144x8, .f32⟩
  | 36 => ⟨S2x6144x8, .f32⟩
  | 37 => ⟨S2x6144x8, .f32⟩
  | 38 => ⟨S2x6144x8, .f32⟩
  | 39 => ⟨S2x6144x8, .f32⟩
  | 40 => ⟨S2x6144x8, .f32⟩
  | 41 => ⟨S2x6144x8, .f32⟩
  | 42 => ⟨S2x6144x8, .f32⟩
  | 43 => ⟨S2x6144x64, .f32⟩
  | 44 => ⟨S2x3072x128, .f32⟩
  | 45 => ⟨S2x6144x8, .f32⟩
  | 46 => ⟨S2x6144x8, .f32⟩
  | 47 => ⟨S2x6144x8, .f32⟩
  | 48 => ⟨S2x6144x8, .f32⟩
  | 49 => ⟨S2x6144x8, .f32⟩
  | 50 => ⟨S2x6144x8, .f32⟩
  | 51 => ⟨S2x6144x8, .f32⟩
  | 52 => ⟨S2x6144x8, .f32⟩
  | 53 => ⟨S2x6144x64, .f32⟩
  | 54 => ⟨S2x3072x128, .f32⟩
  | 55 => ⟨S2x3072x64, .f32⟩
  | 56 => ⟨S2x196608x1, .f32⟩
  | _ => ⟨S2x196608x1, .f32⟩

abbrev hbmTy (i : Nat) : BufTy := match i / 128 with
  | 0 => hbmTy0_0 i
  | 1 => hbmTy0_1 i
  | _ => ⟨S2x196608x1, .f32⟩

abbrev bufTy : (tb : Table) → Fin (tcTables nBuf tb) → BufTy
  | .hbm, ⟨i, _⟩ => hbmTy i
  | .local _ .vmem, ⟨0, _⟩ => ⟨S1x1536x128, .f32⟩
  | .local _ .vmem, ⟨1, _⟩ => ⟨S1x1536x128, .f32⟩
  | .local _ .vmem, ⟨2, _⟩ => ⟨S4x128x2048, .f32⟩
  | .local _ .vmem, ⟨3, _⟩ => ⟨S1x1536x512, .f32⟩
  | .local _ .vmem, ⟨4, _⟩ => ⟨S1x1536x512, .f32⟩
  | .local _ .vmem, ⟨5, _⟩ => ⟨S1x6144x128, .f32⟩
  | .local _ .vmem, ⟨6, _⟩ => ⟨S1x6144x128, .f32⟩
  | .local _ .vmem, ⟨7, _⟩ => ⟨S4x128x256, .f32⟩
  | .local _ .vmem, ⟨8, _⟩ => ⟨S1x6144x64, .f32⟩
  | .local _ .vmem, ⟨9, _⟩ => ⟨S1x6144x64, .f32⟩
  | .local _ .vmem, ⟨10, _⟩ => ⟨S1x3072x128, .f32⟩
  | .local _ .vmem, ⟨11, _⟩ => ⟨S1x3072x128, .f32⟩
  | .local _ .vmem, ⟨12, _⟩ => ⟨S4x128x64, .f32⟩
  | .local _ .vmem, ⟨13, _⟩ => ⟨S1x3072x64, .f32⟩
  | .local _ .vmem, ⟨14, _⟩ => ⟨S1x3072x64, .f32⟩
  | .local _ .vmem, ⟨15, _⟩ => ⟨S1x1536x128, .f32⟩
  | .local _ .vmem, ⟨16, _⟩ => ⟨S1x1536x128, .f32⟩
  | .local _ .vmem, ⟨17, _⟩ => ⟨S128x512, .f32⟩
  | .local _ .vmem, ⟨18, _⟩ => ⟨S4x512x512, .f32⟩
  | .local _ .vmem, ⟨19, _⟩ => ⟨S1x1536x512, .f32⟩
  | .local _ .vmem, ⟨20, _⟩ => ⟨S1x1536x512, .f32⟩
  | .local _ .vmem, ⟨21, _⟩ => ⟨S1x3072x128, .f32⟩
  | .local _ .vmem, ⟨22, _⟩ => ⟨S1x3072x128, .f32⟩
  | .local _ .vmem, ⟨23, _⟩ => ⟨S1x3072x128, .f32⟩
  | .local _ .vmem, ⟨24, _⟩ => ⟨S1x3072x128, .f32⟩
  | .local _ .vmem, ⟨25, _⟩ => ⟨S128x512, .f32⟩
  | .local _ .vmem, ⟨26, _⟩ => ⟨S2x4x512x64, .f32⟩
  | .local _ .vmem, ⟨27, _⟩ => ⟨S1x3072x64, .f32⟩
  | .local _ .vmem, ⟨28, _⟩ => ⟨S1x3072x64, .f32⟩
  | _, _ => ⟨S2x196608x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_c : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_1 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_2 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_c_3 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_c_4 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_c_5 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_c_6 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_cst : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_c_7 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_call0_v0 : Ref sig .tc := ⟨.hbm, 122, rfl⟩
abbrev main_call0_v1 : Ref sig .tc := ⟨.hbm, 123, rfl⟩
abbrev main_call0_v2 : Ref sig .tc := ⟨.hbm, 124, rfl⟩
abbrev main_call0_v3 : Ref sig .tc := ⟨.hbm, 125, rfl⟩
abbrev main_call0_v4 : Ref sig .tc := ⟨.hbm, 126, rfl⟩
abbrev main_v97 : Ref sig .tc := ⟨.hbm, 127, rfl⟩
abbrev main_call1_v0 : Ref sig .tc := ⟨.hbm, 128, rfl⟩
abbrev main_call1_v1 : Ref sig .tc := ⟨.hbm, 129, rfl⟩
abbrev main_call1_v2 : Ref sig .tc := ⟨.hbm, 130, rfl⟩
abbrev main_call1_v3 : Ref sig .tc := ⟨.hbm, 131, rfl⟩
abbrev main_call1_v4 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_c_8 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_cst_9 : Ref sig .tc := ⟨.hbm, 141, rfl⟩
abbrev main_v105 : Ref sig .tc := ⟨.hbm, 142, rfl⟩
abbrev main_call2_v0 : Ref sig .tc := ⟨.hbm, 143, rfl⟩
abbrev main_call2_v1 : Ref sig .tc := ⟨.hbm, 144, rfl⟩
abbrev main_call2_v2 : Ref sig .tc := ⟨.hbm, 145, rfl⟩
abbrev main_call2_v3 : Ref sig .tc := ⟨.hbm, 146, rfl⟩
abbrev main_call2_v4 : Ref sig .tc := ⟨.hbm, 147, rfl⟩
abbrev main_v106 : Ref sig .tc := ⟨.hbm, 148, rfl⟩
abbrev main_call3_v0 : Ref sig .tc := ⟨.hbm, 149, rfl⟩
abbrev main_call3_v1 : Ref sig .tc := ⟨.hbm, 150, rfl⟩
abbrev main_call3_v2 : Ref sig .tc := ⟨.hbm, 151, rfl⟩
abbrev main_call3_v3 : Ref sig .tc := ⟨.hbm, 152, rfl⟩
abbrev main_call3_v4 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg3_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg4_0 : Ref sig .tc := ⟨.vmem, 27, rfl⟩
abbrev cc4_stg4_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem3_0 : DmaSem sig := 19
abbrev cc3_sem3_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem3_0 : DmaSem sig := 26
abbrev cc4_sem4_0 : DmaSem sig := 27
abbrev cc4_sem4_1 : DmaSem sig := 28

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1536x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1536x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x6144x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x6144x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![2], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x3072x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4x128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1x3072x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![2], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x1536x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S4x512x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1x1536x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![2], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc4_transform_4 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x3072x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x3072x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S2x4x512x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S1x3072x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]
-- ==== ReferenceIdeal.lean ====
abbrev S2x196608x1 : Shape := ⟨3, ![2, 196608, 1]⟩
abbrev S1572864 : Shape := ⟨1, ![1572864]⟩
abbrev S393216 : Shape := ⟨1, ![393216]⟩
abbrev S98304 : Shape := ⟨1, ![98304]⟩
abbrev S4x1x16 : Shape := ⟨3, ![4, 1, 16]⟩
abbrev S4x16x32 : Shape := ⟨3, ![4, 16, 32]⟩
abbrev S4x32x16 : Shape := ⟨3, ![4, 32, 16]⟩
abbrev S4x16x16 : Shape := ⟨3, ![4, 16, 16]⟩
abbrev S4x16x1 : Shape := ⟨3, ![4, 16, 1]⟩
abbrev S1x1x16 : Shape := ⟨3, ![1, 1, 16]⟩
abbrev S1x16 : Shape := ⟨2, ![1, 16]⟩
abbrev S2x196608x16 : Shape := ⟨3, ![2, 196608, 16]⟩
abbrev S_ : Shape := ⟨0, ![]⟩
abbrev S1572864x1 : Shape := ⟨2, ![1572864, 1]⟩
abbrev S1 : Shape := ⟨1, ![1]⟩
abbrev S1x1 : Shape := ⟨2, ![1, 1]⟩
abbrev S2x1572864x1 : Shape := ⟨3, ![2, 1572864, 1]⟩
abbrev S1x1572864x1 : Shape := ⟨3, ![1, 1572864, 1]⟩
abbrev S1572864x2x1 : Shape := ⟨3, ![1572864, 2, 1]⟩
abbrev S196608x2x1 : Shape := ⟨3, ![196608, 2, 1]⟩
abbrev S2x49152x4x16 : Shape := ⟨4, ![2, 49152, 4, 16]⟩
abbrev S2x49152x16 : Shape := ⟨3, ![2, 49152, 16]⟩
abbrev S1x16x32 : Shape := ⟨3, ![1, 16, 32]⟩
abbrev S16x32 : Shape := ⟨2, ![16, 32]⟩
abbrev S2x49152x32 : Shape := ⟨3, ![2, 49152, 32]⟩
abbrev S393216x1 : Shape := ⟨2, ![393216, 1]⟩
abbrev S2x393216x16 : Shape := ⟨3, ![2, 393216, 16]⟩
abbrev S1x393216x1 : Shape := ⟨3, ![1, 393216, 1]⟩
abbrev S393216x2x16 : Shape := ⟨3, ![393216, 2, 16]⟩
abbrev S49152x2x16 : Shape := ⟨3, ![49152, 2, 16]⟩
abbrev S2x12288x4x32 : Shape := ⟨4, ![2, 12288, 4, 32]⟩
abbrev S2x12288x32 : Shape := ⟨3, ![2, 12288, 32]⟩
abbrev S1x32x16 : Shape := ⟨3, ![1, 32, 16]⟩
abbrev S32x16 : Shape := ⟨2, ![32, 16]⟩
abbrev S2x12288x16 : Shape := ⟨3, ![2, 12288, 16]⟩
abbrev S98304x1 : Shape := ⟨2, ![98304, 1]⟩
abbrev S2x98304x32 : Shape := ⟨3, ![2, 98304, 32]⟩
abbrev S1x98304x1 : Shape := ⟨3, ![1, 98304, 1]⟩
abbrev S98304x2x32 : Shape := ⟨3, ![98304, 2, 32]⟩
abbrev S12288x2x32 : Shape := ⟨3, ![12288, 2, 32]⟩
abbrev S2x12288x4x16 : Shape := ⟨4, ![2, 12288, 4, 16]⟩
abbrev S1x16x16 : Shape := ⟨3, ![1, 16, 16]⟩
abbrev S16x16 : Shape := ⟨2, ![16, 16]⟩
abbrev S1x16x1 : Shape := ⟨3, ![1, 16, 1]⟩
abbrev S16x1 : Shape := ⟨2, ![16, 1]⟩
abbrev S2x1572864x16 : Shape := ⟨3, ![2, 1572864, 16]⟩
abbrev S1572864x2x16 : Shape := ⟨3, ![1572864, 2, 16]⟩
abbrev S196608x2x16 : Shape := ⟨3, ![196608, 2, 16]⟩

abbrev nBuf : Space → Nat
  | .hbm => 643
  | .vmem => 0
  | .smem => 0
  | _ => 0

abbrev hbmTy0_0 (i : Nat) : BufTy := match i % 128 with
  | 0 => ⟨S2x196608x1, .f32⟩
  | 1 => ⟨S1572864, .i32⟩
  | 2 => ⟨S1572864, .i32⟩
  | 3 => ⟨S1572864, .f32⟩
  | 4 => ⟨S393216, .i32⟩
  | 5 => ⟨S393216, .i32⟩
  | 6 => ⟨S393216, .f32⟩
  | 7 => ⟨S98304, .i32⟩
  | 8 => ⟨S98304, .i32⟩
  | 9 => ⟨S98304, .f32⟩
  | 10 => ⟨S4x1x16, .f32⟩
  | 11 => ⟨S4x16x32, .f32⟩
  | 12 => ⟨S4x32x16, .f32⟩
  | 13 => ⟨S4x16x16, .f32⟩
  | 14 => ⟨S4x16x1, .f32⟩
  | 15 => ⟨S1x1x16, .f32⟩
  | 16 => ⟨S1x16, .f32⟩
  | 17 => ⟨S2x196608x16, .f32⟩
  | 18 => ⟨S_, .i32⟩
  | 19 => ⟨S1572864, .i32⟩
  | 20 => ⟨S1572864, .i1⟩
  | 21 => ⟨S_, .i32⟩
  | 22 => ⟨S1572864, .i32⟩
  | 23 => ⟨S1572864, .i32⟩
  | 24 => ⟨S1572864, .i32⟩
  | 25 => ⟨S1572864x1, .i32⟩
  | 26 => ⟨S1, .i32⟩
  | 27 => ⟨S_, .i32⟩
  | 28 => ⟨S1572864x1, .i32⟩
  | 29 => ⟨S1572864x1, .i1⟩
  | 30 => ⟨S1x1, .i32⟩
  | 31 => ⟨S1572864x1, .i32⟩
  | 32 => ⟨S1572864x1, .i1⟩
  | 33 => ⟨S1572864x1, .i1⟩
  | 34 => ⟨S_, .i1⟩
  | 35 => ⟨S1572864, .i1⟩
  | 36 => ⟨S2x1572864x1, .f32⟩
  | 37 => ⟨S2x1572864x1, .i1⟩
  | 38 => ⟨S_, .f32⟩
  | 39 => ⟨S2x1572864x1, .f32⟩
  | 40 => ⟨S2x1572864x1, .f32⟩
  | 41 => ⟨S1x1572864x1, .f32⟩
  | 42 => ⟨S2x1572864x1, .f32⟩
  | 43 => ⟨S2x1572864x1, .f32⟩
  | 44 => ⟨S1572864x2x1, .f32⟩
  | 45 => ⟨S_, .f32⟩
  | 46 => ⟨S196608x2x1, .f32⟩
  | 47 => ⟨S1572864x1, .i32⟩
  | 48 => ⟨S196608x2x1, .f32⟩
  | 49 => ⟨S2x196608x1, .f32⟩
  | 50 => ⟨S2x196608x1, .f32⟩
  | 51 => ⟨S1x1x16, .f32⟩
  | 52 => ⟨S1x16, .f32⟩
  | 53 => ⟨S2x196608x16, .f32⟩
  | 54 => ⟨S2x196608x16, .f32⟩
  | 55 => ⟨S_, .i32⟩
  | 56 => ⟨S1572864, .i32⟩
  | 57 => ⟨S1572864, .i1⟩
  | 58 => ⟨S_, .i32⟩
  | 59 => ⟨S1572864, .i32⟩
  | 60 => ⟨S1572864, .i32⟩
  | 61 => ⟨S1572864, .i32⟩
  | 62 => ⟨S1572864x1, .i32⟩
  | 63 => ⟨S1, .i32⟩
  | 64 => ⟨S_, .i32⟩
  | 65 => ⟨S1572864x1, .i32⟩
  | 66 => ⟨S1572864x1, .i1⟩
  | 67 => ⟨S1x1, .i32⟩
  | 68 => ⟨S1572864x1, .i32⟩
  | 69 => ⟨S1572864x1, .i1⟩
  | 70 => ⟨S1572864x1, .i1⟩
  | 71 => ⟨S_, .i1⟩
  | 72 => ⟨S1572864, .i1⟩
  | 73 => ⟨S2x1572864x1, .f32⟩
  | 74 => ⟨S2x1572864x1, .i1⟩
  | 75 => ⟨S_, .f32⟩
  | 76 => ⟨S2x1572864x1, .f32⟩
  | 77 => ⟨S2x1572864x1, .f32⟩
  | 78 => ⟨S1x1572864x1, .f32⟩
  | 79 => ⟨S2x1572864x1, .f32⟩
  | 80 => ⟨S2x1572864x1, .f32⟩
  | 81 => ⟨S1572864x2x1, .f32⟩
  | 82 => ⟨S_, .f32⟩
  | 83 => ⟨S196608x2x1, .f32⟩
  | 84 => ⟨S1572864x1, .i32⟩
  | 85 => ⟨S196608x2x1, .f32⟩
  | 86 => ⟨S2x196608x1, .f32⟩
  | 87 => ⟨S_, .f32⟩
  | 88 => ⟨S2x196608x1, .f32⟩
  | 89 => ⟨S2x196608x1, .f32⟩
  | 90 => ⟨S2x196608x1, .f32⟩
  | 91 => ⟨S1x1x16, .f32⟩
  | 92 => ⟨S1x16, .f32⟩
  | 93 => ⟨S2x196608x16, .f32⟩
  | 94 => ⟨S2x196608x16, .f32⟩
  | 95 => ⟨S_, .i32⟩
  | 96 => ⟨S1572864, .i32⟩
  | 97 => ⟨S1572864, .i1⟩
  | 98 => ⟨S_, .i32⟩
  | 99 => ⟨S1572864, .i32⟩
  | 100 => ⟨S1572864, .i32⟩
  | 101 => ⟨S1572864, .i32⟩
  | 102 => ⟨S1572864x1, .i32⟩
  | 103 => ⟨S1, .i32⟩
  | 104 => ⟨S_, .i32⟩
  | 105 => ⟨S1572864x1, .i32⟩
  | 106 => ⟨S1572864x1, .i1⟩
  | 107 => ⟨S1x1, .i32⟩
  | 108 => ⟨S1572864x1, .i32⟩
  | 109 => ⟨S1572864x1, .i1⟩
  | 110 => ⟨S1572864x1, .i1⟩
  | 111 => ⟨S_, .i1⟩
  | 112 => ⟨S1572864, .i1⟩
  | 113 => ⟨S2x1572864x1, .f32⟩
  | 114 => ⟨S2x1572864x1, .i1⟩
  | 115 => ⟨S_, .f32⟩
  | 116 => ⟨S2x1572864x1, .f32⟩
  | 117 => ⟨S2x1572864x1, .f32⟩
  | 118 => ⟨S1x1572864x1, .f32⟩
  | 119 => ⟨S2x1572864x1, .f32⟩
  | 120 => ⟨S2x1572864x1, .f32⟩
  | 121 => ⟨S1572864x2x1, .f32⟩
  | 122 => ⟨S_, .f32⟩
  | 123 => ⟨S196608x2x1, .f32⟩
  | 124 => ⟨S1572864x1, .i32⟩
  | 125 => ⟨S196608x2x1, .f32⟩
  | 126 => ⟨S2x196608x1, .f32⟩
  | 127 => ⟨S_, .f32⟩
  | _ => ⟨S2x196608x1, .f32⟩

abbrev hbmTy0_1 (i : Nat) : BufTy := match i % 128 with
  | 0 => ⟨S2x196608x1, .f32⟩
  | 1 => ⟨S2x196608x1, .f32⟩
  | 2 => ⟨S2x196608x1, .f32⟩
  | 3 => ⟨S1x1x16, .f32⟩
  | 4 => ⟨S1x16, .f32⟩
  | 5 => ⟨S2x196608x16, .f32⟩
  | 6 => ⟨S2x196608x16, .f32⟩
  | 7 => ⟨S_, .f32⟩
  | 8 => ⟨S2x196608x16, .f32⟩
  | 9 => ⟨S2x196608x16, .f32⟩
  | 10 => ⟨S2x49152x4x16, .f32⟩
  | 11 => ⟨S_, .f32⟩
  | 12 => ⟨S2x49152x16, .f32⟩
  | 13 => ⟨S_, .f32⟩
  | 14 => ⟨S2x49152x16, .f32⟩
  | 15 => ⟨S2x49152x16, .f32⟩
  | 16 => ⟨S1x16x32, .f32⟩
  | 17 => ⟨S16x32, .f32⟩
  | 18 => ⟨S2x49152x32, .f32⟩
  | 19 => ⟨S_, .i32⟩
  | 20 => ⟨S393216, .i32⟩
  | 21 => ⟨S393216, .i1⟩
  | 22 => ⟨S_, .i32⟩
  | 23 => ⟨S393216, .i32⟩
  | 24 => ⟨S393216, .i32⟩
  | 25 => ⟨S393216, .i32⟩
  | 26 => ⟨S393216x1, .i32⟩
  | 27 => ⟨S1, .i32⟩
  | 28 => ⟨S_, .i32⟩
  | 29 => ⟨S393216x1, .i32⟩
  | 30 => ⟨S393216x1, .i1⟩
  | 31 => ⟨S1x1, .i32⟩
  | 32 => ⟨S393216x1, .i32⟩
  | 33 => ⟨S393216x1, .i1⟩
  | 34 => ⟨S393216x1, .i1⟩
  | 35 => ⟨S_, .i1⟩
  | 36 => ⟨S393216, .i1⟩
  | 37 => ⟨S2x393216x16, .f32⟩
  | 38 => ⟨S2x393216x16, .i1⟩
  | 39 => ⟨S_, .f32⟩
  | 40 => ⟨S2x393216x16, .f32⟩
  | 41 => ⟨S2x393216x16, .f32⟩
  | 42 => ⟨S1x393216x1, .f32⟩
  | 43 => ⟨S2x393216x16, .f32⟩
  | 44 => ⟨S2x393216x16, .f32⟩
  | 45 => ⟨S393216x2x16, .f32⟩
  | 46 => ⟨S_, .f32⟩
  | 47 => ⟨S49152x2x16, .f32⟩
  | 48 => ⟨S393216x1, .i32⟩
  | 49 => ⟨S49152x2x16, .f32⟩
  | 50 => ⟨S2x49152x16, .f32⟩
  | 51 => ⟨S2x49152x16, .f32⟩
  | 52 => ⟨S1x16x32, .f32⟩
  | 53 => ⟨S16x32, .f32⟩
  | 54 => ⟨S2x49152x32, .f32⟩
  | 55 => ⟨S2x49152x32, .f32⟩
  | 56 => ⟨S_, .i32⟩
  | 57 => ⟨S393216, .i32⟩
  | 58 => ⟨S393216, .i1⟩
  | 59 => ⟨S_, .i32⟩
  | 60 => ⟨S393216, .i32⟩
  | 61 => ⟨S393216, .i32⟩
  | 62 => ⟨S393216, .i32⟩
  | 63 => ⟨S393216x1, .i32⟩
  | 64 => ⟨S1, .i32⟩
  | 65 => ⟨S_, .i32⟩
  | 66 => ⟨S393216x1, .i32⟩
  | 67 => ⟨S393216x1, .i1⟩
  | 68 => ⟨S1x1, .i32⟩
  | 69 => ⟨S393216x1, .i32⟩
  | 70 => ⟨S393216x1, .i1⟩
  | 71 => ⟨S393216x1, .i1⟩
  | 72 => ⟨S_, .i1⟩
  | 73 => ⟨S393216, .i1⟩
  | 74 => ⟨S2x393216x16, .f32⟩
  | 75 => ⟨S2x393216x16, .i1⟩
  | 76 => ⟨S_, .f32⟩
  | 77 => ⟨S2x393216x16, .f32⟩
  | 78 => ⟨S2x393216x16, .f32⟩
  | 79 => ⟨S1x393216x1, .f32⟩
  | 80 => ⟨S2x393216x16, .f32⟩
  | 81 => ⟨S2x393216x16, .f32⟩
  | 82 => ⟨S393216x2x16, .f32⟩
  | 83 => ⟨S_, .f32⟩
  | 84 => ⟨S49152x2x16, .f32⟩
  | 85 => ⟨S393216x1, .i32⟩
  | 86 => ⟨S49152x2x16, .f32⟩
  | 87 => ⟨S2x49152x16, .f32⟩
  | 88 => ⟨S_, .f32⟩
  | 89 => ⟨S2x49152x16, .f32⟩
  | 90 => ⟨S2x49152x16, .f32⟩
  | 91 => ⟨S2x49152x16, .f32⟩
  | 92 => ⟨S1x16x32, .f32⟩
  | 93 => ⟨S16x32, .f32⟩
  | 94 => ⟨S2x49152x32, .f32⟩
  | 95 => ⟨S2x49152x32, .f32⟩
  | 96 => ⟨S_, .i32⟩
  | 97 => ⟨S393216, .i32⟩
  | 98 => ⟨S393216, .i1⟩
  | 99 => ⟨S_, .i32⟩
  | 100 => ⟨S393216, .i32⟩
  | 101 => ⟨S393216, .i32⟩
  | 102 => ⟨S393216, .i32⟩
  | 103 => ⟨S393216x1, .i32⟩
  | 104 => ⟨S1, .i32⟩
  | 105 => ⟨S_, .i32⟩
  | 106 => ⟨S393216x1, .i32⟩
  | 107 => ⟨S393216x1, .i1⟩
  | 108 => ⟨S1x1, .i32⟩
  | 109 => ⟨S393216x1, .i32⟩
  | 110 => ⟨S393216x1, .i1⟩
  | 111 => ⟨S393216x1, .i1⟩
  | 112 => ⟨S_, .i1⟩
  | 113 => ⟨S393216, .i1⟩
  | 114 => ⟨S2x393216x16, .f32⟩
  | 115 => ⟨S2x393216x16, .i1⟩
  | 116 => ⟨S_, .f32⟩
  | 117 => ⟨S2x393216x16, .f32⟩
  | 118 => ⟨S2x393216x16, .f32⟩
  | 119 => ⟨S1x393216x1, .f32⟩
  | 120 => ⟨S2x393216x16, .f32⟩
  | 121 => ⟨S2x393216x16, .f32⟩
  | 122 => ⟨S393216x2x16, .f32⟩
  | 123 => ⟨S_, .f32⟩
  | 124 => ⟨S49152x2x16, .f32⟩
  | 125 => ⟨S393216x1, .i32⟩
  | 126 => ⟨S49152x2x16, .f32⟩
  | 127 => ⟨S2x49152x16, .f32⟩
  | _ => ⟨S2x196608x1, .f32⟩

abbrev hbmTy0_2 (i : Nat) : BufTy := match i % 128 with
  | 0 => ⟨S_, .f32⟩
  | 1 => ⟨S2x49152x16, .f32⟩
  | 2 => ⟨S2x49152x16, .f32⟩
  | 3 => ⟨S2x49152x16, .f32⟩
  | 4 => ⟨S1x16x32, .f32⟩
  | 5 => ⟨S16x32, .f32⟩
  | 6 => ⟨S2x49152x32, .f32⟩
  | 7 => ⟨S2x49152x32, .f32⟩
  | 8 => ⟨S_, .f32⟩
  | 9 => ⟨S2x49152x32, .f32⟩
  | 10 => ⟨S2x49152x32, .f32⟩
  | 11 => ⟨S2x12288x4x32, .f32⟩
  | 12 => ⟨S_, .f32⟩
  | 13 => ⟨S2x12288x32, .f32⟩
  | 14 => ⟨S_, .f32⟩
  | 15 => ⟨S2x12288x32, .f32⟩
  | 16 => ⟨S2x12288x32, .f32⟩
  | 17 => ⟨S1x32x16, .f32⟩
  | 18 => ⟨S32x16, .f32⟩
  | 19 => ⟨S2x12288x16, .f32⟩
  | 20 => ⟨S_, .i32⟩
  | 21 => ⟨S98304, .i32⟩
  | 22 => ⟨S98304, .i1⟩
  | 23 => ⟨S_, .i32⟩
  | 24 => ⟨S98304, .i32⟩
  | 25 => ⟨S98304, .i32⟩
  | 26 => ⟨S98304, .i32⟩
  | 27 => ⟨S98304x1, .i32⟩
  | 28 => ⟨S1, .i32⟩
  | 29 => ⟨S_, .i32⟩
  | 30 => ⟨S98304x1, .i32⟩
  | 31 => ⟨S98304x1, .i1⟩
  | 32 => ⟨S1x1, .i32⟩
  | 33 => ⟨S98304x1, .i32⟩
  | 34 => ⟨S98304x1, .i1⟩
  | 35 => ⟨S98304x1, .i1⟩
  | 36 => ⟨S_, .i1⟩
  | 37 => ⟨S98304, .i1⟩
  | 38 => ⟨S2x98304x32, .f32⟩
  | 39 => ⟨S2x98304x32, .i1⟩
  | 40 => ⟨S_, .f32⟩
  | 41 => ⟨S2x98304x32, .f32⟩
  | 42 => ⟨S2x98304x32, .f32⟩
  | 43 => ⟨S1x98304x1, .f32⟩
  | 44 => ⟨S2x98304x32, .f32⟩
  | 45 => ⟨S2x98304x32, .f32⟩
  | 46 => ⟨S98304x2x32, .f32⟩
  | 47 => ⟨S_, .f32⟩
  | 48 => ⟨S12288x2x32, .f32⟩
  | 49 => ⟨S98304x1, .i32⟩
  | 50 => ⟨S12288x2x32, .f32⟩
  | 51 => ⟨S2x12288x32, .f32⟩
  | 52 => ⟨S2x12288x32, .f32⟩
  | 53 => ⟨S1x32x16, .f32⟩
  | 54 => ⟨S32x16, .f32⟩
  | 55 => ⟨S2x12288x16, .f32⟩
  | 56 => ⟨S2x12288x16, .f32⟩
  | 57 => ⟨S_, .i32⟩
  | 58 => ⟨S98304, .i32⟩
  | 59 => ⟨S98304, .i1⟩
  | 60 => ⟨S_, .i32⟩
  | 61 => ⟨S98304, .i32⟩
  | 62 => ⟨S98304, .i32⟩
  | 63 => ⟨S98304, .i32⟩
  | 64 => ⟨S98304x1, .i32⟩
  | 65 => ⟨S1, .i32⟩
  | 66 => ⟨S_, .i32⟩
  | 67 => ⟨S98304x1, .i32⟩
  | 68 => ⟨S98304x1, .i1⟩
  | 69 => ⟨S1x1, .i32⟩
  | 70 => ⟨S98304x1, .i32⟩
  | 71 => ⟨S98304x1, .i1⟩
  | 72 => ⟨S98304x1, .i1⟩
  | 73 => ⟨S_, .i1⟩
  | 74 => ⟨S98304, .i1⟩
  | 75 => ⟨S2x98304x32, .f32⟩
  | 76 => ⟨S2x98304x32, .i1⟩
  | 77 => ⟨S_, .f32⟩
  | 78 => ⟨S2x98304x32, .f32⟩
  | 79 => ⟨S2x98304x32, .f32⟩
  | 80 => ⟨S1x98304x1, .f32⟩
  | 81 => ⟨S2x98304x32, .f32⟩
  | 82 => ⟨S2x98304x32, .f32⟩
  | 83 => ⟨S98304x2x32, .f32⟩
  | 84 => ⟨S_, .f32⟩
  | 85 => ⟨S12288x2x32, .f32⟩
  | 86 => ⟨S98304x1, .i32⟩
  | 87 => ⟨S12288x2x32, .f32⟩
  | 88 => ⟨S2x12288x32, .f32⟩
  | 89 => ⟨S_, .f32⟩
  | 90 => ⟨S2x12288x32, .f32⟩
  | 91 => ⟨S2x12288x32, .f32⟩
  | 92 => ⟨S2x12288x32, .f32⟩
  | 93 => ⟨S1x32x16, .f32⟩
  | 94 => ⟨S32x16, .f32⟩
  | 95 => ⟨S2x12288x16, .f32⟩
  | 96 => ⟨S2x12288x16, .f32⟩
  | 97 => ⟨S_, .i32⟩
  | 98 => ⟨S98304, .i32⟩
  | 99 => ⟨S98304, .i1⟩
  | 100 => ⟨S_, .i32⟩
  | 101 => ⟨S98304, .i32⟩
  | 102 => ⟨S98304, .i32⟩
  | 103 => ⟨S98304, .i32⟩
  | 104 => ⟨S98304x1, .i32⟩
  | 105 => ⟨S1, .i32⟩
  | 106 => ⟨S_, .i32⟩
  | 107 => ⟨S98304x1, .i32⟩
  | 108 => ⟨S98304x1, .i1⟩
  | 109 => ⟨S1x1, .i32⟩
  | 110 => ⟨S98304x1, .i32⟩
  | 111 => ⟨S98304x1, .i1⟩
  | 112 => ⟨S98304x1, .i1⟩
  | 113 => ⟨S_, .i1⟩
  | 114 => ⟨S98304, .i1⟩
  | 115 => ⟨S2x98304x32, .f32⟩
  | 116 => ⟨S2x98304x32, .i1⟩
  | 117 => ⟨S_, .f32⟩
  | 118 => ⟨S2x98304x32, .f32⟩
  | 119 => ⟨S2x98304x32, .f32⟩
  | 120 => ⟨S1x98304x1, .f32⟩
  | 121 => ⟨S2x98304x32, .f32⟩
  | 122 => ⟨S2x98304x32, .f32⟩
  | 123 => ⟨S98304x2x32, .f32⟩
  | 124 => ⟨S_, .f32⟩
  | 125 => ⟨S12288x2x32, .f32⟩
  | 126 => ⟨S98304x1, .i32⟩
  | 127 => ⟨S12288x2x32, .f32⟩
  | _ => ⟨S2x196608x1, .f32⟩

abbrev hbmTy0_3 (i : Nat) : BufTy := match i % 128 with
  | 0 => ⟨S2x12288x32, .f32⟩
  | 1 => ⟨S_, .f32⟩
  | 2 => ⟨S2x12288x32, .f32⟩
  | 3 => ⟨S2x12288x32, .f32⟩
  | 4 => ⟨S2x12288x32, .f32⟩
  | 5 => ⟨S1x32x16, .f32⟩
  | 6 => ⟨S32x16, .f32⟩
  | 7 => ⟨S2x12288x16, .f32⟩
  | 8 => ⟨S2x12288x16, .f32⟩
  | 9 => ⟨S_, .f32⟩
  | 10 => ⟨S2x12288x16, .f32⟩
  | 11 => ⟨S2x12288x16, .f32⟩
  | 12 => ⟨S2x12288x4x16, .f32⟩
  | 13 => ⟨S2x49152x16, .f32⟩
  | 14 => ⟨S1x16x16, .f32⟩
  | 15 => ⟨S16x16, .f32⟩
  | 16 => ⟨S2x49152x16, .f32⟩
  | 17 => ⟨S_, .i32⟩
  | 18 => ⟨S393216, .i32⟩
  | 19 => ⟨S393216, .i1⟩
  | 20 => ⟨S_, .i32⟩
  | 21 => ⟨S393216, .i32⟩
  | 22 => ⟨S393216, .i32⟩
  | 23 => ⟨S393216, .i32⟩
  | 24 => ⟨S393216x1, .i32⟩
  | 25 => ⟨S1, .i32⟩
  | 26 => ⟨S_, .i32⟩
  | 27 => ⟨S393216x1, .i32⟩
  | 28 => ⟨S393216x1, .i1⟩
  | 29 => ⟨S1x1, .i32⟩
  | 30 => ⟨S393216x1, .i32⟩
  | 31 => ⟨S393216x1, .i1⟩
  | 32 => ⟨S393216x1, .i1⟩
  | 33 => ⟨S_, .i1⟩
  | 34 => ⟨S393216, .i1⟩
  | 35 => ⟨S2x393216x16, .f32⟩
  | 36 => ⟨S2x393216x16, .i1⟩
  | 37 => ⟨S_, .f32⟩
  | 38 => ⟨S2x393216x16, .f32⟩
  | 39 => ⟨S2x393216x16, .f32⟩
  | 40 => ⟨S1x393216x1, .f32⟩
  | 41 => ⟨S2x393216x16, .f32⟩
  | 42 => ⟨S2x393216x16, .f32⟩
  | 43 => ⟨S393216x2x16, .f32⟩
  | 44 => ⟨S_, .f32⟩
  | 45 => ⟨S49152x2x16, .f32⟩
  | 46 => ⟨S393216x1, .i32⟩
  | 47 => ⟨S49152x2x16, .f32⟩
  | 48 => ⟨S2x49152x16, .f32⟩
  | 49 => ⟨S2x49152x16, .f32⟩
  | 50 => ⟨S1x16x16, .f32⟩
  | 51 => ⟨S16x16, .f32⟩
  | 52 => ⟨S2x49152x16, .f32⟩
  | 53 => ⟨S2x49152x16, .f32⟩
  | 54 => ⟨S_, .i32⟩
  | 55 => ⟨S393216, .i32⟩
  | 56 => ⟨S393216, .i1⟩
  | 57 => ⟨S_, .i32⟩
  | 58 => ⟨S393216, .i32⟩
  | 59 => ⟨S393216, .i32⟩
  | 60 => ⟨S393216, .i32⟩
  | 61 => ⟨S393216x1, .i32⟩
  | 62 => ⟨S1, .i32⟩
  | 63 => ⟨S_, .i32⟩
  | 64 => ⟨S393216x1, .i32⟩
  | 65 => ⟨S393216x1, .i1⟩
  | 66 => ⟨S1x1, .i32⟩
  | 67 => ⟨S393216x1, .i32⟩
  | 68 => ⟨S393216x1, .i1⟩
  | 69 => ⟨S393216x1, .i1⟩
  | 70 => ⟨S_, .i1⟩
  | 71 => ⟨S393216, .i1⟩
  | 72 => ⟨S2x393216x16, .f32⟩
  | 73 => ⟨S2x393216x16, .i1⟩
  | 74 => ⟨S_, .f32⟩
  | 75 => ⟨S2x393216x16, .f32⟩
  | 76 => ⟨S2x393216x16, .f32⟩
  | 77 => ⟨S1x393216x1, .f32⟩
  | 78 => ⟨S2x393216x16, .f32⟩
  | 79 => ⟨S2x393216x16, .f32⟩
  | 80 => ⟨S393216x2x16, .f32⟩
  | 81 => ⟨S_, .f32⟩
  | 82 => ⟨S49152x2x16, .f32⟩
  | 83 => ⟨S393216x1, .i32⟩
  | 84 => ⟨S49152x2x16, .f32⟩
  | 85 => ⟨S2x49152x16, .f32⟩
  | 86 => ⟨S_, .f32⟩
  | 87 => ⟨S2x49152x16, .f32⟩
  | 88 => ⟨S2x49152x16, .f32⟩
  | 89 => ⟨S2x49152x16, .f32⟩
  | 90 => ⟨S1x16x16, .f32⟩
  | 91 => ⟨S16x16, .f32⟩
  | 92 => ⟨S2x49152x16, .f32⟩
  | 93 => ⟨S2x49152x16, .f32⟩
  | 94 => ⟨S_, .i32⟩
  | 95 => ⟨S393216, .i32⟩
  | 96 => ⟨S393216, .i1⟩
  | 97 => ⟨S_, .i32⟩
  | 98 => ⟨S393216, .i32⟩
  | 99 => ⟨S393216, .i32⟩
  | 100 => ⟨S393216, .i32⟩
  | 101 => ⟨S393216x1, .i32⟩
  | 102 => ⟨S1, .i32⟩
  | 103 => ⟨S_, .i32⟩
  | 104 => ⟨S393216x1, .i32⟩
  | 105 => ⟨S393216x1, .i1⟩
  | 106 => ⟨S1x1, .i32⟩
  | 107 => ⟨S393216x1, .i32⟩
  | 108 => ⟨S393216x1, .i1⟩
  | 109 => ⟨S393216x1, .i1⟩
  | 110 => ⟨S_, .i1⟩
  | 111 => ⟨S393216, .i1⟩
  | 112 => ⟨S2x393216x16, .f32⟩
  | 113 => ⟨S2x393216x16, .i1⟩
  | 114 => ⟨S_, .f32⟩
  | 115 => ⟨S2x393216x16, .f32⟩
  | 116 => ⟨S2x393216x16, .f32⟩
  | 117 => ⟨S1x393216x1, .f32⟩
  | 118 => ⟨S2x393216x16, .f32⟩
  | 119 => ⟨S2x393216x16, .f32⟩
  | 120 => ⟨S393216x2x16, .f32⟩
  | 121 => ⟨S_, .f32⟩
  | 122 => ⟨S49152x2x16, .f32⟩
  | 123 => ⟨S393216x1, .i32⟩
  | 124 => ⟨S49152x2x16, .f32⟩
  | 125 => ⟨S2x49152x16, .f32⟩
  | 126 => ⟨S_, .f32⟩
  | 127 => ⟨S2x49152x16, .f32⟩
  | _ => ⟨S2x196608x1, .f32⟩

abbrev hbmTy0_4 (i : Nat) : BufTy := match i % 128 with
  | 0 => ⟨S2x49152x16, .f32⟩
  | 1 => ⟨S2x49152x16, .f32⟩
  | 2 => ⟨S1x16x16, .f32⟩
  | 3 => ⟨S16x16, .f32⟩
  | 4 => ⟨S2x49152x16, .f32⟩
  | 5 => ⟨S2x49152x16, .f32⟩
  | 6 => ⟨S_, .f32⟩
  | 7 => ⟨S2x49152x16, .f32⟩
  | 8 => ⟨S2x49152x16, .f32⟩
  | 9 => ⟨S2x49152x4x16, .f32⟩
  | 10 => ⟨S2x196608x16, .f32⟩
  | 11 => ⟨S1x16x1, .f32⟩
  | 12 => ⟨S16x1, .f32⟩
  | 13 => ⟨S2x196608x1, .f32⟩
  | 14 => ⟨S_, .i32⟩
  | 15 => ⟨S1572864, .i32⟩
  | 16 => ⟨S1572864, .i1⟩
  | 17 => ⟨S_, .i32⟩
  | 18 => ⟨S1572864, .i32⟩
  | 19 => ⟨S1572864, .i32⟩
  | 20 => ⟨S1572864, .i32⟩
  | 21 => ⟨S1572864x1, .i32⟩
  | 22 => ⟨S1, .i32⟩
  | 23 => ⟨S_, .i32⟩
  | 24 => ⟨S1572864x1, .i32⟩
  | 25 => ⟨S1572864x1, .i1⟩
  | 26 => ⟨S1x1, .i32⟩
  | 27 => ⟨S1572864x1, .i32⟩
  | 28 => ⟨S1572864x1, .i1⟩
  | 29 => ⟨S1572864x1, .i1⟩
  | 30 => ⟨S_, .i1⟩
  | 31 => ⟨S1572864, .i1⟩
  | 32 => ⟨S2x1572864x16, .f32⟩
  | 33 => ⟨S2x1572864x16, .i1⟩
  | 34 => ⟨S_, .f32⟩
  | 35 => ⟨S2x1572864x16, .f32⟩
  | 36 => ⟨S2x1572864x16, .f32⟩
  | 37 => ⟨S1x1572864x1, .f32⟩
  | 38 => ⟨S2x1572864x16, .f32⟩
  | 39 => ⟨S2x1572864x16, .f32⟩
  | 40 => ⟨S1572864x2x16, .f32⟩
  | 41 => ⟨S_, .f32⟩
  | 42 => ⟨S196608x2x16, .f32⟩
  | 43 => ⟨S1572864x1, .i32⟩
  | 44 => ⟨S196608x2x16, .f32⟩
  | 45 => ⟨S2x196608x16, .f32⟩
  | 46 => ⟨S2x196608x16, .f32⟩
  | 47 => ⟨S1x16x1, .f32⟩
  | 48 => ⟨S16x1, .f32⟩
  | 49 => ⟨S2x196608x1, .f32⟩
  | 50 => ⟨S2x196608x1, .f32⟩
  | 51 => ⟨S_, .i32⟩
  | 52 => ⟨S1572864, .i32⟩
  | 53 => ⟨S1572864, .i1⟩
  | 54 => ⟨S_, .i32⟩
  | 55 => ⟨S1572864, .i32⟩
  | 56 => ⟨S1572864, .i32⟩
  | 57 => ⟨S1572864, .i32⟩
  | 58 => ⟨S1572864x1, .i32⟩
  | 59 => ⟨S1, .i32⟩
  | 60 => ⟨S_, .i32⟩
  | 61 => ⟨S1572864x1, .i32⟩
  | 62 => ⟨S1572864x1, .i1⟩
  | 63 => ⟨S1x1, .i32⟩
  | 64 => ⟨S1572864x1, .i32⟩
  | 65 => ⟨S1572864x1, .i1⟩
  | 66 => ⟨S1572864x1, .i1⟩
  | 67 => ⟨S_, .i1⟩
  | 68 => ⟨S1572864, .i1⟩
  | 69 => ⟨S2x1572864x16, .f32⟩
  | 70 => ⟨S2x1572864x16, .i1⟩
  | 71 => ⟨S_, .f32⟩
  | 72 => ⟨S2x1572864x16, .f32⟩
  | 73 => ⟨S2x1572864x16, .f32⟩
  | 74 => ⟨S1x1572864x1, .f32⟩
  | 75 => ⟨S2x1572864x16, .f32⟩
  | 76 => ⟨S2x1572864x16, .f32⟩
  | 77 => ⟨S1572864x2x16, .f32⟩
  | 78 => ⟨S_, .f32⟩
  | 79 => ⟨S196608x2x16, .f32⟩
  | 80 => ⟨S1572864x1, .i32⟩
  | 81 => ⟨S196608x2x16, .f32⟩
  | 82 => ⟨S2x196608x16, .f32⟩
  | 83 => ⟨S_, .f32⟩
  | 84 => ⟨S2x196608x16, .f32⟩
  | 85 => ⟨S2x196608x16, .f32⟩
  | 86 => ⟨S2x196608x16, .f32⟩
  | 87 => ⟨S1x16x1, .f32⟩
  | 88 => ⟨S16x1, .f32⟩
  | 89 => ⟨S2x196608x1, .f32⟩
  | 90 => ⟨S2x196608x1, .f32⟩
  | 91 => ⟨S_, .i32⟩
  | 92 => ⟨S1572864, .i32⟩
  | 93 => ⟨S1572864, .i1⟩
  | 94 => ⟨S_, .i32⟩
  | 95 => ⟨S1572864, .i32⟩
  | 96 => ⟨S1572864, .i32⟩
  | 97 => ⟨S1572864, .i32⟩
  | 98 => ⟨S1572864x1, .i32⟩
  | 99 => ⟨S1, .i32⟩
  | 100 => ⟨S_, .i32⟩
  | 101 => ⟨S1572864x1, .i32⟩
  | 102 => ⟨S1572864x1, .i1⟩
  | 103 => ⟨S1x1, .i32⟩
  | 104 => ⟨S1572864x1, .i32⟩
  | 105 => ⟨S1572864x1, .i1⟩
  | 106 => ⟨S1572864x1, .i1⟩
  | 107 => ⟨S_, .i1⟩
  | 108 => ⟨S1572864, .i1⟩
  | 109 => ⟨S2x1572864x16, .f32⟩
  | 110 => ⟨S2x1572864x16, .i1⟩
  | 111 => ⟨S_, .f32⟩
  | 112 => ⟨S2x1572864x16, .f32⟩
  | 113 => ⟨S2x1572864x16, .f32⟩
  | 114 => ⟨S1x1572864x1, .f32⟩
  | 115 => ⟨S2x1572864x16, .f32⟩
  | 116 => ⟨S2x1572864x16, .f32⟩
  | 117 => ⟨S1572864x2x16, .f32⟩
  | 118 => ⟨S_, .f32⟩
  | 119 => ⟨S196608x2x16, .f32⟩
  | 120 => ⟨S1572864x1, .i32⟩
  | 121 => ⟨S196608x2x16, .f32⟩
  | 122 => ⟨S2x196608x16, .f32⟩
  | 123 => ⟨S_, .f32⟩
  | 124 => ⟨S2x196608x16, .f32⟩
  | 125 => ⟨S2x196608x16, .f32⟩
  | 126 => ⟨S2x196608x16, .f32⟩
  | 127 => ⟨S1x16x1, .f32⟩
  | _ => ⟨S2x196608x1, .f32⟩

abbrev hbmTy0_5 (i : Nat) : BufTy := match i % 128 with
  | 0 => ⟨S16x1, .f32⟩
  | 1 => ⟨S2x196608x1, .f32⟩
  | 2 => ⟨S2x196608x1, .f32⟩
  | _ => ⟨S2x196608x1, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S2x196608x1, .f32⟩

abbrev bufTy : (tb : Table) → Fin (tcTables nBuf tb) → BufTy
  | .hbm, ⟨i, _⟩ => hbmTy i
  | _, _ => ⟨S2x196608x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v3 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_cst : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_call1_c : Ref sig .tc := ⟨.hbm, 55, rfl⟩
abbrev main_call1_v0 : Ref sig .tc := ⟨.hbm, 56, rfl⟩
abbrev main_call1_v1 : Ref sig .tc := ⟨.hbm, 57, rfl⟩
abbrev main_call1_c_0 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_c_1 : Ref sig .tc := ⟨.hbm, 63, rfl⟩
abbrev main_call1_c_2 : Ref sig .tc := ⟨.hbm, 64, rfl⟩
abbrev main_call1_v6 : Ref sig .tc := ⟨.hbm, 65, rfl⟩
abbrev main_call1_v7 : Ref sig .tc := ⟨.hbm, 66, rfl⟩
abbrev main_call1_v8 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_c_3 : Ref sig .tc := ⟨.hbm, 71, rfl⟩
abbrev main_call1_v12 : Ref sig .tc := ⟨.hbm, 72, rfl⟩
abbrev main_call1_v13 : Ref sig .tc := ⟨.hbm, 73, rfl⟩
abbrev main_call1_v14 : Ref sig .tc := ⟨.hbm, 74, rfl⟩
abbrev main_call1_cst : Ref sig .tc := ⟨.hbm, 75, rfl⟩
abbrev main_call1_v15 : Ref sig .tc := ⟨.hbm, 76, rfl⟩
abbrev main_v17 : Ref sig .tc := ⟨.hbm, 77, rfl⟩
abbrev main_v18 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_cst_0 : Ref sig .tc := ⟨.hbm, 82, rfl⟩
abbrev main_v22 : Ref sig .tc := ⟨.hbm, 83, rfl⟩
abbrev main_v23 : Ref sig .tc := ⟨.hbm, 84, rfl⟩
abbrev main_v24 : Ref sig .tc := ⟨.hbm, 85, rfl⟩
abbrev main_v25 : Ref sig .tc := ⟨.hbm, 86, rfl⟩
abbrev main_cst_1 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_v32 : Ref sig .tc := ⟨.hbm, 94, rfl⟩
abbrev main_call2_c : Ref sig .tc := ⟨.hbm, 95, rfl⟩
abbrev main_call2_v0 : Ref sig .tc := ⟨.hbm, 96, rfl⟩
abbrev main_call2_v1 : Ref sig .tc := ⟨.hbm, 97, rfl⟩
abbrev main_call2_c_0 : Ref sig .tc := ⟨.hbm, 98, rfl⟩
abbrev main_call2_v2 : Ref sig .tc := ⟨.hbm, 99, rfl⟩
abbrev main_call2_v3 : Ref sig .tc := ⟨.hbm, 100, rfl⟩
abbrev main_call2_v4 : Ref sig .tc := ⟨.hbm, 101, rfl⟩
abbrev main_call2_v5 : Ref sig .tc := ⟨.hbm, 102, rfl⟩
abbrev main_call2_c_1 : Ref sig .tc := ⟨.hbm, 103, rfl⟩
abbrev main_call2_c_2 : Ref sig .tc := ⟨.hbm, 104, rfl⟩
abbrev main_call2_v6 : Ref sig .tc := ⟨.hbm, 105, rfl⟩
abbrev main_call2_v7 : Ref sig .tc := ⟨.hbm, 106, rfl⟩
abbrev main_call2_v8 : Ref sig .tc := ⟨.hbm, 107, rfl⟩
abbrev main_call2_v9 : Ref sig .tc := ⟨.hbm, 108, rfl⟩
abbrev main_call2_v10 : Ref sig .tc := ⟨.hbm, 109, rfl⟩
abbrev main_call2_v11 : Ref sig .tc := ⟨.hbm, 110, rfl⟩
abbrev main_call2_c_3 : Ref sig .tc := ⟨.hbm, 111, rfl⟩
abbrev main_call2_v12 : Ref sig .tc := ⟨.hbm, 112, rfl⟩
abbrev main_call2_v13 : Ref sig .tc := ⟨.hbm, 113, rfl⟩
abbrev main_call2_v14 : Ref sig .tc := ⟨.hbm, 114, rfl⟩
abbrev main_call2_cst : Ref sig .tc := ⟨.hbm, 115, rfl⟩
abbrev main_call2_v15 : Ref sig .tc := ⟨.hbm, 116, rfl⟩
abbrev main_v33 : Ref sig .tc := ⟨.hbm, 117, rfl⟩
abbrev main_v34 : Ref sig .tc := ⟨.hbm, 118, rfl⟩
abbrev main_v35 : Ref sig .tc := ⟨.hbm, 119, rfl⟩
abbrev main_v36 : Ref sig .tc := ⟨.hbm, 120, rfl⟩
abbrev main_v37 : Ref sig .tc := ⟨.hbm, 121, rfl⟩
abbrev main_cst_2 : Ref sig .tc := ⟨.hbm, 122, rfl⟩
abbrev main_v38 : Ref sig .tc := ⟨.hbm, 123, rfl⟩
abbrev main_v39 : Ref sig .tc := ⟨.hbm, 124, rfl⟩
abbrev main_v40 : Ref sig .tc := ⟨.hbm, 125, rfl⟩
abbrev main_v41 : Ref sig .tc := ⟨.hbm, 126, rfl⟩
abbrev main_cst_3 : Ref sig .tc := ⟨.hbm, 127, rfl⟩
abbrev main_v42 : Ref sig .tc := ⟨.hbm, 128, rfl⟩
abbrev main_v43 : Ref sig .tc := ⟨.hbm, 129, rfl⟩
abbrev main_v44 : Ref sig .tc := ⟨.hbm, 130, rfl⟩
abbrev main_v45 : Ref sig .tc := ⟨.hbm, 131, rfl⟩
abbrev main_v46 : Ref sig .tc := ⟨.hbm, 132, rfl⟩
abbrev main_v47 : Ref sig .tc := ⟨.hbm, 133, rfl⟩
abbrev main_v48 : Ref sig .tc := ⟨.hbm, 134, rfl⟩
abbrev main_call3_cst : Ref sig .tc := ⟨.hbm, 135, rfl⟩
abbrev main_call3_v0 : Ref sig .tc := ⟨.hbm, 136, rfl⟩
abbrev main_v49 : Ref sig .tc := ⟨.hbm, 137, rfl⟩
abbrev main_v50 : Ref sig .tc := ⟨.hbm, 138, rfl⟩
abbrev main_cst_4 : Ref sig .tc := ⟨.hbm, 139, rfl⟩
abbrev main_v51 : Ref sig .tc := ⟨.hbm, 140, rfl⟩
abbrev main_cst_5 : Ref sig .tc := ⟨.hbm, 141, rfl⟩
abbrev main_v52 : Ref sig .tc := ⟨.hbm, 142, rfl⟩
abbrev main_v53 : Ref sig .tc := ⟨.hbm, 143, rfl⟩
abbrev main_v54 : Ref sig .tc := ⟨.hbm, 144, rfl⟩
abbrev main_v55 : Ref sig .tc := ⟨.hbm, 145, rfl⟩
abbrev main_v56 : Ref sig .tc := ⟨.hbm, 146, rfl⟩
abbrev main_call4_c : Ref sig .tc := ⟨.hbm, 147, rfl⟩
abbrev main_call4_v0 : Ref sig .tc := ⟨.hbm, 148, rfl⟩
abbrev main_call4_v1 : Ref sig .tc := ⟨.hbm, 149, rfl⟩
abbrev main_call4_c_0 : Ref sig .tc := ⟨.hbm, 150, rfl⟩
abbrev main_call4_v2 : Ref sig .tc := ⟨.hbm, 151, rfl⟩
abbrev main_call4_v3 : Ref sig .tc := ⟨.hbm, 152, rfl⟩
abbrev main_call4_v4 : Ref sig .tc := ⟨.hbm, 153, rfl⟩
abbrev main_call4_v5 : Ref sig .tc := ⟨.hbm, 154, rfl⟩
abbrev main_call4_c_1 : Ref sig .tc := ⟨.hbm, 155, rfl⟩
abbrev main_call4_c_2 : Ref sig .tc := ⟨.hbm, 156, rfl⟩
abbrev main_call4_v6 : Ref sig .tc := ⟨.hbm, 157, rfl⟩
abbrev main_call4_v7 : Ref sig .tc := ⟨.hbm, 158, rfl⟩
abbrev main_call4_v8 : Ref sig .tc := ⟨.hbm, 159, rfl⟩
abbrev main_call4_v9 : Ref sig .tc := ⟨.hbm, 160, rfl⟩
abbrev main_call4_v10 : Ref sig .tc := ⟨.hbm, 161, rfl⟩
abbrev main_call4_v11 : Ref sig .tc := ⟨.hbm, 162, rfl⟩
abbrev main_call4_c_3 : Ref sig .tc := ⟨.hbm, 163, rfl⟩
abbrev main_call4_v12 : Ref sig .tc := ⟨.hbm, 164, rfl⟩
abbrev main_call4_v13 : Ref sig .tc := ⟨.hbm, 165, rfl⟩
abbrev main_call4_v14 : Ref sig .tc := ⟨.hbm, 166, rfl⟩
abbrev main_call4_cst : Ref sig .tc := ⟨.hbm, 167, rfl⟩
abbrev main_call4_v15 : Ref sig .tc := ⟨.hbm, 168, rfl⟩
abbrev main_v57 : Ref sig .tc := ⟨.hbm, 169, rfl⟩
abbrev main_v58 : Ref sig .tc := ⟨.hbm, 170, rfl⟩
abbrev main_v59 : Ref sig .tc := ⟨.hbm, 171, rfl⟩
abbrev main_v60 : Ref sig .tc := ⟨.hbm, 172, rfl⟩
abbrev main_v61 : Ref sig .tc := ⟨.hbm, 173, rfl⟩
abbrev main_cst_6 : Ref sig .tc := ⟨.hbm, 174, rfl⟩
abbrev main_v62 : Ref sig .tc := ⟨.hbm, 175, rfl⟩
abbrev main_v63 : Ref sig .tc := ⟨.hbm, 176, rfl⟩
abbrev main_v64 : Ref sig .tc := ⟨.hbm, 177, rfl⟩
abbrev main_v65 : Ref sig .tc := ⟨.hbm, 178, rfl⟩
abbrev main_v66 : Ref sig .tc := ⟨.hbm, 179, rfl⟩
abbrev main_v67 : Ref sig .tc := ⟨.hbm, 180, rfl⟩
abbrev main_v68 : Ref sig .tc := ⟨.hbm, 181, rfl⟩
abbrev main_v69 : Ref sig .tc := ⟨.hbm, 182, rfl⟩
abbrev main_v70 : Ref sig .tc := ⟨.hbm, 183, rfl⟩
abbrev main_call5_c : Ref sig .tc := ⟨.hbm, 184, rfl⟩
abbrev main_call5_v0 : Ref sig .tc := ⟨.hbm, 185, rfl⟩
abbrev main_call5_v1 : Ref sig .tc := ⟨.hbm, 186, rfl⟩
abbrev main_call5_c_0 : Ref sig .tc := ⟨.hbm, 187, rfl⟩
abbrev main_call5_v2 : Ref sig .tc := ⟨.hbm, 188, rfl⟩
abbrev main_call5_v3 : Ref sig .tc := ⟨.hbm, 189, rfl⟩
abbrev main_call5_v4 : Ref sig .tc := ⟨.hbm, 190, rfl⟩
abbrev main_call5_v5 : Ref sig .tc := ⟨.hbm, 191, rfl⟩
abbrev main_call5_c_1 : Ref sig .tc := ⟨.hbm, 192, rfl⟩
abbrev main_call5_c_2 : Ref sig .tc := ⟨.hbm, 193, rfl⟩
abbrev main_call5_v6 : Ref sig .tc := ⟨.hbm, 194, rfl⟩
abbrev main_call5_v7 : Ref sig .tc := ⟨.hbm, 195, rfl⟩
abbrev main_call5_v8 : Ref sig .tc := ⟨.hbm, 196, rfl⟩
abbrev main_call5_v9 : Ref sig .tc := ⟨.hbm, 197, rfl⟩
abbrev main_call5_v10 : Ref sig .tc := ⟨.hbm, 198, rfl⟩
abbrev main_call5_v11 : Ref sig .tc := ⟨.hbm, 199, rfl⟩
abbrev main_call5_c_3 : Ref sig .tc := ⟨.hbm, 200, rfl⟩
abbrev main_call5_v12 : Ref sig .tc := ⟨.hbm, 201, rfl⟩
abbrev main_call5_v13 : Ref sig .tc := ⟨.hbm, 202, rfl⟩
abbrev main_call5_v14 : Ref sig .tc := ⟨.hbm, 203, rfl⟩
abbrev main_call5_cst : Ref sig .tc := ⟨.hbm, 204, rfl⟩
abbrev main_call5_v15 : Ref sig .tc := ⟨.hbm, 205, rfl⟩
abbrev main_v71 : Ref sig .tc := ⟨.hbm, 206, rfl⟩
abbrev main_v72 : Ref sig .tc := ⟨.hbm, 207, rfl⟩
abbrev main_v73 : Ref sig .tc := ⟨.hbm, 208, rfl⟩
abbrev main_v74 : Ref sig .tc := ⟨.hbm, 209, rfl⟩
abbrev main_v75 : Ref sig .tc := ⟨.hbm, 210, rfl⟩
abbrev main_cst_7 : Ref sig .tc := ⟨.hbm, 211, rfl⟩
abbrev main_v76 : Ref sig .tc := ⟨.hbm, 212, rfl⟩
abbrev main_v77 : Ref sig .tc := ⟨.hbm, 213, rfl⟩
abbrev main_v78 : Ref sig .tc := ⟨.hbm, 214, rfl⟩
abbrev main_v79 : Ref sig .tc := ⟨.hbm, 215, rfl⟩
abbrev main_cst_8 : Ref sig .tc := ⟨.hbm, 216, rfl⟩
abbrev main_v80 : Ref sig .tc := ⟨.hbm, 217, rfl⟩
abbrev main_v81 : Ref sig .tc := ⟨.hbm, 218, rfl⟩
abbrev main_v82 : Ref sig .tc := ⟨.hbm, 219, rfl⟩
abbrev main_v83 : Ref sig .tc := ⟨.hbm, 220, rfl⟩
abbrev main_v84 : Ref sig .tc := ⟨.hbm, 221, rfl⟩
abbrev main_v85 : Ref sig .tc := ⟨.hbm, 222, rfl⟩
abbrev main_v86 : Ref sig .tc := ⟨.hbm, 223, rfl⟩
abbrev main_call6_c : Ref sig .tc := ⟨.hbm, 224, rfl⟩
abbrev main_call6_v0 : Ref sig .tc := ⟨.hbm, 225, rfl⟩
abbrev main_call6_v1 : Ref sig .tc := ⟨.hbm, 226, rfl⟩
abbrev main_call6_c_0 : Ref sig .tc := ⟨.hbm, 227, rfl⟩
abbrev main_call6_v2 : Ref sig .tc := ⟨.hbm, 228, rfl⟩
abbrev main_call6_v3 : Ref sig .tc := ⟨.hbm, 229, rfl⟩
abbrev main_call6_v4 : Ref sig .tc := ⟨.hbm, 230, rfl⟩
abbrev main_call6_v5 : Ref sig .tc := ⟨.hbm, 231, rfl⟩
abbrev main_call6_c_1 : Ref sig .tc := ⟨.hbm, 232, rfl⟩
abbrev main_call6_c_2 : Ref sig .tc := ⟨.hbm, 233, rfl⟩
abbrev main_call6_v6 : Ref sig .tc := ⟨.hbm, 234, rfl⟩
abbrev main_call6_v7 : Ref sig .tc := ⟨.hbm, 235, rfl⟩
abbrev main_call6_v8 : Ref sig .tc := ⟨.hbm, 236, rfl⟩
abbrev main_call6_v9 : Ref sig .tc := ⟨.hbm, 237, rfl⟩
abbrev main_call6_v10 : Ref sig .tc := ⟨.hbm, 238, rfl⟩
abbrev main_call6_v11 : Ref sig .tc := ⟨.hbm, 239, rfl⟩
abbrev main_call6_c_3 : Ref sig .tc := ⟨.hbm, 240, rfl⟩
abbrev main_call6_v12 : Ref sig .tc := ⟨.hbm, 241, rfl⟩
abbrev main_call6_v13 : Ref sig .tc := ⟨.hbm, 242, rfl⟩
abbrev main_call6_v14 : Ref sig .tc := ⟨.hbm, 243, rfl⟩
abbrev main_call6_cst : Ref sig .tc := ⟨.hbm, 244, rfl⟩
abbrev main_call6_v15 : Ref sig .tc := ⟨.hbm, 245, rfl⟩
abbrev main_v87 : Ref sig .tc := ⟨.hbm, 246, rfl⟩
abbrev main_v88 : Ref sig .tc := ⟨.hbm, 247, rfl⟩
abbrev main_v89 : Ref sig .tc := ⟨.hbm, 248, rfl⟩
abbrev main_v90 : Ref sig .tc := ⟨.hbm, 249, rfl⟩
abbrev main_v91 : Ref sig .tc := ⟨.hbm, 250, rfl⟩
abbrev main_cst_9 : Ref sig .tc := ⟨.hbm, 251, rfl⟩
abbrev main_v92 : Ref sig .tc := ⟨.hbm, 252, rfl⟩
abbrev main_v93 : Ref sig .tc := ⟨.hbm, 253, rfl⟩
abbrev main_v94 : Ref sig .tc := ⟨.hbm, 254, rfl⟩
abbrev main_v95 : Ref sig .tc := ⟨.hbm, 255, rfl⟩
abbrev main_cst_10 : Ref sig .tc := ⟨.hbm, 256, rfl⟩
abbrev main_v96 : Ref sig .tc := ⟨.hbm, 257, rfl⟩
abbrev main_v97 : Ref sig .tc := ⟨.hbm, 258, rfl⟩
abbrev main_v98 : Ref sig .tc := ⟨.hbm, 259, rfl⟩
abbrev main_v99 : Ref sig .tc := ⟨.hbm, 260, rfl⟩
abbrev main_v100 : Ref sig .tc := ⟨.hbm, 261, rfl⟩
abbrev main_v101 : Ref sig .tc := ⟨.hbm, 262, rfl⟩
abbrev main_v102 : Ref sig .tc := ⟨.hbm, 263, rfl⟩
abbrev main_call7_cst : Ref sig .tc := ⟨.hbm, 264, rfl⟩
abbrev main_call7_v0 : Ref sig .tc := ⟨.hbm, 265, rfl⟩
abbrev main_v103 : Ref sig .tc := ⟨.hbm, 266, rfl⟩
abbrev main_v104 : Ref sig .tc := ⟨.hbm, 267, rfl⟩
abbrev main_cst_11 : Ref sig .tc := ⟨.hbm, 268, rfl⟩
abbrev main_v105 : Ref sig .tc := ⟨.hbm, 269, rfl⟩
abbrev main_cst_12 : Ref sig .tc := ⟨.hbm, 270, rfl⟩
abbrev main_v106 : Ref sig .tc := ⟨.hbm, 271, rfl⟩
abbrev main_v107 : Ref sig .tc := ⟨.hbm, 272, rfl⟩
abbrev main_v108 : Ref sig .tc := ⟨.hbm, 273, rfl⟩
abbrev main_v109 : Ref sig .tc := ⟨.hbm, 274, rfl⟩
abbrev main_v110 : Ref sig .tc := ⟨.hbm, 275, rfl⟩
abbrev main_call8_c : Ref sig .tc := ⟨.hbm, 276, rfl⟩
abbrev main_call8_v0 : Ref sig .tc := ⟨.hbm, 277, rfl⟩
abbrev main_call8_v1 : Ref sig .tc := ⟨.hbm, 278, rfl⟩
abbrev main_call8_c_0 : Ref sig .tc := ⟨.hbm, 279, rfl⟩
abbrev main_call8_v2 : Ref sig .tc := ⟨.hbm, 280, rfl⟩
abbrev main_call8_v3 : Ref sig .tc := ⟨.hbm, 281, rfl⟩
abbrev main_call8_v4 : Ref sig .tc := ⟨.hbm, 282, rfl⟩
abbrev main_call8_v5 : Ref sig .tc := ⟨.hbm, 283, rfl⟩
abbrev main_call8_c_1 : Ref sig .tc := ⟨.hbm, 284, rfl⟩
abbrev main_call8_c_2 : Ref sig .tc := ⟨.hbm, 285, rfl⟩
abbrev main_call8_v6 : Ref sig .tc := ⟨.hbm, 286, rfl⟩
abbrev main_call8_v7 : Ref sig .tc := ⟨.hbm, 287, rfl⟩
abbrev main_call8_v8 : Ref sig .tc := ⟨.hbm, 288, rfl⟩
abbrev main_call8_v9 : Ref sig .tc := ⟨.hbm, 289, rfl⟩
abbrev main_call8_v10 : Ref sig .tc := ⟨.hbm, 290, rfl⟩
abbrev main_call8_v11 : Ref sig .tc := ⟨.hbm, 291, rfl⟩
abbrev main_call8_c_3 : Ref sig .tc := ⟨.hbm, 292, rfl⟩
abbrev main_call8_v12 : Ref sig .tc := ⟨.hbm, 293, rfl⟩
abbrev main_call8_v13 : Ref sig .tc := ⟨.hbm, 294, rfl⟩
abbrev main_call8_v14 : Ref sig .tc := ⟨.hbm, 295, rfl⟩
abbrev main_call8_cst : Ref sig .tc := ⟨.hbm, 296, rfl⟩
abbrev main_call8_v15 : Ref sig .tc := ⟨.hbm, 297, rfl⟩
abbrev main_v111 : Ref sig .tc := ⟨.hbm, 298, rfl⟩
abbrev main_v112 : Ref sig .tc := ⟨.hbm, 299, rfl⟩
abbrev main_v113 : Ref sig .tc := ⟨.hbm, 300, rfl⟩
abbrev main_v114 : Ref sig .tc := ⟨.hbm, 301, rfl⟩
abbrev main_v115 : Ref sig .tc := ⟨.hbm, 302, rfl⟩
abbrev main_cst_13 : Ref sig .tc := ⟨.hbm, 303, rfl⟩
abbrev main_v116 : Ref sig .tc := ⟨.hbm, 304, rfl⟩
abbrev main_v117 : Ref sig .tc := ⟨.hbm, 305, rfl⟩
abbrev main_v118 : Ref sig .tc := ⟨.hbm, 306, rfl⟩
abbrev main_v119 : Ref sig .tc := ⟨.hbm, 307, rfl⟩
abbrev main_v120 : Ref sig .tc := ⟨.hbm, 308, rfl⟩
abbrev main_v121 : Ref sig .tc := ⟨.hbm, 309, rfl⟩
abbrev main_v122 : Ref sig .tc := ⟨.hbm, 310, rfl⟩
abbrev main_v123 : Ref sig .tc := ⟨.hbm, 311, rfl⟩
abbrev main_v124 : Ref sig .tc := ⟨.hbm, 312, rfl⟩
abbrev main_call9_c : Ref sig .tc := ⟨.hbm, 313, rfl⟩
abbrev main_call9_v0 : Ref sig .tc := ⟨.hbm, 314, rfl⟩
abbrev main_call9_v1 : Ref sig .tc := ⟨.hbm, 315, rfl⟩
abbrev main_call9_c_0 : Ref sig .tc := ⟨.hbm, 316, rfl⟩
abbrev main_call9_v2 : Ref sig .tc := ⟨.hbm, 317, rfl⟩
abbrev main_call9_v3 : Ref sig .tc := ⟨.hbm, 318, rfl⟩
abbrev main_call9_v4 : Ref sig .tc := ⟨.hbm, 319, rfl⟩
abbrev main_call9_v5 : Ref sig .tc := ⟨.hbm, 320, rfl⟩
abbrev main_call9_c_1 : Ref sig .tc := ⟨.hbm, 321, rfl⟩
abbrev main_call9_c_2 : Ref sig .tc := ⟨.hbm, 322, rfl⟩
abbrev main_call9_v6 : Ref sig .tc := ⟨.hbm, 323, rfl⟩
abbrev main_call9_v7 : Ref sig .tc := ⟨.hbm, 324, rfl⟩
abbrev main_call9_v8 : Ref sig .tc := ⟨.hbm, 325, rfl⟩
abbrev main_call9_v9 : Ref sig .tc := ⟨.hbm, 326, rfl⟩
abbrev main_call9_v10 : Ref sig .tc := ⟨.hbm, 327, rfl⟩
abbrev main_call9_v11 : Ref sig .tc := ⟨.hbm, 328, rfl⟩
abbrev main_call9_c_3 : Ref sig .tc := ⟨.hbm, 329, rfl⟩
abbrev main_call9_v12 : Ref sig .tc := ⟨.hbm, 330, rfl⟩
abbrev main_call9_v13 : Ref sig .tc := ⟨.hbm, 331, rfl⟩
abbrev main_call9_v14 : Ref sig .tc := ⟨.hbm, 332, rfl⟩
abbrev main_call9_cst : Ref sig .tc := ⟨.hbm, 333, rfl⟩
abbrev main_call9_v15 : Ref sig .tc := ⟨.hbm, 334, rfl⟩
abbrev main_v125 : Ref sig .tc := ⟨.hbm, 335, rfl⟩
abbrev main_v126 : Ref sig .tc := ⟨.hbm, 336, rfl⟩
abbrev main_v127 : Ref sig .tc := ⟨.hbm, 337, rfl⟩
abbrev main_v128 : Ref sig .tc := ⟨.hbm, 338, rfl⟩
abbrev main_v129 : Ref sig .tc := ⟨.hbm, 339, rfl⟩
abbrev main_cst_14 : Ref sig .tc := ⟨.hbm, 340, rfl⟩
abbrev main_v130 : Ref sig .tc := ⟨.hbm, 341, rfl⟩
abbrev main_v131 : Ref sig .tc := ⟨.hbm, 342, rfl⟩
abbrev main_v132 : Ref sig .tc := ⟨.hbm, 343, rfl⟩
abbrev main_v133 : Ref sig .tc := ⟨.hbm, 344, rfl⟩
abbrev main_cst_15 : Ref sig .tc := ⟨.hbm, 345, rfl⟩
abbrev main_v134 : Ref sig .tc := ⟨.hbm, 346, rfl⟩
abbrev main_v135 : Ref sig .tc := ⟨.hbm, 347, rfl⟩
abbrev main_v136 : Ref sig .tc := ⟨.hbm, 348, rfl⟩
abbrev main_v137 : Ref sig .tc := ⟨.hbm, 349, rfl⟩
abbrev main_v138 : Ref sig .tc := ⟨.hbm, 350, rfl⟩
abbrev main_v139 : Ref sig .tc := ⟨.hbm, 351, rfl⟩
abbrev main_v140 : Ref sig .tc := ⟨.hbm, 352, rfl⟩
abbrev main_call10_c : Ref sig .tc := ⟨.hbm, 353, rfl⟩
abbrev main_call10_v0 : Ref sig .tc := ⟨.hbm, 354, rfl⟩
abbrev main_call10_v1 : Ref sig .tc := ⟨.hbm, 355, rfl⟩
abbrev main_call10_c_0 : Ref sig .tc := ⟨.hbm, 356, rfl⟩
abbrev main_call10_v2 : Ref sig .tc := ⟨.hbm, 357, rfl⟩
abbrev main_call10_v3 : Ref sig .tc := ⟨.hbm, 358, rfl⟩
abbrev main_call10_v4 : Ref sig .tc := ⟨.hbm, 359, rfl⟩
abbrev main_call10_v5 : Ref sig .tc := ⟨.hbm, 360, rfl⟩
abbrev main_call10_c_1 : Ref sig .tc := ⟨.hbm, 361, rfl⟩
abbrev main_call10_c_2 : Ref sig .tc := ⟨.hbm, 362, rfl⟩
abbrev main_call10_v6 : Ref sig .tc := ⟨.hbm, 363, rfl⟩
abbrev main_call10_v7 : Ref sig .tc := ⟨.hbm, 364, rfl⟩
abbrev main_call10_v8 : Ref sig .tc := ⟨.hbm, 365, rfl⟩
abbrev main_call10_v9 : Ref sig .tc := ⟨.hbm, 366, rfl⟩
abbrev main_call10_v10 : Ref sig .tc := ⟨.hbm, 367, rfl⟩
abbrev main_call10_v11 : Ref sig .tc := ⟨.hbm, 368, rfl⟩
abbrev main_call10_c_3 : Ref sig .tc := ⟨.hbm, 369, rfl⟩
abbrev main_call10_v12 : Ref sig .tc := ⟨.hbm, 370, rfl⟩
abbrev main_call10_v13 : Ref sig .tc := ⟨.hbm, 371, rfl⟩
abbrev main_call10_v14 : Ref sig .tc := ⟨.hbm, 372, rfl⟩
abbrev main_call10_cst : Ref sig .tc := ⟨.hbm, 373, rfl⟩
abbrev main_call10_v15 : Ref sig .tc := ⟨.hbm, 374, rfl⟩
abbrev main_v141 : Ref sig .tc := ⟨.hbm, 375, rfl⟩
abbrev main_v142 : Ref sig .tc := ⟨.hbm, 376, rfl⟩
abbrev main_v143 : Ref sig .tc := ⟨.hbm, 377, rfl⟩
abbrev main_v144 : Ref sig .tc := ⟨.hbm, 378, rfl⟩
abbrev main_v145 : Ref sig .tc := ⟨.hbm, 379, rfl⟩
abbrev main_cst_16 : Ref sig .tc := ⟨.hbm, 380, rfl⟩
abbrev main_v146 : Ref sig .tc := ⟨.hbm, 381, rfl⟩
abbrev main_v147 : Ref sig .tc := ⟨.hbm, 382, rfl⟩
abbrev main_v148 : Ref sig .tc := ⟨.hbm, 383, rfl⟩
abbrev main_v149 : Ref sig .tc := ⟨.hbm, 384, rfl⟩
abbrev main_cst_17 : Ref sig .tc := ⟨.hbm, 385, rfl⟩
abbrev main_v150 : Ref sig .tc := ⟨.hbm, 386, rfl⟩
abbrev main_v151 : Ref sig .tc := ⟨.hbm, 387, rfl⟩
abbrev main_v152 : Ref sig .tc := ⟨.hbm, 388, rfl⟩
abbrev main_v153 : Ref sig .tc := ⟨.hbm, 389, rfl⟩
abbrev main_v154 : Ref sig .tc := ⟨.hbm, 390, rfl⟩
abbrev main_v155 : Ref sig .tc := ⟨.hbm, 391, rfl⟩
abbrev main_v156 : Ref sig .tc := ⟨.hbm, 392, rfl⟩
abbrev main_call11_cst : Ref sig .tc := ⟨.hbm, 393, rfl⟩
abbrev main_call11_v0 : Ref sig .tc := ⟨.hbm, 394, rfl⟩
abbrev main_v157 : Ref sig .tc := ⟨.hbm, 395, rfl⟩
abbrev main_v158 : Ref sig .tc := ⟨.hbm, 396, rfl⟩
abbrev main_v159 : Ref sig .tc := ⟨.hbm, 397, rfl⟩
abbrev main_v160 : Ref sig .tc := ⟨.hbm, 398, rfl⟩
abbrev main_v161 : Ref sig .tc := ⟨.hbm, 399, rfl⟩
abbrev main_v162 : Ref sig .tc := ⟨.hbm, 400, rfl⟩
abbrev main_call12_c : Ref sig .tc := ⟨.hbm, 401, rfl⟩
abbrev main_call12_v0 : Ref sig .tc := ⟨.hbm, 402, rfl⟩
abbrev main_call12_v1 : Ref sig .tc := ⟨.hbm, 403, rfl⟩
abbrev main_call12_c_0 : Ref sig .tc := ⟨.hbm, 404, rfl⟩
abbrev main_call12_v2 : Ref sig .tc := ⟨.hbm, 405, rfl⟩
abbrev main_call12_v3 : Ref sig .tc := ⟨.hbm, 406, rfl⟩
abbrev main_call12_v4 : Ref sig .tc := ⟨.hbm, 407, rfl⟩
abbrev main_call12_v5 : Ref sig .tc := ⟨.hbm, 408, rfl⟩
abbrev main_call12_c_1 : Ref sig .tc := ⟨.hbm, 409, rfl⟩
abbrev main_call12_c_2 : Ref sig .tc := ⟨.hbm, 410, rfl⟩
abbrev main_call12_v6 : Ref sig .tc := ⟨.hbm, 411, rfl⟩
abbrev main_call12_v7 : Ref sig .tc := ⟨.hbm, 412, rfl⟩
abbrev main_call12_v8 : Ref sig .tc := ⟨.hbm, 413, rfl⟩
abbrev main_call12_v9 : Ref sig .tc := ⟨.hbm, 414, rfl⟩
abbrev main_call12_v10 : Ref sig .tc := ⟨.hbm, 415, rfl⟩
abbrev main_call12_v11 : Ref sig .tc := ⟨.hbm, 416, rfl⟩
abbrev main_call12_c_3 : Ref sig .tc := ⟨.hbm, 417, rfl⟩
abbrev main_call12_v12 : Ref sig .tc := ⟨.hbm, 418, rfl⟩
abbrev main_call12_v13 : Ref sig .tc := ⟨.hbm, 419, rfl⟩
abbrev main_call12_v14 : Ref sig .tc := ⟨.hbm, 420, rfl⟩
abbrev main_call12_cst : Ref sig .tc := ⟨.hbm, 421, rfl⟩
abbrev main_call12_v15 : Ref sig .tc := ⟨.hbm, 422, rfl⟩
abbrev main_v163 : Ref sig .tc := ⟨.hbm, 423, rfl⟩
abbrev main_v164 : Ref sig .tc := ⟨.hbm, 424, rfl⟩
abbrev main_v165 : Ref sig .tc := ⟨.hbm, 425, rfl⟩
abbrev main_v166 : Ref sig .tc := ⟨.hbm, 426, rfl⟩
abbrev main_v167 : Ref sig .tc := ⟨.hbm, 427, rfl⟩
abbrev main_cst_18 : Ref sig .tc := ⟨.hbm, 428, rfl⟩
abbrev main_v168 : Ref sig .tc := ⟨.hbm, 429, rfl⟩
abbrev main_v169 : Ref sig .tc := ⟨.hbm, 430, rfl⟩
abbrev main_v170 : Ref sig .tc := ⟨.hbm, 431, rfl⟩
abbrev main_v171 : Ref sig .tc := ⟨.hbm, 432, rfl⟩
abbrev main_v172 : Ref sig .tc := ⟨.hbm, 433, rfl⟩
abbrev main_v173 : Ref sig .tc := ⟨.hbm, 434, rfl⟩
abbrev main_v174 : Ref sig .tc := ⟨.hbm, 435, rfl⟩
abbrev main_v175 : Ref sig .tc := ⟨.hbm, 436, rfl⟩
abbrev main_v176 : Ref sig .tc := ⟨.hbm, 437, rfl⟩
abbrev main_call13_c : Ref sig .tc := ⟨.hbm, 438, rfl⟩
abbrev main_call13_v0 : Ref sig .tc := ⟨.hbm, 439, rfl⟩
abbrev main_call13_v1 : Ref sig .tc := ⟨.hbm, 440, rfl⟩
abbrev main_call13_c_0 : Ref sig .tc := ⟨.hbm, 441, rfl⟩
abbrev main_call13_v2 : Ref sig .tc := ⟨.hbm, 442, rfl⟩
abbrev main_call13_v3 : Ref sig .tc := ⟨.hbm, 443, rfl⟩
abbrev main_call13_v4 : Ref sig .tc := ⟨.hbm, 444, rfl⟩
abbrev main_call13_v5 : Ref sig .tc := ⟨.hbm, 445, rfl⟩
abbrev main_call13_c_1 : Ref sig .tc := ⟨.hbm, 446, rfl⟩
abbrev main_call13_c_2 : Ref sig .tc := ⟨.hbm, 447, rfl⟩
abbrev main_call13_v6 : Ref sig .tc := ⟨.hbm, 448, rfl⟩
abbrev main_call13_v7 : Ref sig .tc := ⟨.hbm, 449, rfl⟩
abbrev main_call13_v8 : Ref sig .tc := ⟨.hbm, 450, rfl⟩
abbrev main_call13_v9 : Ref sig .tc := ⟨.hbm, 451, rfl⟩
abbrev main_call13_v10 : Ref sig .tc := ⟨.hbm, 452, rfl⟩
abbrev main_call13_v11 : Ref sig .tc := ⟨.hbm, 453, rfl⟩
abbrev main_call13_c_3 : Ref sig .tc := ⟨.hbm, 454, rfl⟩
abbrev main_call13_v12 : Ref sig .tc := ⟨.hbm, 455, rfl⟩
abbrev main_call13_v13 : Ref sig .tc := ⟨.hbm, 456, rfl⟩
abbrev main_call13_v14 : Ref sig .tc := ⟨.hbm, 457, rfl⟩
abbrev main_call13_cst : Ref sig .tc := ⟨.hbm, 458, rfl⟩
abbrev main_call13_v15 : Ref sig .tc := ⟨.hbm, 459, rfl⟩
abbrev main_v177 : Ref sig .tc := ⟨.hbm, 460, rfl⟩
abbrev main_v178 : Ref sig .tc := ⟨.hbm, 461, rfl⟩
abbrev main_v179 : Ref sig .tc := ⟨.hbm, 462, rfl⟩
abbrev main_v180 : Ref sig .tc := ⟨.hbm, 463, rfl⟩
abbrev main_v181 : Ref sig .tc := ⟨.hbm, 464, rfl⟩
abbrev main_cst_19 : Ref sig .tc := ⟨.hbm, 465, rfl⟩
abbrev main_v182 : Ref sig .tc := ⟨.hbm, 466, rfl⟩
abbrev main_v183 : Ref sig .tc := ⟨.hbm, 467, rfl⟩
abbrev main_v184 : Ref sig .tc := ⟨.hbm, 468, rfl⟩
abbrev main_v185 : Ref sig .tc := ⟨.hbm, 469, rfl⟩
abbrev main_cst_20 : Ref sig .tc := ⟨.hbm, 470, rfl⟩
abbrev main_v186 : Ref sig .tc := ⟨.hbm, 471, rfl⟩
abbrev main_v187 : Ref sig .tc := ⟨.hbm, 472, rfl⟩
abbrev main_v188 : Ref sig .tc := ⟨.hbm, 473, rfl⟩
abbrev main_v189 : Ref sig .tc := ⟨.hbm, 474, rfl⟩
abbrev main_v190 : Ref sig .tc := ⟨.hbm, 475, rfl⟩
abbrev main_v191 : Ref sig .tc := ⟨.hbm, 476, rfl⟩
abbrev main_v192 : Ref sig .tc := ⟨.hbm, 477, rfl⟩
abbrev main_call14_c : Ref sig .tc := ⟨.hbm, 478, rfl⟩
abbrev main_call14_v0 : Ref sig .tc := ⟨.hbm, 479, rfl⟩
abbrev main_call14_v1 : Ref sig .tc := ⟨.hbm, 480, rfl⟩
abbrev main_call14_c_0 : Ref sig .tc := ⟨.hbm, 481, rfl⟩
abbrev main_call14_v2 : Ref sig .tc := ⟨.hbm, 482, rfl⟩
abbrev main_call14_v3 : Ref sig .tc := ⟨.hbm, 483, rfl⟩
abbrev main_call14_v4 : Ref sig .tc := ⟨.hbm, 484, rfl⟩
abbrev main_call14_v5 : Ref sig .tc := ⟨.hbm, 485, rfl⟩
abbrev main_call14_c_1 : Ref sig .tc := ⟨.hbm, 486, rfl⟩
abbrev main_call14_c_2 : Ref sig .tc := ⟨.hbm, 487, rfl⟩
abbrev main_call14_v6 : Ref sig .tc := ⟨.hbm, 488, rfl⟩
abbrev main_call14_v7 : Ref sig .tc := ⟨.hbm, 489, rfl⟩
abbrev main_call14_v8 : Ref sig .tc := ⟨.hbm, 490, rfl⟩
abbrev main_call14_v9 : Ref sig .tc := ⟨.hbm, 491, rfl⟩
abbrev main_call14_v10 : Ref sig .tc := ⟨.hbm, 492, rfl⟩
abbrev main_call14_v11 : Ref sig .tc := ⟨.hbm, 493, rfl⟩
abbrev main_call14_c_3 : Ref sig .tc := ⟨.hbm, 494, rfl⟩
abbrev main_call14_v12 : Ref sig .tc := ⟨.hbm, 495, rfl⟩
abbrev main_call14_v13 : Ref sig .tc := ⟨.hbm, 496, rfl⟩
abbrev main_call14_v14 : Ref sig .tc := ⟨.hbm, 497, rfl⟩
abbrev main_call14_cst : Ref sig .tc := ⟨.hbm, 498, rfl⟩
abbrev main_call14_v15 : Ref sig .tc := ⟨.hbm, 499, rfl⟩
abbrev main_v193 : Ref sig .tc := ⟨.hbm, 500, rfl⟩
abbrev main_v194 : Ref sig .tc := ⟨.hbm, 501, rfl⟩
abbrev main_v195 : Ref sig .tc := ⟨.hbm, 502, rfl⟩
abbrev main_v196 : Ref sig .tc := ⟨.hbm, 503, rfl⟩
abbrev main_v197 : Ref sig .tc := ⟨.hbm, 504, rfl⟩
abbrev main_cst_21 : Ref sig .tc := ⟨.hbm, 505, rfl⟩
abbrev main_v198 : Ref sig .tc := ⟨.hbm, 506, rfl⟩
abbrev main_v199 : Ref sig .tc := ⟨.hbm, 507, rfl⟩
abbrev main_v200 : Ref sig .tc := ⟨.hbm, 508, rfl⟩
abbrev main_v201 : Ref sig .tc := ⟨.hbm, 509, rfl⟩
abbrev main_cst_22 : Ref sig .tc := ⟨.hbm, 510, rfl⟩
abbrev main_v202 : Ref sig .tc := ⟨.hbm, 511, rfl⟩
abbrev main_v203 : Ref sig .tc := ⟨.hbm, 512, rfl⟩
abbrev main_v204 : Ref sig .tc := ⟨.hbm, 513, rfl⟩
abbrev main_v205 : Ref sig .tc := ⟨.hbm, 514, rfl⟩
abbrev main_v206 : Ref sig .tc := ⟨.hbm, 515, rfl⟩
abbrev main_v207 : Ref sig .tc := ⟨.hbm, 516, rfl⟩
abbrev main_v208 : Ref sig .tc := ⟨.hbm, 517, rfl⟩
abbrev main_call15_cst : Ref sig .tc := ⟨.hbm, 518, rfl⟩
abbrev main_call15_v0 : Ref sig .tc := ⟨.hbm, 519, rfl⟩
abbrev main_v209 : Ref sig .tc := ⟨.hbm, 520, rfl⟩
abbrev main_v210 : Ref sig .tc := ⟨.hbm, 521, rfl⟩
abbrev main_v211 : Ref sig .tc := ⟨.hbm, 522, rfl⟩
abbrev main_v212 : Ref sig .tc := ⟨.hbm, 523, rfl⟩
abbrev main_v213 : Ref sig .tc := ⟨.hbm, 524, rfl⟩
abbrev main_v214 : Ref sig .tc := ⟨.hbm, 525, rfl⟩
abbrev main_call16_c : Ref sig .tc := ⟨.hbm, 526, rfl⟩
abbrev main_call16_v0 : Ref sig .tc := ⟨.hbm, 527, rfl⟩
abbrev main_call16_v1 : Ref sig .tc := ⟨.hbm, 528, rfl⟩
abbrev main_call16_c_0 : Ref sig .tc := ⟨.hbm, 529, rfl⟩
abbrev main_call16_v2 : Ref sig .tc := ⟨.hbm, 530, rfl⟩
abbrev main_call16_v3 : Ref sig .tc := ⟨.hbm, 531, rfl⟩
abbrev main_call16_v4 : Ref sig .tc := ⟨.hbm, 532, rfl⟩
abbrev main_call16_v5 : Ref sig .tc := ⟨.hbm, 533, rfl⟩
abbrev main_call16_c_1 : Ref sig .tc := ⟨.hbm, 534, rfl⟩
abbrev main_call16_c_2 : Ref sig .tc := ⟨.hbm, 535, rfl⟩
abbrev main_call16_v6 : Ref sig .tc := ⟨.hbm, 536, rfl⟩
abbrev main_call16_v7 : Ref sig .tc := ⟨.hbm, 537, rfl⟩
abbrev main_call16_v8 : Ref sig .tc := ⟨.hbm, 538, rfl⟩
abbrev main_call16_v9 : Ref sig .tc := ⟨.hbm, 539, rfl⟩
abbrev main_call16_v10 : Ref sig .tc := ⟨.hbm, 540, rfl⟩
abbrev main_call16_v11 : Ref sig .tc := ⟨.hbm, 541, rfl⟩
abbrev main_call16_c_3 : Ref sig .tc := ⟨.hbm, 542, rfl⟩
abbrev main_call16_v12 : Ref sig .tc := ⟨.hbm, 543, rfl⟩
abbrev main_call16_v13 : Ref sig .tc := ⟨.hbm, 544, rfl⟩
abbrev main_call16_v14 : Ref sig .tc := ⟨.hbm, 545, rfl⟩
abbrev main_call16_cst : Ref sig .tc := ⟨.hbm, 546, rfl⟩
abbrev main_call16_v15 : Ref sig .tc := ⟨.hbm, 547, rfl⟩
abbrev main_v215 : Ref sig .tc := ⟨.hbm, 548, rfl⟩
abbrev main_v216 : Ref sig .tc := ⟨.hbm, 549, rfl⟩
abbrev main_v217 : Ref sig .tc := ⟨.hbm, 550, rfl⟩
abbrev main_v218 : Ref sig .tc := ⟨.hbm, 551, rfl⟩
abbrev main_v219 : Ref sig .tc := ⟨.hbm, 552, rfl⟩
abbrev main_cst_23 : Ref sig .tc := ⟨.hbm, 553, rfl⟩
abbrev main_v220 : Ref sig .tc := ⟨.hbm, 554, rfl⟩
abbrev main_v221 : Ref sig .tc := ⟨.hbm, 555, rfl⟩
abbrev main_v222 : Ref sig .tc := ⟨.hbm, 556, rfl⟩
abbrev main_v223 : Ref sig .tc := ⟨.hbm, 557, rfl⟩
abbrev main_v224 : Ref sig .tc := ⟨.hbm, 558, rfl⟩
abbrev main_v225 : Ref sig .tc := ⟨.hbm, 559, rfl⟩
abbrev main_v226 : Ref sig .tc := ⟨.hbm, 560, rfl⟩
abbrev main_v227 : Ref sig .tc := ⟨.hbm, 561, rfl⟩
abbrev main_v228 : Ref sig .tc := ⟨.hbm, 562, rfl⟩
abbrev main_call17_c : Ref sig .tc := ⟨.hbm, 563, rfl⟩
abbrev main_call17_v0 : Ref sig .tc := ⟨.hbm, 564, rfl⟩
abbrev main_call17_v1 : Ref sig .tc := ⟨.hbm, 565, rfl⟩
abbrev main_call17_c_0 : Ref sig .tc := ⟨.hbm, 566, rfl⟩
abbrev main_call17_v2 : Ref sig .tc := ⟨.hbm, 567, rfl⟩
abbrev main_call17_v3 : Ref sig .tc := ⟨.hbm, 568, rfl⟩
abbrev main_call17_v4 : Ref sig .tc := ⟨.hbm, 569, rfl⟩
abbrev main_call17_v5 : Ref sig .tc := ⟨.hbm, 570, rfl⟩
abbrev main_call17_c_1 : Ref sig .tc := ⟨.hbm, 571, rfl⟩
abbrev main_call17_c_2 : Ref sig .tc := ⟨.hbm, 572, rfl⟩
abbrev main_call17_v6 : Ref sig .tc := ⟨.hbm, 573, rfl⟩
abbrev main_call17_v7 : Ref sig .tc := ⟨.hbm, 574, rfl⟩
abbrev main_call17_v8 : Ref sig .tc := ⟨.hbm, 575, rfl⟩
abbrev main_call17_v9 : Ref sig .tc := ⟨.hbm, 576, rfl⟩
abbrev main_call17_v10 : Ref sig .tc := ⟨.hbm, 577, rfl⟩
abbrev main_call17_v11 : Ref sig .tc := ⟨.hbm, 578, rfl⟩
abbrev main_call17_c_3 : Ref sig .tc := ⟨.hbm, 579, rfl⟩
abbrev main_call17_v12 : Ref sig .tc := ⟨.hbm, 580, rfl⟩
abbrev main_call17_v13 : Ref sig .tc := ⟨.hbm, 581, rfl⟩
abbrev main_call17_v14 : Ref sig .tc := ⟨.hbm, 582, rfl⟩
abbrev main_call17_cst : Ref sig .tc := ⟨.hbm, 583, rfl⟩
abbrev main_call17_v15 : Ref sig .tc := ⟨.hbm, 584, rfl⟩
abbrev main_v229 : Ref sig .tc := ⟨.hbm, 585, rfl⟩
abbrev main_v230 : Ref sig .tc := ⟨.hbm, 586, rfl⟩
abbrev main_v231 : Ref sig .tc := ⟨.hbm, 587, rfl⟩
abbrev main_v232 : Ref sig .tc := ⟨.hbm, 588, rfl⟩
abbrev main_v233 : Ref sig .tc := ⟨.hbm, 589, rfl⟩
abbrev main_cst_24 : Ref sig .tc := ⟨.hbm, 590, rfl⟩
abbrev main_v234 : Ref sig .tc := ⟨.hbm, 591, rfl⟩
abbrev main_v235 : Ref sig .tc := ⟨.hbm, 592, rfl⟩
abbrev main_v236 : Ref sig .tc := ⟨.hbm, 593, rfl⟩
abbrev main_v237 : Ref sig .tc := ⟨.hbm, 594, rfl⟩
abbrev main_cst_25 : Ref sig .tc := ⟨.hbm, 595, rfl⟩
abbrev main_v238 : Ref sig .tc := ⟨.hbm, 596, rfl⟩
abbrev main_v239 : Ref sig .tc := ⟨.hbm, 597, rfl⟩
abbrev main_v240 : Ref sig .tc := ⟨.hbm, 598, rfl⟩
abbrev main_v241 : Ref sig .tc := ⟨.hbm, 599, rfl⟩
abbrev main_v242 : Ref sig .tc := ⟨.hbm, 600, rfl⟩
abbrev main_v243 : Ref sig .tc := ⟨.hbm, 601, rfl⟩
abbrev main_v244 : Ref sig .tc := ⟨.hbm, 602, rfl⟩
abbrev main_call18_c : Ref sig .tc := ⟨.hbm, 603, rfl⟩
abbrev main_call18_v0 : Ref sig .tc := ⟨.hbm, 604, rfl⟩
abbrev main_call18_v1 : Ref sig .tc := ⟨.hbm, 605, rfl⟩
abbrev main_call18_c_0 : Ref sig .tc := ⟨.hbm, 606, rfl⟩
abbrev main_call18_v2 : Ref sig .tc := ⟨.hbm, 607, rfl⟩
abbrev main_call18_v3 : Ref sig .tc := ⟨.hbm, 608, rfl⟩
abbrev main_call18_v4 : Ref sig .tc := ⟨.hbm, 609, rfl⟩
abbrev main_call18_v5 : Ref sig .tc := ⟨.hbm, 610, rfl⟩
abbrev main_call18_c_1 : Ref sig .tc := ⟨.hbm, 611, rfl⟩
abbrev main_call18_c_2 : Ref sig .tc := ⟨.hbm, 612, rfl⟩
abbrev main_call18_v6 : Ref sig .tc := ⟨.hbm, 613, rfl⟩
abbrev main_call18_v7 : Ref sig .tc := ⟨.hbm, 614, rfl⟩
abbrev main_call18_v8 : Ref sig .tc := ⟨.hbm, 615, rfl⟩
abbrev main_call18_v9 : Ref sig .tc := ⟨.hbm, 616, rfl⟩
abbrev main_call18_v10 : Ref sig .tc := ⟨.hbm, 617, rfl⟩
abbrev main_call18_v11 : Ref sig .tc := ⟨.hbm, 618, rfl⟩
abbrev main_call18_c_3 : Ref sig .tc := ⟨.hbm, 619, rfl⟩
abbrev main_call18_v12 : Ref sig .tc := ⟨.hbm, 620, rfl⟩
abbrev main_call18_v13 : Ref sig .tc := ⟨.hbm, 621, rfl⟩
abbrev main_call18_v14 : Ref sig .tc := ⟨.hbm, 622, rfl⟩
abbrev main_call18_cst : Ref sig .tc := ⟨.hbm, 623, rfl⟩
abbrev main_call18_v15 : Ref sig .tc := ⟨.hbm, 624, rfl⟩
abbrev main_v245 : Ref sig .tc := ⟨.hbm, 625, rfl⟩
abbrev main_v246 : Ref sig .tc := ⟨.hbm, 626, rfl⟩
abbrev main_v247 : Ref sig .tc := ⟨.hbm, 627, rfl⟩
abbrev main_v248 : Ref sig .tc := ⟨.hbm, 628, rfl⟩
abbrev main_v249 : Ref sig .tc := ⟨.hbm, 629, rfl⟩
abbrev main_cst_26 : Ref sig .tc := ⟨.hbm, 630, rfl⟩
abbrev main_v250 : Ref sig .tc := ⟨.hbm, 631, rfl⟩
abbrev main_v251 : Ref sig .tc := ⟨.hbm, 632, rfl⟩
abbrev main_v252 : Ref sig .tc := ⟨.hbm, 633, rfl⟩
abbrev main_v253 : Ref sig .tc := ⟨.hbm, 634, rfl⟩
abbrev main_cst_27 : Ref sig .tc := ⟨.hbm, 635, rfl⟩
abbrev main_v254 : Ref sig .tc := ⟨.hbm, 636, rfl⟩
abbrev main_v255 : Ref sig .tc := ⟨.hbm, 637, rfl⟩
abbrev main_v256 : Ref sig .tc := ⟨.hbm, 638, rfl⟩
abbrev main_v257 : Ref sig .tc := ⟨.hbm, 639, rfl⟩
abbrev main_v258 : Ref sig .tc := ⟨.hbm, 640, rfl⟩
abbrev main_v259 : Ref sig .tc := ⟨.hbm, 641, rfl⟩
abbrev main_v260 : Ref sig .tc := ⟨.hbm, 642, rfl⟩

abbrev nD : Nat := 1
abbrev τ : Topo := Topo.v7x

variable {F : FTy → Type} [FloatOps F]
-- ==== Proof.KernelRun.lean ====
/- The kernel's run at the extended reals: every execution ends with the result buffer at the contents the last boundary
   gives it, and the arguments as launched. -/
module

public import proofs.«01_k».proof.Proof.Gen.KernelIdeal.Frame
public import Idealize.ShloMosaic.PureOps.Ideal

@[expose] public section

set_option maxRecDepth 16384

noncomputable section

namespace Cert.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair execution of the kernel ends, with the result at the last boundary's contents and the arguments unchanged. -/
theorem run : θ_run defs (onTc (τ := τ) (main (F := Ideal))) ⟨m, fun _ => 0, ρ⟩ (fun r => ∀ c : Dev nD,
      r.2.mem ((c.tc : Thread nD τ).loc main_v137) = W16 m ρ c (Proc.devRef .tc main_v137)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h hz => fun c =>
      ⟨h c _ (mem_uc main_v137 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c),
       (h c _ (mem_uc main_arg13 (by decide))).trans (W16_main_arg13 m ρ c),
       (h c _ (mem_uc main_arg14 (by decide))).trans (W16_main_arg14 m ρ c)⟩)

end Cert.KernelRun

end
-- ==== Proof.Flat.lean ====
/- Arrays read in row-major order.

   Every array of the kernel packs a field of `n` pixels with `C` channels into rows of `W` lanes: the element at row
   `r`, lane `l` is pixel `(r·W + l) / C`, channel `(r·W + l) % C`. Read in row-major order, rolling the field by some
   pixels is an addition to the position, whatever the packing. This module gives that reading (`flat`, `flat3`), and
   what the kernel's slices and concatenations do to it. -/
module

public import Idealize.ShloMosaic.Lib.Pipeline.ValueKit
public import Idealize.ShloMosaic.Lib.MatmulPlain
public import Idealize.ShloMosaic.Lib.ValueIdx

@[expose] public section

set_option maxRecDepth 16384

noncomputable section

namespace Cert.Flat

open Idealize.ShloMosaic hiding ix0 ix1 ix2 ix3 ix4 ix5 eq_ix1 eq_ix2 eq_ix3 eq_ix4 eq_ix5
open Idealize.ShloMosaic.ValueIdx
open scoped BigOperators

variable {α : Type} {R W : ℕ} [NeZero R] [NeZero W]

/-- The element of `X` at row-major position `p`, positions counted round and round. -/
def flat (X : (⟨2, ![R, W]⟩ : Shape).Idx → α) (p : ℕ) : α := X (ix2 (Fin.ofNat R (p / W)) (Fin.ofNat W p))

/-- Member `b` of a batch of arrays, read in row-major order. -/
def flat3 {B : ℕ} (X : (⟨3, ![B, R, W]⟩ : Shape).Idx → α) (b : Fin B) (p : ℕ) : α :=
  X (ix3 b (Fin.ofNat R (p / W)) (Fin.ofNat W p))

/-- A row is not empty. -/
theorem posW : 0 < W := Nat.pos_of_ne_zero (NeZero.ne W)

/-- An element by its row and lane is the element at their row-major position. -/
theorem apply_eq_flat (X : (⟨2, ![R, W]⟩ : Shape).Idx → α) (r : Fin R) (l : Fin W) :
    X (ix2 r l) = flat X (r.val * W + l.val) := by
  unfold flat
  congr 2
  · apply Fin.ext
    rw [Fin.val_ofNat, Nat.mul_comm, Nat.mul_add_div posW, Nat.div_eq_of_lt l.isLt, Nat.add_zero, Nat.mod_eq_of_lt r.isLt]
  · apply Fin.ext
    rw [Fin.val_ofNat, Nat.mul_comm, Nat.mul_add_mod, Nat.mod_eq_of_lt l.isLt]

/-- The same for a batch. -/
theorem apply_eq_flat3 {B : ℕ} (X : (⟨3, ![B, R, W]⟩ : Shape).Idx → α) (b : Fin B) (r : Fin R) (l : Fin W) :
    X (ix3 b r l) = flat3 X b (r.val * W + l.val) :=
  apply_eq_flat (R := R) (W := W) (fun j => X (ix3 (n1 := R) (n2 := W) b (j 0) (j 1))) r l

/-- Two arrays with the same row-major reading are equal. -/
theorem flat3_ext {B : ℕ} {X Y : (⟨3, ![B, R, W]⟩ : Shape).Idx → α} (h : ∀ b p, flat3 X b p = flat3 Y b p) : X = Y := by
  funext j
  rw [eq_ix3 j]
  exact (apply_eq_flat3 X _ _ _).trans ((h _ _).trans (apply_eq_flat3 Y _ _ _).symm)

/-- The row-major reading comes round after `R·W` elements. -/
theorem flat_add_total (X : (⟨2, ![R, W]⟩ : Shape).Idx → α) (p : ℕ) : flat X (p + R * W) = flat X p := by
  unfold flat
  congr 2
  · apply Fin.ext
    rw [Fin.val_ofNat, Fin.val_ofNat, Nat.add_mul_div_right _ _ posW, Nat.add_mod_right]
  · apply Fin.ext
    rw [Fin.val_ofNat, Fin.val_ofNat, Nat.add_mul_mod_self_right]

/-- The reading depends on the position modulo the number of elements. -/
theorem flat_mod (X : (⟨2, ![R, W]⟩ : Shape).Idx → α) (p : ℕ) : flat X (p % (R * W)) = flat X p := by
  have h : ∀ k q, flat X (q + k * (R * W)) = flat X q := by
    intro k
    induction k with
    | zero => intro q; rw [Nat.zero_mul, Nat.add_zero]
    | succ k ih => intro q; rw [Nat.succ_mul, ← Nat.add_assoc, flat_add_total, ih]
  conv_rhs => rw [← Nat.mod_add_div' p (R * W)]
  exact (h _ _).symm

/-- The rows of `X` rolled up by `R2`: the last `R1` rows, then the first `R2`. -/
theorem flat_rows {R1 R2 : ℕ} (X : (⟨2, ![R, W]⟩ : Shape).Idx → α)
    (h1 : (⟨2, ![R, W]⟩ : Shape).Slices ![R2, 0] ⟨2, ![R1, W]⟩) (h2 : (⟨2, ![R, W]⟩ : Shape).Slices ![0, 0] ⟨2, ![R2, W]⟩)
    (hc : Shape.Concatenates [⟨2, ![R1, W]⟩, ⟨2, ![R2, W]⟩] ⟨2, ![R, W]⟩ 0) (p : ℕ) (hR : R1 + R2 = R) :
    flat (concatenate ⟨2, ![R, W]⟩ 0 [⟨⟨2, ![R1, W]⟩, extractStridedSlice ⟨2, ![R1, W]⟩ ![R2, 0] X h1⟩,
      ⟨⟨2, ![R2, W]⟩, extractStridedSlice ⟨2, ![R2, W]⟩ ![0, 0] X h2⟩] hc) p = flat X (p + R2 * W) := by
  have hW := posW (W := W)
  have hRpos : 0 < R := Nat.pos_of_ne_zero (NeZero.ne R)
  set r := p / W % R with hr
  have hrlt : r < R := Nat.mod_lt _ hRpos
  have hx : flat X (p + R2 * W) = X (ix2 (Fin.ofNat R (r + R2)) (Fin.ofNat W p)) := by
    unfold flat
    congr 2
    · apply Fin.ext
      rw [Fin.val_ofNat, Fin.val_ofNat, Nat.add_mul_div_right _ _ hW, hr, Nat.mod_add_mod]
    · apply Fin.ext
      rw [Fin.val_ofNat, Fin.val_ofNat, Nat.add_mul_mod_self_right]
  rw [hx]
  unfold flat
  by_cases hlt : r < R1
  · rw [concatenate_pair_apply_left 0 _ _ hc _ rfl (ix2 ⟨r, hlt⟩ (Fin.ofNat W p)) (fun b => by
      match b with
      | ⟨0, _⟩ => exact hr
      | ⟨1, _⟩ => rfl)]
    refine extractStridedSlice_apply _ _ h1 _ _ (fun a => ?_)
    match a with
    | ⟨0, _⟩ => show (r + R2) % R = R2 + r; rw [Nat.mod_eq_of_lt (by omega), Nat.add_comm]
    | ⟨1, _⟩ => show _ = 0 + _; rw [Nat.zero_add]; rfl
  · rw [concatenate_pair_apply_right 0 _ _ hc _ rfl rfl (ix2 ⟨r - R1, by omega⟩ (Fin.ofNat W p)) (fun b hb => by
      match b with
      | ⟨0, _⟩ => exact absurd rfl hb
      | ⟨1, _⟩ => rfl) (by show r - R1 + R1 = r; omega)]
    refine extractStridedSlice_apply _ _ h2 _ _ (fun a => ?_)
    match a with
    | ⟨0, _⟩ =>
      show (r + R2) % R = 0 + (r - R1)
      rw [show r + R2 = (r - R1) + R by omega, Nat.add_mod_right, Nat.mod_eq_of_lt (by omega), Nat.zero_add]
    | ⟨1, _⟩ => show _ = 0 + _; rw [Nat.zero_add]; rfl

/-- Lanes `L2` and on of `A`, then the first `L2` lanes of `B`. -/
theorem flat_lanes {L1 L2 : ℕ} (A B : (⟨2, ![R, W]⟩ : Shape).Idx → α)
    (h1 : (⟨2, ![R, W]⟩ : Shape).Slices ![0, L2] ⟨2, ![R, L1]⟩) (h2 : (⟨2, ![R, W]⟩ : Shape).Slices ![0, 0] ⟨2, ![R, L2]⟩)
    (hc : Shape.Concatenates [⟨2, ![R, L1]⟩, ⟨2, ![R, L2]⟩] ⟨2, ![R, W]⟩ 1) (p : ℕ) (hL : L1 + L2 = W) :
    flat (concatenate ⟨2, ![R, W]⟩ 1 [⟨⟨2, ![R, L1]⟩, extractStridedSlice ⟨2, ![R, L1]⟩ ![0, L2] A h1⟩,
      ⟨⟨2, ![R, L2]⟩, extractStridedSlice ⟨2, ![R, L2]⟩ ![0, 0] B h2⟩] hc) p
      = if p % W < L1 then flat A (p + L2) else flat B (p - L1) := by
  have hW := posW (W := W)
  have hlt := Nat.mod_lt p hW
  have hp := Nat.mod_add_div p W
  by_cases h : p % W < L1
  · rw [if_pos h]
    unfold flat
    rw [concatenate_pair_apply_left 1 _ _ hc _ rfl (ix2 (Fin.ofNat R (p / W)) ⟨p % W, h⟩) (fun b => by
      match b with
      | ⟨0, _⟩ => rfl
      | ⟨1, _⟩ => rfl)]
    have e : p + L2 = (p % W + L2) + W * (p / W) := by omega
    refine extractStridedSlice_apply _ _ h1 _ _ (fun a => ?_)
    match a with
    | ⟨0, _⟩ =>
      show (p + L2) / W % R = 0 + p / W % R
      rw [e, Nat.add_mul_div_left _ _ hW, Nat.div_eq_of_lt (by omega : p % W + L2 < W), Nat.zero_add, Nat.zero_add]
    | ⟨1, _⟩ =>
      show (p + L2) % W = L2 + p % W
      rw [e, Nat.add_mul_mod_self_left, Nat.mod_eq_of_lt (by omega : p % W + L2 < W), Nat.add_comm]
  · rw [if_neg h]
    unfold flat
    rw [concatenate_pair_apply_right 1 _ _ hc _ rfl rfl (ix2 (Fin.ofNat R (p / W)) ⟨p % W - L1, by omega⟩) (fun b hb => by
      match b with
      | ⟨0, _⟩ => rfl
      | ⟨1, _⟩ => exact absurd rfl hb) (by show p % W - L1 + L1 = p % W; omega)]
    have e : p - L1 = (p % W - L1) + W * (p / W) := by omega
    refine extractStridedSlice_apply _ _ h2 _ _ (fun a => ?_)
    match a with
    | ⟨0, _⟩ =>
      show (p - L1) / W % R = 0 + p / W % R
      rw [e, Nat.add_mul_div_left _ _ hW, Nat.div_eq_of_lt (by omega : p % W - L1 < W), Nat.zero_add, Nat.zero_add]
    | ⟨1, _⟩ =>
      show (p - L1) % W = 0 + (p % W - L1)
      rw [e, Nat.add_mul_mod_self_left, Nat.mod_eq_of_lt (by omega : p % W - L1 < W), Nat.zero_add]

/-- A roll by `L2` lanes: the lanes that run over the end come from the next row. -/
theorem flat_roll_next {R1 L1 L2 : ℕ} (X : (⟨2, ![R, W]⟩ : Shape).Idx → α)
    (g1 : (⟨2, ![R, W]⟩ : Shape).Slices ![1, 0] ⟨2, ![R1, W]⟩) (g2 : (⟨2, ![R, W]⟩ : Shape).Slices ![0, 0] ⟨2, ![1, W]⟩)
    (gc : Shape.Concatenates [⟨2, ![R1, W]⟩, ⟨2, ![1, W]⟩] ⟨2, ![R, W]⟩ 0)
    (h1 : (⟨2, ![R, W]⟩ : Shape).Slices ![0, L2] ⟨2, ![R, L1]⟩) (h2 : (⟨2, ![R, W]⟩ : Shape).Slices ![0, 0] ⟨2, ![R, L2]⟩)
    (hc : Shape.Concatenates [⟨2, ![R, L1]⟩, ⟨2, ![R, L2]⟩] ⟨2, ![R, W]⟩ 1) (p : ℕ) (hR : R1 + 1 = R) (hL : L1 + L2 = W) :
    flat (concatenate ⟨2, ![R, W]⟩ 1 [⟨⟨2, ![R, L1]⟩, extractStridedSlice ⟨2, ![R, L1]⟩ ![0, L2] X h1⟩,
      ⟨⟨2, ![R, L2]⟩, extractStridedSlice ⟨2, ![R, L2]⟩ ![0, 0]
        (concatenate ⟨2, ![R, W]⟩ 0 [⟨⟨2, ![R1, W]⟩, extractStridedSlice ⟨2, ![R1, W]⟩ ![1, 0] X g1⟩,
          ⟨⟨2, ![1, W]⟩, extractStridedSlice ⟨2, ![1, W]⟩ ![0, 0] X g2⟩] gc) h2⟩] hc) p = flat X (p + L2) := by
  rw [flat_lanes _ _ _ _ _ _ hL]
  split
  · rfl
  · rename_i h
    have := Nat.mod_le p W
    rw [flat_rows _ _ _ _ _ hR]
    congr 1; omega

/-- A roll by `W − L1` lanes short of all the rows, that is, back by `L1` lanes. -/
theorem flat_roll_prev {R2 L1 L2 : ℕ} (X : (⟨2, ![R, W]⟩ : Shape).Idx → α)
    (g1 : (⟨2, ![R, W]⟩ : Shape).Slices ![R2, 0] ⟨2, ![1, W]⟩) (g2 : (⟨2, ![R, W]⟩ : Shape).Slices ![0, 0] ⟨2, ![R2, W]⟩)
    (gc : Shape.Concatenates [⟨2, ![1, W]⟩, ⟨2, ![R2, W]⟩] ⟨2, ![R, W]⟩ 0)
    (h1 : (⟨2, ![R, W]⟩ : Shape).Slices ![0, L2] ⟨2, ![R, L1]⟩) (h2 : (⟨2, ![R, W]⟩ : Shape).Slices ![0, 0] ⟨2, ![R, L2]⟩)
    (hc : Shape.Concatenates [⟨2, ![R, L1]⟩, ⟨2, ![R, L2]⟩] ⟨2, ![R, W]⟩ 1) (p : ℕ) (hR : 1 + R2 = R) (hL : L1 + L2 = W) :
    flat (concatenate ⟨2, ![R, W]⟩ 1 [⟨⟨2, ![R, L1]⟩, extractStridedSlice ⟨2, ![R, L1]⟩ ![0, L2]
        (concatenate ⟨2, ![R, W]⟩ 0 [⟨⟨2, ![1, W]⟩, extractStridedSlice ⟨2, ![1, W]⟩ ![R2, 0] X g1⟩,
          ⟨⟨2, ![R2, W]⟩, extractStridedSlice ⟨2, ![R2, W]⟩ ![0, 0] X g2⟩] gc) h1⟩,
      ⟨⟨2, ![R, L2]⟩, extractStridedSlice ⟨2, ![R, L2]⟩ ![0, 0] X h2⟩] hc) p = flat X (p + (R2 * W + L2)) := by
  rw [flat_lanes _ _ _ _ _ _ hL]
  split
  · rw [flat_rows _ _ _ _ _ hR]
    congr 1; omega
  · rename_i h
    have := Nat.mod_le p W
    rw [← flat_add_total]
    congr 1
    subst hR
    rw [Nat.add_mul, Nat.one_mul]
    omega

/-- A roll by `R2` rows and `L2` lanes. -/
theorem flat_roll {R1 R2 R1' R2' L1 L2 : ℕ} (X : (⟨2, ![R, W]⟩ : Shape).Idx → α)
    (g1 : (⟨2, ![R, W]⟩ : Shape).Slices ![R2, 0] ⟨2, ![R1, W]⟩) (g2 : (⟨2, ![R, W]⟩ : Shape).Slices ![0, 0] ⟨2, ![R2, W]⟩)
    (gc : Shape.Concatenates [⟨2, ![R1, W]⟩, ⟨2, ![R2, W]⟩] ⟨2, ![R, W]⟩ 0)
    (g1' : (⟨2, ![R, W]⟩ : Shape).Slices ![R2', 0] ⟨2, ![R1', W]⟩) (g2' : (⟨2, ![R, W]⟩ : Shape).Slices ![0, 0] ⟨2, ![R2', W]⟩)
    (gc' : Shape.Concatenates [⟨2, ![R1', W]⟩, ⟨2, ![R2', W]⟩] ⟨2, ![R, W]⟩ 0)
    (h1 : (⟨2, ![R, W]⟩ : Shape).Slices ![0, L2] ⟨2, ![R, L1]⟩) (h2 : (⟨2, ![R, W]⟩ : Shape).Slices ![0, 0] ⟨2, ![R, L2]⟩)
    (hc : Shape.Concatenates [⟨2, ![R, L1]⟩, ⟨2, ![R, L2]⟩] ⟨2, ![R, W]⟩ 1) (p : ℕ)
    (hR : R1 + R2 = R) (hR' : R1' + R2' = R) (hRR : R2 + 1 = R2') (hL : L1 + L2 = W) :
    flat (concatenate ⟨2, ![R, W]⟩ 1 [⟨⟨2, ![R, L1]⟩, extractStridedSlice ⟨2, ![R, L1]⟩ ![0, L2]
        (concatenate ⟨2, ![R, W]⟩ 0 [⟨⟨2, ![R1, W]⟩, extractStridedSlice ⟨2, ![R1, W]⟩ ![R2, 0] X g1⟩,
          ⟨⟨2, ![R2, W]⟩, extractStridedSlice ⟨2, ![R2, W]⟩ ![0, 0] X g2⟩] gc) h1⟩,
      ⟨⟨2, ![R, L2]⟩, extractStridedSlice ⟨2, ![R, L2]⟩ ![0, 0]
        (concatenate ⟨2, ![R, W]⟩ 0 [⟨⟨2, ![R1', W]⟩, extractStridedSlice ⟨2, ![R1', W]⟩ ![R2', 0] X g1'⟩,
          ⟨⟨2, ![R2', W]⟩, extractStridedSlice ⟨2, ![R2', W]⟩ ![0, 0] X g2'⟩] gc') h2⟩] hc) p = flat X (p + (R2 * W + L2)) := by
  rw [flat_lanes _ _ _ _ _ _ hL]
  split
  · rw [flat_rows _ _ _ _ _ hR]
    congr 1; omega
  · rename_i h
    have := Nat.mod_le p W
    rw [flat_rows _ _ _ _ _ hR']
    congr 1
    subst hRR
    rw [Nat.add_mul, Nat.one_mul]
    omega

/-- A reshape that keeps the batch axis keeps the row-major reading of every member. -/
theorem flat3_shapeCast {B R' W' : ℕ} [NeZero R'] [NeZero W'] (X : (⟨3, ![B, R, W]⟩ : Shape).Idx → α)
    (h : (⟨3, ![B, R, W]⟩ : Shape).ShapeCasts ⟨3, ![B, R', W']⟩) (b : Fin B) (p : ℕ) (hRW : R * W = R' * W') (hp : p < R * W) :
    flat3 (shapeCast ⟨3, ![B, R', W']⟩ X h) b p = flat3 X b p := by
  have hd : p / W < R := (Nat.div_lt_iff_lt_mul posW).2 hp
  have hd' : p / W' < R' := (Nat.div_lt_iff_lt_mul posW).2 (hRW ▸ hp)
  unfold flat3
  refine shapeCast_apply X h _ _ ?_
  rw [Shape.rowMajor_val_three, Shape.rowMajor_val_three]
  show (b.val * R + p / W % R) * W + p % W = (b.val * R' + p / W' % R') * W' + p % W'
  rw [Nat.mod_eq_of_lt hd, Nat.mod_eq_of_lt hd', Nat.add_mul, Nat.add_mul, Nat.mul_assoc, Nat.mul_assoc, hRW,
    Nat.add_assoc, Nat.add_assoc, Nat.div_add_mod' , Nat.div_add_mod']

/-- A batch of one, its unit axis dropped. -/
theorem flat_dropUnit (X : (⟨3, ![1, R, W]⟩ : Shape).Idx → α) (h : (⟨3, ![1, R, W]⟩ : Shape).ShapeCasts ⟨2, ![R, W]⟩) (p : ℕ) :
    flat (shapeCast ⟨2, ![R, W]⟩ X h) p = flat3 X 0 p := by
  unfold flat flat3
  refine shapeCast_apply X h _ _ ?_
  rw [Shape.rowMajor_val_three, Shape.rowMajor_val_two]
  show (0 * R + p / W % R) * W + p % W = p / W % R * W + p % W
  rw [Nat.zero_mul, Nat.zero_add]

/-- Elementwise operations read position by position. -/
theorem flat_addf (X Y : FVec Ideal ⟨2, ![R, W]⟩ .f32) (p : ℕ) : flat (addf X Y) p = (flat X p + flat Y p : EReal) := rfl
/-- A difference of tiles, at a position. -/
theorem flat_subf (X Y : FVec Ideal ⟨2, ![R, W]⟩ .f32) (p : ℕ) : flat (subf X Y) p = (flat X p - flat Y p : EReal) := rfl
/-- A product of tiles, at a position. -/
theorem flat_mulf (X Y : FVec Ideal ⟨2, ![R, W]⟩ .f32) (p : ℕ) : flat (mulf X Y) p = (flat X p * flat Y p : EReal) := rfl
/-- A constant tile, at a position. -/
theorem flat_broadcast (x : α) (p : ℕ) : flat (broadcast (⟨2, ![R, W]⟩ : Shape) x) p = x := rfl

/-- The batch of arrays whose members, read in row-major order, are given. -/
def unflat {B R W : ℕ} (F : Fin B → ℕ → EReal) : FVec Ideal ⟨3, ![B, R, W]⟩ .f32 :=
  fun i => F (i 0) ((i 1).val * W + (i 2).val)

/-- Reading such a batch gives the member back. -/
theorem flat3_unflat {B : ℕ} (F : Fin B → ℕ → EReal) (b : Fin B) (p : ℕ) (hp : p < R * W) :
    flat3 (unflat (R := R) (W := W) F) b p = F b p := by
  have hd : p / W < R := (Nat.div_lt_iff_lt_mul posW).2 hp
  show F b (p / W % R * W + p % W) = F b p
  rw [Nat.mod_eq_of_lt hd, Nat.div_add_mod']

/-- An index of a batch of one is a row and a lane. -/
theorem eq_block {R L : ℕ} (y : (⟨3, ![1, R, L]⟩ : Shape).Idx) : ∃ (r : Fin R) (l : Fin L), y = ix3 (0 : Fin 1) r l :=
  ⟨y 1, y 2, (eq_ix3 y).trans
    (congrArg (fun q : Fin 1 => ix3 (n1 := R) (n2 := L) q (y 1) (y 2)) (Subsingleton.elim (α := Fin 1) (y 0) 0))⟩

/-- The constants of the kernel. -/
theorem neg_eighth : (Scalar.ofBits .f32 0xBE000000#32 : Ideal .f32) = ((-(1 / 8) : ℝ) : EReal) := by
  show Ideal.ofBits .f32 0xBE000000#32 = _
  simp [Ideal.ofBits, Ideal.ieee, -EReal.coe_mul]; norm_num
/-- The literal two. -/
theorem two : (Scalar.ofBits .f32 0x40000000#32 : Ideal .f32) = ((2 : ℝ) : EReal) := by
  show Ideal.ofBits .f32 0x40000000#32 = _
  simp [Ideal.ofBits, Ideal.ieee, -EReal.coe_mul]; norm_num
/-- The literal one quarter. -/
theorem quarter : (Scalar.ofBits .f32 0x3E800000#32 : Ideal .f32) = ((1 / 4 : ℝ) : EReal) := by
  show Ideal.ofBits .f32 0x3E800000#32 = _
  simp [Ideal.ofBits, Ideal.ieee, -EReal.coe_mul]; norm_num
/-- The literal zero. -/
theorem zero : (Scalar.ofBits .f32 0x00000000#32 : Ideal .f32) = (0 : EReal) := by
  show Ideal.ofBits .f32 0x00000000#32 = _
  simp [Ideal.ofBits, Ideal.ieee]

/-- Reading an array in row-major order comes round after all its positions. -/
theorem flat3_mod {B : ℕ} (X : (⟨3, ![B, R, W]⟩ : Shape).Idx → α) (b : Fin B) (p : ℕ) :
    flat3 X b (p % (R * W)) = flat3 X b p :=
  flat_mod (R := R) (W := W) (fun i => X (ix3 b (i 0) (i 1))) p

end Cert.Flat

end
-- ==== Proof.Fields.lean ====
/- The mathematics of the network, on fields read in row-major order.

   A field of `n` pixels with `C` channels is a function of one position: pixel `i`, channel `c` sits at `i·C + c`, and the
   positions come round after `n·C`. Every pixel has eight neighbours, at fixed pixel offsets, so that summing a field over
   the neighbours adds eight shifted copies (`nbr`). On it: the Chebyshev fields (`cheb`), one graph convolution (`conv`),
   the pooling of four consecutive pixels (`pool4`), the five layers (`enc1`, `enc2`, `mid`, `dec1`, `dec2`) and their
   composite (`net`). -/
module

public import Idealize.ShloMosaic.Lib.Pipeline.ValueKit
public import Idealize.ShloMosaic.Lib.ValueIdx

@[expose] public section

noncomputable section

namespace Cert.Fields

open scoped BigOperators

/-- A field summed over the eight neighbours of every pixel, in the order of the edges. -/
def nbr (n C : ℕ) (f : ℕ → EReal) (p : ℕ) : EReal :=
  f (p + C * 1) + f (p + C * (n - 1)) + f (p + C * 2) + f (p + C * (n - 2)) + f (p + C * (n / 4)) + f (p + C * (n - n / 4))
    + f (p + C * (n / 2 + 1)) + f (p + C * (n - (n / 2 + 1)))

/-- The Chebyshev fields: `T₀ = f`, `T₁ = −A f`, `Tₖ₊₂ = 2·(−A Tₖ₊₁) − Tₖ`, with `A` the mean over the neighbours. -/
def cheb (n C : ℕ) (f : ℕ → EReal) : ℕ → ℕ → EReal
  | 0 => f
  | 1 => fun p => nbr n C f p * ((-(1 / 8) : ℝ) : EReal)
  | k + 2 => fun p => ((2 : ℝ) : EReal) * (nbr n C (cheb n C f (k + 1)) p * ((-(1 / 8) : ℝ) : EReal)) - cheb n C f k p

/-- One term of a convolution: Chebyshev field `k` at pixel `i`, multiplied into the weights of output channel `o`. -/
def term (n C : ℕ) (w : ℕ → ℕ → ℕ → EReal) (f : ℕ → EReal) (i o k : ℕ) : EReal :=
  ∑ c ∈ Finset.range C, cheb n C f k (i * C + c) * w k c o

/-- The convolution at pixel `i`, output channel `o`: its four terms. -/
def conv (n C : ℕ) (w : ℕ → ℕ → ℕ → EReal) (f : ℕ → EReal) (i o : ℕ) : EReal :=
  term n C w f i o 0 + term n C w f i o 1 + term n C w f i o 2 + term n C w f i o 3

/-- The sum over four consecutive pixels `4i … 4i+3`. -/
def sum4 (g : ℕ → EReal) (i : ℕ) : EReal := g (4 * i) + g (4 * i + 1) + g (4 * i + 2) + g (4 * i + 3)

/-- Their mean. -/
def pool4 (g : ℕ → EReal) (i : ℕ) : EReal := sum4 g i * ((1 / 4 : ℝ) : EReal)

/-- A convolution, its negative values cut off: the field of its `O` channels. -/
def reluConv (n C O : ℕ) (w : ℕ → ℕ → ℕ → EReal) (f : ℕ → EReal) (p : ℕ) : EReal :=
  max (conv n C w f (p / O) (p % O)) 0

/-- The same, pooled. -/
def poolConv (n C O : ℕ) (w : ℕ → ℕ → ℕ → EReal) (f : ℕ → EReal) (p : ℕ) : EReal :=
  pool4 (fun i => max (conv n C w f i (p % O)) 0) (p / O)

/-- A field of `C` channels with every pixel repeated four times. -/
def unpool (C : ℕ) (f : ℕ → EReal) (p : ℕ) : EReal := f (p / C / 4 * C + p % C)

/-- The field read modulo `N` positions. -/
def wrap (N : ℕ) (f : ℕ → EReal) (p : ℕ) : EReal := f (p % N)

/-- The first encoder layer. -/
def enc1 (w : ℕ → ℕ → ℕ → EReal) (f : ℕ → EReal) : ℕ → EReal := wrap 786432 (poolConv 196608 1 16 w f)

/-- The second encoder layer. -/
def enc2 (w : ℕ → ℕ → ℕ → EReal) (f : ℕ → EReal) : ℕ → EReal := wrap 393216 (poolConv 49152 16 32 w f)

/-- The layer at the coarsest level. -/
def mid (w : ℕ → ℕ → ℕ → EReal) (f : ℕ → EReal) : ℕ → EReal := wrap 196608 (reluConv 12288 32 16 w f)

/-- The first decoder layer. -/
def dec1 (w : ℕ → ℕ → ℕ → EReal) (f : ℕ → EReal) : ℕ → EReal := wrap 786432 (reluConv 49152 16 16 w (unpool 16 f))

/-- The second decoder layer. -/
def dec2 (w : ℕ → ℕ → ℕ → EReal) (f : ℕ → EReal) : ℕ → EReal := wrap 196608 fun p => conv 196608 16 w (unpool 16 f) p 0

/-- The network. -/
def net (w0 w1 w2 w3 w4 : ℕ → ℕ → ℕ → EReal) (f : ℕ → EReal) : ℕ → EReal := dec2 w4 (dec1 w3 (mid w2 (enc2 w1 (enc1 w0 f))))

/-- Multiplying a neighbour sum by `−1/8` is minus the sum of the neighbours' eighths. -/
theorem nbr_mul (n C : ℕ) (f : ℕ → EReal) (p : ℕ) :
    nbr n C f p * ((-(1 / 8) : ℝ) : EReal) = -nbr n C (fun q => f q * ((1 / 8 : ℝ) : EReal)) p := by
  have h0 : (0 : EReal) ≤ ((1 / 8 : ℝ) : EReal) := by exact_mod_cast (by norm_num : (0 : ℝ) ≤ 1 / 8)
  have ht : ((1 / 8 : ℝ) : EReal) ≠ ⊤ := EReal.coe_ne_top _
  rw [EReal.coe_neg, mul_comm, EReal.neg_mul, mul_comm]
  unfold nbr
  simp only [EReal.right_distrib_of_nonneg_of_ne_top h0 ht]

end Cert.Fields

end
-- ==== Proof.Blocks.lean ====
/- Matrix products with block-diagonal weights: one row of the left operand holds several pixels, and each column of the
   right operand takes the channels of one of them. -/
module

public import Idealize.ShloMosaic.Lib.Pipeline.ValueKit
public import Idealize.ShloMosaic.Lib.MatmulPlain
public import Idealize.ShloMosaic.Lib.ValueIdx
public import proofs.«01_k».proof.Proof.Flat
public import proofs.«01_k».proof.Proof.Fields

@[expose] public section

noncomputable section

namespace Cert.Blocks

open Idealize.ShloMosaic hiding ix0 ix1 ix2 ix3 ix4 ix5 eq_ix1 eq_ix2 eq_ix3 eq_ix4 eq_ix5
open Idealize.ShloMosaic.ValueIdx
open Cert.Flat Cert.Fields
open scoped BigOperators

/-- A sum against a column that vanishes outside block `q` is the sum over that block. -/
theorem sum_block {K cin q : ℕ} (a : ℕ → EReal) (w : ℕ → EReal) (h0 : 0 < cin) (hK : (q + 1) * cin ≤ K) :
    (∑ i : Fin K, a i * (if i / cin = q then w (i % cin) else 0)) = ∑ c ∈ Finset.range cin, a (q * cin + c) * w c := by
  rw [Finset.sum_fin_eq_sum_range]
  have hsub : (Finset.range cin).map (addLeftEmbedding (q * cin)) ⊆ Finset.range K := by
    intro i hi
    simp only [Finset.mem_map, Finset.mem_range, addLeftEmbedding_apply] at hi ⊢
    obtain ⟨c, hc, rfl⟩ := hi
    rw [Nat.add_mul, one_mul] at hK; omega
  rw [← Finset.sum_subset hsub, Finset.sum_map]
  · refine Finset.sum_congr rfl fun c hc => ?_
    have hc := Finset.mem_range.1 hc
    have hlt : q * cin + c < K := by rw [Nat.add_mul, one_mul] at hK; omega
    have h1 : (q * cin + c) / cin = q := by
      rw [mul_comm, Nat.mul_add_div (by omega), Nat.div_eq_of_lt hc, add_zero]
    have h2 : (q * cin + c) % cin = c := by rw [mul_comm, Nat.mul_add_mod, Nat.mod_eq_of_lt hc]
    simp only [addLeftEmbedding_apply, hlt, dite_true, h1, h2, if_true]
  · intro i hi hn
    have hi := Finset.mem_range.1 hi
    simp only [hi, dite_true]
    rw [if_neg, mul_zero]
    intro hq
    apply hn
    simp only [Finset.mem_map, Finset.mem_range, addLeftEmbedding_apply]
    have hd := Nat.div_add_mod i cin
    rw [hq, mul_comm] at hd
    exact ⟨i % cin, Nat.mod_lt _ h0, hd⟩

/-- Weights laid out block-diagonally: for every Chebyshev order `k`, entry `(i, j)` joins channel `i % cin` of pixel
    `i / cin` to output channel `j % cout` of pixel `j / cout`, and is zero between different pixels. -/
def BlockDiag {K L : ℕ} (X : (⟨3, ![4, K, L]⟩ : Shape).Idx → EReal) (cin cout : ℕ) (w : ℕ → ℕ → ℕ → EReal) : Prop :=
  ∀ (k : Fin 4) (i : Fin K) (j : Fin L), X (ix3 k i j) = if i.val / cin = j.val / cout then w k (i % cin) (j % cout) else 0

/-- One product: the packed field times a matrix whose column is a block of weights. -/
theorem matmul_term {R K N : ℕ} [NeZero R] [NeZero K] (A : FVec Ideal ⟨2, ![R, K]⟩ .f32) (B : FVec Ideal ⟨2, ![K, N]⟩ .f32)
    (n cin P q o k : ℕ) (f : ℕ → EReal) (w : ℕ → ℕ → ℕ → EReal) (r : Fin R) (j : Fin N)
    (hA : flat A = cheb n cin f k)
    (hB : ∀ i : Fin K, B (ix2 i j) = if i.val / cin = q then w k (i % cin) o else 0)
    (hP : P * cin = K) (hq : q < P) (h0 : 0 < cin) :
    matmul (DotDims.plain R K N) none A B (constant ⟨2, ![R, N]⟩ .f32 0x00000000#32) (ix2 r j) = term n cin w f (r * P + q) o k := by
  refine (Ideal.matmul_plain_apply none A B _ r j).trans ?_
  have hz : (constant (F := Ideal) ⟨2, ![R, N]⟩ .f32 0x00000000#32 (ix2 r j) : EReal) = 0 := zero
  rw [hz, zero_add]
  have h1 : ∀ i : Fin K, A (ix2 r i) * B (ix2 i j)
      = cheb n cin f k (r * K + i) * (if i.val / cin = q then w k (i % cin) o else 0) := by
    intro i; rw [hB, apply_eq_flat A, hA]
  refine (Finset.sum_congr rfl fun i _ => h1 i).trans ?_
  refine (sum_block (fun i => cheb n cin f k (r * K + i)) (fun c => w k c o) h0
    (by rw [← hP]; exact Nat.mul_le_mul_right _ hq)).trans ?_
  unfold term
  refine Finset.sum_congr rfl fun c _ => ?_
  have : r.val * K + (q * cin + c) = (r * P + q) * cin + c := by rw [← hP, Nat.add_mul, Nat.mul_assoc, Nat.add_assoc]
  simp only [this]

/-- The `N` columns of the weights of order `kk` from column `j0` on, as a matrix. -/
abbrev window {K L N j0 kk : ℕ} (X : (⟨3, ![4, K, L]⟩ : Shape).Idx → EReal)
    (inb : ∀ a, (![kk, 0, j0] : Fin 3 → ℕ) a + (![1, K, N] : Fin 3 → ℕ) a ≤ (⟨3, ![4, K, L]⟩ : Shape).size a)
    (h : (⟨3, ![1, K, N]⟩ : Shape).ShapeCasts ⟨2, ![K, N]⟩) : FVec Ideal ⟨2, ![K, N]⟩ .f32 :=
  shapeCast ⟨2, ![K, N]⟩ (View.ld (Val := Elt Ideal) (e' := .f32) X (Rect.unit (s := ⟨3, ![4, K, L]⟩) ![kk, 0, j0] ![1, K, N] inb)) h

/-- An entry of such a window. -/
theorem window_apply {K L N j0 kk : ℕ} (X : (⟨3, ![4, K, L]⟩ : Shape).Idx → EReal) (cin cout : ℕ) (w : ℕ → ℕ → ℕ → EReal)
    (hX : BlockDiag X cin cout w)
    (inb : ∀ a, (![kk, 0, j0] : Fin 3 → ℕ) a + (![1, K, N] : Fin 3 → ℕ) a ≤ (⟨3, ![4, K, L]⟩ : Shape).size a)
    (h : (⟨3, ![1, K, N]⟩ : Shape).ShapeCasts ⟨2, ![K, N]⟩) (i : Fin K) (j : Fin N) :
    window X inb h (ix2 i j)
      = if i.val / cin = (j0 + j) / cout then w kk (i % cin) ((j0 + j) % cout) else 0 := by
  have hk := inb 0
  have hj := inb 2
  simp at hk hj
  refine (shapeCast_apply _ h _ (ix3 0 i j) ?_).trans ?_
  · rw [Shape.rowMajor_val_two, Shape.rowMajor_val_three]; simp; rfl
  refine (View.ld_unit_apply_of (Val := Elt Ideal) (e := .f32) X _ _ inb _ (ix3 ⟨kk, by omega⟩ i ⟨j0 + j, by omega⟩) ?_).trans ?_
  · intro a; fin_cases a <;> simp
  exact hX _ _ _

/-- The four products of a convolution added up: the convolution at one pixel and output channel. -/
theorem conv_apply {R K N : ℕ} [NeZero R] [NeZero K] (A0 A1 A2 A3 : FVec Ideal ⟨2, ![R, K]⟩ .f32)
    (B0 B1 B2 B3 : FVec Ideal ⟨2, ![K, N]⟩ .f32)
    (n cin P q o : ℕ) (f : ℕ → EReal) (w : ℕ → ℕ → ℕ → EReal) (r : Fin R) (j : Fin N)
    (h0 : flat A0 = cheb n cin f 0) (h1 : flat A1 = cheb n cin f 1) (h2 : flat A2 = cheb n cin f 2) (h3 : flat A3 = cheb n cin f 3)
    (g0 : ∀ i : Fin K, B0 (ix2 i j) = if i.val / cin = q then w 0 (i % cin) o else 0)
    (g1 : ∀ i : Fin K, B1 (ix2 i j) = if i.val / cin = q then w 1 (i % cin) o else 0)
    (g2 : ∀ i : Fin K, B2 (ix2 i j) = if i.val / cin = q then w 2 (i % cin) o else 0)
    (g3 : ∀ i : Fin K, B3 (ix2 i j) = if i.val / cin = q then w 3 (i % cin) o else 0)
    (hP : P * cin = K) (hq : q < P) (hc : 0 < cin) :
    addf (addf (addf (matmul (DotDims.plain R K N) none A0 B0 (constant ⟨2, ![R, N]⟩ .f32 0x00000000#32))
      (matmul (DotDims.plain R K N) none A1 B1 (constant ⟨2, ![R, N]⟩ .f32 0x00000000#32)))
      (matmul (DotDims.plain R K N) none A2 B2 (constant ⟨2, ![R, N]⟩ .f32 0x00000000#32)))
      (matmul (DotDims.plain R K N) none A3 B3 (constant ⟨2, ![R, N]⟩ .f32 0x00000000#32)) (ix2 r j)
      = conv n cin w f (r * P + q) o := by
  have t0 := matmul_term A0 B0 n cin P q o 0 f w r j h0 g0 hP hq hc
  have t1 := matmul_term A1 B1 n cin P q o 1 f w r j h1 g1 hP hq hc
  have t2 := matmul_term A2 B2 n cin P q o 2 f w r j h2 g2 hP hq hc
  have t3 := matmul_term A3 B3 n cin P q o 3 f w r j h3 g3 hP hq hc
  simp only [addf_apply, t0, t1, t2, t3]
  rfl

/-- The convolution against four windows of block-diagonal weights, each starting at column `j0`. -/
theorem conv_window {R K L N j0 : ℕ} [NeZero R] [NeZero K] (A0 A1 A2 A3 : FVec Ideal ⟨2, ![R, K]⟩ .f32)
    (X : (⟨3, ![4, K, L]⟩ : Shape).Idx → EReal)
    (n cin cout P : ℕ) (f : ℕ → EReal) (w : ℕ → ℕ → ℕ → EReal) (hX : BlockDiag X cin cout w) (r : Fin R) (j : Fin N)
    (h0 : flat A0 = cheb n cin f 0) (h1 : flat A1 = cheb n cin f 1) (h2 : flat A2 = cheb n cin f 2) (h3 : flat A3 = cheb n cin f 3)
    (i0 : ∀ a, (![0, 0, j0] : Fin 3 → ℕ) a + (![1, K, N] : Fin 3 → ℕ) a ≤ (⟨3, ![4, K, L]⟩ : Shape).size a)
    (i1 : ∀ a, (![1, 0, j0] : Fin 3 → ℕ) a + (![1, K, N] : Fin 3 → ℕ) a ≤ (⟨3, ![4, K, L]⟩ : Shape).size a)
    (i2 : ∀ a, (![2, 0, j0] : Fin 3 → ℕ) a + (![1, K, N] : Fin 3 → ℕ) a ≤ (⟨3, ![4, K, L]⟩ : Shape).size a)
    (i3 : ∀ a, (![3, 0, j0] : Fin 3 → ℕ) a + (![1, K, N] : Fin 3 → ℕ) a ≤ (⟨3, ![4, K, L]⟩ : Shape).size a)
    (h : (⟨3, ![1, K, N]⟩ : Shape).ShapeCasts ⟨2, ![K, N]⟩)
    (hP : P * cin = K) (hL : L = P * cout) (hc : 0 < cin) :
    addf (addf (addf
      (matmul (DotDims.plain R K N) none A0 (window X i0 h) (constant ⟨2, ![R, N]⟩ .f32 0x00000000#32))
      (matmul (DotDims.plain R K N) none A1 (window X i1 h) (constant ⟨2, ![R, N]⟩ .f32 0x00000000#32)))
      (matmul (DotDims.plain R K N) none A2 (window X i2 h) (constant ⟨2, ![R, N]⟩ .f32 0x00000000#32)))
      (matmul (DotDims.plain R K N) none A3 (window X i3 h) (constant ⟨2, ![R, N]⟩ .f32 0x00000000#32)) (ix2 r j)
      = conv n cin w f (r * P + (j0 + j) / cout) ((j0 + j) % cout) := by
  have hj := i0 2
  simp at hj
  refine conv_apply A0 A1 A2 A3 _ _ _ _ n cin P _ _ f w r j h0 h1 h2 h3
    (fun i => window_apply X cin cout w hX i0 h i j) (fun i => window_apply X cin cout w hX i1 h i j)
    (fun i => window_apply X cin cout w hX i2 h i j) (fun i => window_apply X cin cout w hX i3 h i j) hP ?_ hc
  have hjN := j.isLt
  rw [Nat.div_lt_iff_lt_mul (by rcases Nat.eq_zero_or_pos cout with h | h; · subst h; rw [Nat.mul_zero] at hL; omega
                                · exact h)]
  omega

/-- The zero-one matrix that repeats each of the pixels of a row (of `C` channels) four times. -/
def Repeats {K L : ℕ} (U : (⟨2, ![K, L]⟩ : Shape).Idx → EReal) (C : ℕ) : Prop :=
  ∀ (i : Fin K) (j : Fin L), U (ix2 i j) = if i.val = j.val / C / 4 * C + j.val % C then 1 else 0

/-- Multiplying a packed field by it repeats every pixel four times. -/
theorem flat_repeat {R K L : ℕ} [NeZero R] [NeZero K] [NeZero L] (prec : Option ContractPrecision) (A : FVec Ideal ⟨2, ![R, K]⟩ .f32)
    (U : FVec Ideal ⟨2, ![K, L]⟩ .f32) (C P : ℕ) (hU : Repeats U C) (hK : K = P * C) (hL : L = 4 * K) (hC : 0 < C) :
    flat (matmul (DotDims.plain R K L) prec A U (constant ⟨2, ![R, L]⟩ .f32 0x00000000#32)) = unpool C (flat A) := by
  funext p
  have hKp : 0 < K := Nat.pos_of_ne_zero (NeZero.ne K)
  refine (Ideal.matmul_plain_apply prec A U _ _ _).trans ?_
  have hz : ∀ i, (constant (F := Ideal) ⟨2, ![R, L]⟩ .f32 0x00000000#32 i : EReal) = 0 := fun _ => zero
  rw [hz, zero_add]
  have hcol : (p % L) / C / 4 * C + (p % L) % C < K := by
    have h1 : p % L < L := Nat.mod_lt _ (by omega)
    have h2 : (p % L) / C / 4 < P := by
      rw [Nat.div_div_eq_div_mul, Nat.div_lt_iff_lt_mul (by omega)]
      calc p % L < L := h1
        _ = P * (C * 4) := by rw [hL, hK]; ring
    have h3 := Nat.mod_lt (p % L) hC
    have h4 : ((p % L) / C / 4 + 1) * C ≤ P * C := Nat.mul_le_mul_right _ h2
    rw [hK]; linarith [Nat.add_mul ((p % L) / C / 4) 1 C]
  rw [Finset.sum_eq_single (⟨(p % L) / C / 4 * C + (p % L) % C, hcol⟩ : Fin K)]
  · rw [hU, if_pos (by rfl), mul_one]
    have hp : p / C / 4 * C + p % C = p / L * K + ((p % L) / C / 4 * C + (p % L) % C) := by
      have e : L = C * 4 * P := by rw [hL, hK]; ring
      have hd := Nat.div_add_mod p L
      have e1 : p / C / 4 = p / L * P + (p % L) / C / 4 := by
        rw [Nat.div_div_eq_div_mul, Nat.div_div_eq_div_mul]
        conv_lhs => rw [← hd, e, Nat.mul_assoc, Nat.add_comm, Nat.add_mul_div_left _ _ (by omega)]
        rw [e]; ring
      have e2 : p % C = (p % L) % C := by rw [e, Nat.mul_assoc, Nat.mod_mul_right_mod]
      rw [e1, e2, hK]; ring
    unfold unpool flat
    have q1 : (p / C / 4 * C + p % C) / K = p / L := by
      rw [hp, Nat.mul_comm, Nat.mul_add_div hKp, Nat.div_eq_of_lt hcol, Nat.add_zero]
    have q2 : (Fin.ofNat K (p / C / 4 * C + p % C)) = ⟨(p % L) / C / 4 * C + (p % L) % C, hcol⟩ := by
      refine Fin.ext ?_
      show (p / C / 4 * C + p % C) % K = _
      rw [hp, Nat.mul_comm, Nat.mul_add_mod, Nat.mod_eq_of_lt hcol]
    rw [q1, q2]
  · intro i _ hi
    rw [hU, if_neg, mul_zero]
    intro h
    exact hi (Fin.ext h)
  · intro h; exact absurd (Finset.mem_univ _) h

/-- Cutting lanes out of a field, read at its flat positions. -/
theorem slice_lanes {α : Type} {R W L a : ℕ} [NeZero R] [NeZero W] (X : (⟨2, ![R, W]⟩ : Shape).Idx → α)
    (h : (⟨2, ![R, W]⟩ : Shape).Slices ![0, a] ⟨2, ![R, L]⟩) (r : Fin R) (o : Fin L) :
    extractStridedSlice ⟨2, ![R, L]⟩ ![0, a] X h (ix2 r o) = flat X (r * W + (a + o)) := by
  have hb : a + L ≤ W := h.2 1
  rw [← apply_eq_flat X r ⟨a + o, by omega⟩]
  exact extractStridedSlice_apply _ X h _ _ fun b => by fin_cases b <;> simp

/-- Eight pieces of `L` lanes, as the list that is concatenated. -/
abbrev eight {α : Type} {R L : ℕ} (p0 p1 p2 p3 p4 p5 p6 p7 : (⟨2, ![R, L]⟩ : Shape).Idx → α) : List ((s : Shape) × (s.Idx → α)) :=
  [⟨⟨2, ![R, L]⟩, p0⟩, ⟨⟨2, ![R, L]⟩, p1⟩, ⟨⟨2, ![R, L]⟩, p2⟩, ⟨⟨2, ![R, L]⟩, p3⟩, ⟨⟨2, ![R, L]⟩, p4⟩, ⟨⟨2, ![R, L]⟩, p5⟩, ⟨⟨2, ![R, L]⟩, p6⟩, ⟨⟨2, ![R, L]⟩, p7⟩]

/-- Eight pieces of `L` lanes side by side: lane `l` lies in piece `l / L`. -/
theorem concat_eight {α : Type} {R L N : ℕ} (p0 p1 p2 p3 p4 p5 p6 p7 : (⟨2, ![R, L]⟩ : Shape).Idx → α)
    (h : Shape.Concatenates ((eight p0 p1 p2 p3 p4 p5 p6 p7).map (·.1)) ⟨2, ![R, N]⟩ 1)
    (r : Fin R) (l : Fin N) (G : ℕ → ℕ → α)
    (h0 : ∀ o : Fin L, p0 (ix2 r o) = G 0 o) (h1 : ∀ o : Fin L, p1 (ix2 r o) = G 1 o)
    (h2 : ∀ o : Fin L, p2 (ix2 r o) = G 2 o) (h3 : ∀ o : Fin L, p3 (ix2 r o) = G 3 o)
    (h4 : ∀ o : Fin L, p4 (ix2 r o) = G 4 o) (h5 : ∀ o : Fin L, p5 (ix2 r o) = G 5 o)
    (h6 : ∀ o : Fin L, p6 (ix2 r o) = G 6 o) (h7 : ∀ o : Fin L, p7 (ix2 r o) = G 7 o) (hN : N = 8 * L) :
    concatenate ⟨2, ![R, N]⟩ 1 (eight p0 p1 p2 p3 p4 p5 p6 p7) h (ix2 r l)
      = G (l / L) (l % L) := by
  have hL : 0 < L := by have := l.isLt; omega
  have hq : l.val / L < 8 := by rw [Nat.div_lt_iff_lt_mul hL]; omega
  have hd := Nat.div_add_mod l.val L
  generalize hq' : l.val / L = q at hq hd ⊢
  have key : ∀ (k : ℕ) (p : (⟨2, ![R, L]⟩ : Shape).Idx → α) (hk : k < 8)
      (hp : (eight p0 p1 p2 p3 p4 p5 p6 p7)[k] = ⟨⟨2, ![R, L]⟩, p⟩)
      (hg : ∀ o : Fin L, p (ix2 r o) = G k o) (hkq : q = k),
      concatenate ⟨2, ![R, N]⟩ 1 (eight p0 p1 p2 p3 p4 p5 p6 p7) h (ix2 r l)
        = G q (l % L) := by
    intro k p hk hp hg hkq
    subst hkq
    refine (concatenate_apply_piece (t := ⟨2, ![R, N]⟩) 1 (eight p0 p1 p2 p3 p4 p5 p6 p7) h _ q (by simpa using hk) ⟨2, ![R, L]⟩ p hp rfl (L * q) ?_
      (ix2 r ⟨l.val % L, Nat.mod_lt _ hL⟩) ?_ ?_).trans (hg _)
    · interval_cases q <;> simp <;> ring
    · intro b hb; fin_cases b
      · rfl
      · exact absurd rfl hb
    · exact hd
  interval_cases q
  · exact key 0 p0 (by omega) rfl h0 rfl
  · exact key 1 p1 (by omega) rfl h1 rfl
  · exact key 2 p2 (by omega) rfl h2 rfl
  · exact key 3 p3 (by omega) rfl h3 rfl
  · exact key 4 p4 (by omega) rfl h4 rfl
  · exact key 5 p5 (by omega) rfl h5 rfl
  · exact key 6 p6 (by omega) rfl h6 rfl
  · exact key 7 p7 (by omega) rfl h7 rfl

/-- Adding a leading axis of one entry keeps the values. -/
theorem addUnit_apply {α : Type} {R W : ℕ} (X : (⟨2, ![R, W]⟩ : Shape).Idx → α)
    (h : (⟨2, ![R, W]⟩ : Shape).ShapeCasts ⟨3, ![1, R, W]⟩) (r : Fin R) (l : Fin W) :
    shapeCast ⟨3, ![1, R, W]⟩ X h (ix3 0 r l) = X (ix2 r l) := by
  refine shapeCast_apply _ h _ _ ?_
  rw [Shape.rowMajor_val_two, Shape.rowMajor_val_three]; simp; rfl

/-- Four neighbouring groups of `cout` lanes added up: the sum over four consecutive pixels. -/
theorem sum_piece {R N cout a0 a1 a2 a3 : ℕ} [NeZero R] [NeZero N] (X : FVec Ideal ⟨2, ![R, N]⟩ .f32)
    (h0 : (⟨2, ![R, N]⟩ : Shape).Slices ![0, a0] ⟨2, ![R, cout]⟩) (h1 : (⟨2, ![R, N]⟩ : Shape).Slices ![0, a1] ⟨2, ![R, cout]⟩)
    (h2 : (⟨2, ![R, N]⟩ : Shape).Slices ![0, a2] ⟨2, ![R, cout]⟩) (h3 : (⟨2, ![R, N]⟩ : Shape).Slices ![0, a3] ⟨2, ![R, cout]⟩)
    (r : Fin R) (o : Fin cout) (P q j0 : ℕ) (g : ℕ → ℕ → EReal)
    (hX : ∀ j : Fin N, X (ix2 r j) = g (r * (4 * P) + (j0 + j) / cout) ((j0 + j) % cout))
    (e0 : j0 + a0 = 4 * q * cout) (e1 : a1 = a0 + cout) (e2 : a2 = a0 + 2 * cout) (e3 : a3 = a0 + 3 * cout) :
    addf (addf (addf (extractStridedSlice ⟨2, ![R, cout]⟩ ![0, a0] X h0) (extractStridedSlice ⟨2, ![R, cout]⟩ ![0, a1] X h1))
      (extractStridedSlice ⟨2, ![R, cout]⟩ ![0, a2] X h2)) (extractStridedSlice ⟨2, ![R, cout]⟩ ![0, a3] X h3) (ix2 r o)
      = sum4 (fun i => g i o) (r * P + q) := by
  have ho := o.isLt
  have key : ∀ (a k : ℕ) (h : (⟨2, ![R, N]⟩ : Shape).Slices ![0, a] ⟨2, ![R, cout]⟩), a = a0 + k * cout →
      extractStridedSlice ⟨2, ![R, cout]⟩ ![0, a] X h (ix2 r o) = g (4 * (r * P + q) + k) o := by
    intro a k h e
    have hb : a + cout ≤ N := h.2 1
    have hj : j0 + (a + o) = cout * (4 * q + k) + o := by rw [e]; linarith [e0]
    rw [slice_lanes X h r o, ← apply_eq_flat X r ⟨a + o, by omega⟩, hX]
    simp only [hj]
    rw [Nat.mul_add_div (by omega), Nat.div_eq_of_lt ho, Nat.mul_add_mod, Nat.mod_eq_of_lt ho]
    congr 1; ring
  simp only [addf_apply, key a0 0 h0 (by omega), key a1 1 h1 (by omega), key a2 2 h2 e2, key a3 3 h3 e3]
  rfl

/-- Tiles stored side by side: every index has the value of the tile that holds it. -/
theorem canon_tiles {R W : ℕ} (L : List (View.Piece (Elt Ideal) ⟨3, ![1, R, W]⟩ .f32)) (G : ℕ → ℕ → EReal) (r : Fin R) (l : Fin W)
    (hc : ∃ p ∈ L, ix3 0 r l ∈ p.1.set) (h : ∀ p ∈ L, ∀ x, p.2 x = G (p.1.emb x 1).val (p.1.emb x 2).val) :
    View.canon L (ix3 0 r l) = G r l := by
  refine View.canon_eq_of_allAt L _ _ hc fun p hp x hx => ?_
  rw [h p hp x, hx]; rfl

/-- A tile of all rows and the lanes from `j0` on, whose entries are given. -/
theorem tile_apply {R W N j0 : ℕ} (inb : ∀ a, (![0, 0, j0] : Fin 3 → ℕ) a + (![1, R, N] : Fin 3 → ℕ) a ≤ (⟨3, ![1, R, W]⟩ : Shape).size a)
    (v : Vec Ideal ⟨3, ![1, R, N]⟩ .f32) (G : ℕ → ℕ → EReal) (hv : ∀ r l, v (ix3 0 r l) = G r (j0 + l))
    (x : (⟨3, ![1, R, N]⟩ : Shape).Idx) :
    v x = G ((Rect.unit (s := ⟨3, ![1, R, W]⟩) ![0, 0, j0] ![1, R, N] inb).emb x 1).val
      ((Rect.unit (s := ⟨3, ![1, R, W]⟩) ![0, 0, j0] ![1, R, N] inb).emb x 2).val := by
  have e1 := Rect.idx_unit_val (s := ⟨3, ![1, R, W]⟩) ![0, 0, j0] ![1, R, N] inb x 1
  have e2 := Rect.idx_unit_val (s := ⟨3, ![1, R, W]⟩) ![0, 0, j0] ![1, R, N] inb x 2
  have hx : x = ix3 0 (x 1) (x 2) := by
    refine (eq_ix3 x).trans ?_
    have h0 : ∀ a : Fin 1, a = 0 := fun a => Subsingleton.elim _ _
    exact congrArg (fun a : Fin 1 => ix3 a (x 1) (x 2)) (h0 (x 0))
  rw [hx] at e1 e2 ⊢
  refine (hv _ _).trans ?_
  refine congrArg₂ G ?_ ?_
  · refine Eq.trans ?_ e1.symm; simp; rfl
  · exact e2.symm

end Cert.Blocks
end
-- ==== Proof.Weights.lean ====
/- The constant arrays the kernel prepares before its calls, element by element.

   An identity matrix is made by comparing two counters. A convolution's weights are laid out in blocks along the diagonal,
   one block per pixel of a row (`expand`). The matrices that repeat a pixel four times are Kronecker products of
   identities with a row of ones (`kron`). -/
module

public import proofs.«01_k».proof.Proof.Blocks
public import Idealize.ShloMosaic.Lib.IdealHost

@[expose] public section

set_option maxRecDepth 16384

noncomputable section

namespace Cert.Weights

open Idealize.ShloMosaic hiding ix0 ix1 ix2 ix3 ix4 ix5 eq_ix1 eq_ix2 eq_ix3 eq_ix4 eq_ix5
open Idealize.ShloMosaic.ValueIdx
open Cert.Flat Cert.Blocks

/-- The identity matrix: one on the diagonal, zero elsewhere. -/
def IsEye {n : ℕ} (E : FVec Ideal ⟨2, ![n, n]⟩ .f32) : Prop :=
  ∀ i j : Fin n, E (ix2 i j) = (if i.val = j.val then (1 : EReal) else 0)

/-- The row counter compared with the column counter. -/
abbrev eyeOf (n : ℕ) (h : (⟨0, ![]⟩ : Shape).BroadcastsInDim ⟨2, ![n, n]⟩ ![]) : FVec Ideal ⟨2, ![n, n]⟩ .f32 :=
  uitofp (F := Ideal) .f32 (cmpi .eq (addi (iotaInDim ⟨2, ![n, n]⟩ 32 0)
    (broadcastInDim ⟨2, ![n, n]⟩ ![] h (constantI ⟨0, ![]⟩ 32 0#32))) (iotaInDim ⟨2, ![n, n]⟩ 32 1))

/-- It is the identity matrix. -/
theorem isEye {n : ℕ} (hn : n < 2 ^ 32) (h : (⟨0, ![]⟩ : Shape).BroadcastsInDim ⟨2, ![n, n]⟩ ![]) : IsEye (eyeOf n h) := by
  intro i j
  show (((IntOp.cmpi .eq (BitVec.ofNat 32 i.val + 0#32) (BitVec.ofNat 32 j.val)).toNat : ℝ) : EReal) = _
  have hij : (BitVec.ofNat 32 i.val = BitVec.ofNat 32 j.val) ↔ i.val = j.val := by
    constructor
    · intro h
      have := congrArg BitVec.toNat h
      rwa [BitVec.toNat_ofNat, BitVec.toNat_ofNat, Nat.mod_eq_of_lt (i.isLt.trans hn), Nat.mod_eq_of_lt (j.isLt.trans hn)] at this
    · intro h; rw [h]
  rw [BitVec.add_zero]
  by_cases hc : i.val = j.val
  · simp [IntOp.cmpi, hij, hc]
  · simp [IntOp.cmpi, hij, hc]

/-- A coordinate carried over by a broadcast: an axis of one entry has only coordinate zero. -/
theorem keep {n : ℕ} (x : Fin n) : x.val = if n = 1 then 0 else x.val := by
  split_ifs with h
  · subst h; omega
  · rfl

/-- The weights of a convolution as a function of the term, the input channel and the output channel. -/
def wts {cin cout : ℕ} [NeZero cin] [NeZero cout] (W : FVec Ideal ⟨3, ![4, cin, cout]⟩ .f32) (k c o : ℕ) : EReal :=
  W (ix3 (Fin.ofNat 4 k) (Fin.ofNat cin c) (Fin.ofNat cout o))

/-- The identity times the weights, laid out by pixel and channel, is the block-diagonal array. -/
theorem expand {n cin cout K L : ℕ} [NeZero cin] [NeZero cout] (E : FVec Ideal ⟨2, ![n, n]⟩ .f32) (hE : IsEye E)
    (W : FVec Ideal ⟨3, ![4, cin, cout]⟩ .f32) (hK : K = n * cin) (hL : L = n * cout)
    (h1 : (⟨2, ![n, n]⟩ : Shape).BroadcastsInDim ⟨5, ![1, n, 1, n, 1]⟩ ![1, 3])
    (h2 : (⟨3, ![4, cin, cout]⟩ : Shape).BroadcastsInDim ⟨5, ![4, 1, cin, 1, cout]⟩ ![0, 2, 4])
    (h3 : (⟨5, ![1, n, 1, n, 1]⟩ : Shape).BroadcastsInDim ⟨5, ![4, n, cin, n, cout]⟩ ![0, 1, 2, 3, 4])
    (h4 : (⟨5, ![4, 1, cin, 1, cout]⟩ : Shape).BroadcastsInDim ⟨5, ![4, n, cin, n, cout]⟩ ![0, 1, 2, 3, 4])
    (hc : (⟨5, ![4, n, cin, n, cout]⟩ : Shape).ShapeCasts ⟨3, ![4, K, L]⟩) :
    BlockDiag (K := K) (L := L) (shapeCast ⟨3, ![4, K, L]⟩
      (mulf (broadcastInDim ⟨5, ![4, n, cin, n, cout]⟩ ![0, 1, 2, 3, 4] h3 (broadcastInDim ⟨5, ![1, n, 1, n, 1]⟩ ![1, 3] h1 E))
        (broadcastInDim ⟨5, ![4, n, cin, n, cout]⟩ ![0, 1, 2, 3, 4] h4
          (broadcastInDim ⟨5, ![4, 1, cin, 1, cout]⟩ ![0, 2, 4] h2 W))) hc) cin cout (wts W) := by
  intro k i j
  subst hK hL
  have hi : i.val / cin < n := (Nat.div_lt_iff_lt_mul (Nat.pos_of_ne_zero (NeZero.ne cin))).2 i.isLt
  have hj : j.val / cout < n := (Nat.div_lt_iff_lt_mul (Nat.pos_of_ne_zero (NeZero.ne cout))).2 j.isLt
  have hci : i.val % cin < cin := Nat.mod_lt _ (Nat.pos_of_ne_zero (NeZero.ne cin))
  have hcj : j.val % cout < cout := Nat.mod_lt _ (Nat.pos_of_ne_zero (NeZero.ne cout))
  rw [shapeCast_apply _ hc (ix3 k i j) (ix5 k ⟨i.val / cin, hi⟩ ⟨i.val % cin, hci⟩ ⟨j.val / cout, hj⟩ ⟨j.val % cout, hcj⟩) (by
    rw [Shape.rowMajor_val_five, Shape.rowMajor_val_three]
    show (((k.val * n + i.val / cin) * cin + i.val % cin) * n + j.val / cout) * cout + j.val % cout
      = (k.val * (n * cin) + i.val) * (n * cout) + j.val
    have e1 := Nat.div_add_mod' i.val cin
    have e2 := Nat.div_add_mod' j.val cout
    generalize i.val / cin = a at *
    generalize i.val % cin = b at *
    generalize j.val / cout = d at *
    generalize j.val % cout = e at *
    rw [← e1, ← e2]; ring)]
  rw [mulf_apply,
    broadcastInDim_apply ![0, 1, 2, 3, 4] h3 _ _ (ix5 (0 : Fin 1) ⟨i.val / cin, hi⟩ (0 : Fin 1) ⟨j.val / cout, hj⟩ (0 : Fin 1))
      (by intro a; fin_cases a <;> first | exact keep _ | rfl),
    broadcastInDim_apply ![1, 3] h1 _ _ (ix2 ⟨i.val / cin, hi⟩ ⟨j.val / cout, hj⟩)
      (by intro a; fin_cases a <;> first | exact keep _ | rfl),
    broadcastInDim_apply ![0, 1, 2, 3, 4] h4 _ _ (ix5 k (0 : Fin 1) ⟨i.val % cin, hci⟩ (0 : Fin 1) ⟨j.val % cout, hcj⟩)
      (by intro a; fin_cases a <;> first | exact keep _ | rfl),
    broadcastInDim_apply ![0, 2, 4] h2 _ _ (ix3 k ⟨i.val % cin, hci⟩ ⟨j.val % cout, hcj⟩)
      (by intro a; fin_cases a <;> first | exact keep _ | rfl), hE]
  unfold wts
  rw [show (Fin.ofNat 4 k.val) = k from Fin.ext (Nat.mod_eq_of_lt k.isLt),
    show (Fin.ofNat cin (i.val % cin)) = ⟨i.val % cin, hci⟩ from Fin.ext (Nat.mod_mod _ _),
    show (Fin.ofNat cout (j.val % cout)) = ⟨j.val % cout, hcj⟩ from Fin.ext (Nat.mod_mod _ _)]
  by_cases hd : i.val / cin = j.val / cout
  · rw [if_pos hd, if_pos hd]; exact one_mul _
  · rw [if_neg hd, if_neg hd]; exact zero_mul _

/-- The Kronecker product of two matrices, by broadcasting both to four axes. -/
abbrev kronOf {a b c d : ℕ} (K L : ℕ) (A : FVec Ideal ⟨2, ![a, b]⟩ .f32) (B : FVec Ideal ⟨2, ![c, d]⟩ .f32)
    (h1 : (⟨2, ![a, b]⟩ : Shape).BroadcastsInDim ⟨4, ![a, 1, b, 1]⟩ ![0, 2])
    (h2 : (⟨2, ![c, d]⟩ : Shape).BroadcastsInDim ⟨4, ![1, c, 1, d]⟩ ![1, 3])
    (h3 : (⟨4, ![a, 1, b, 1]⟩ : Shape).BroadcastsInDim ⟨4, ![a, c, b, d]⟩ ![0, 1, 2, 3])
    (h4 : (⟨4, ![1, c, 1, d]⟩ : Shape).BroadcastsInDim ⟨4, ![a, c, b, d]⟩ ![0, 1, 2, 3])
    (hc : (⟨4, ![a, c, b, d]⟩ : Shape).ShapeCasts ⟨2, ![K, L]⟩) : FVec Ideal ⟨2, ![K, L]⟩ .f32 :=
  shapeCast ⟨2, ![K, L]⟩ (mulf (broadcastInDim ⟨4, ![a, c, b, d]⟩ ![0, 1, 2, 3] h3 (broadcastInDim ⟨4, ![a, 1, b, 1]⟩ ![0, 2] h1 A))
    (broadcastInDim ⟨4, ![a, c, b, d]⟩ ![0, 1, 2, 3] h4 (broadcastInDim ⟨4, ![1, c, 1, d]⟩ ![1, 3] h2 B))) hc

/-- An element of a Kronecker product is the product of an element of each factor. -/
theorem kron {a b c d K L : ℕ} (A : FVec Ideal ⟨2, ![a, b]⟩ .f32) (B : FVec Ideal ⟨2, ![c, d]⟩ .f32) (hK : K = a * c) (hL : L = b * d)
    (h1 : (⟨2, ![a, b]⟩ : Shape).BroadcastsInDim ⟨4, ![a, 1, b, 1]⟩ ![0, 2])
    (h2 : (⟨2, ![c, d]⟩ : Shape).BroadcastsInDim ⟨4, ![1, c, 1, d]⟩ ![1, 3])
    (h3 : (⟨4, ![a, 1, b, 1]⟩ : Shape).BroadcastsInDim ⟨4, ![a, c, b, d]⟩ ![0, 1, 2, 3])
    (h4 : (⟨4, ![1, c, 1, d]⟩ : Shape).BroadcastsInDim ⟨4, ![a, c, b, d]⟩ ![0, 1, 2, 3])
    (hc : (⟨4, ![a, c, b, d]⟩ : Shape).ShapeCasts ⟨2, ![K, L]⟩) (i : Fin K) (j : Fin L)
    (p : Fin a) (q : Fin c) (r : Fin b) (s : Fin d) (hi : i.val = p.val * c + q.val) (hj : j.val = r.val * d + s.val) :
    kronOf K L A B h1 h2 h3 h4 hc (ix2 i j)
      = (A (ix2 p r) * B (ix2 q s) : EReal) := by
  subst hK hL
  unfold kronOf
  rw [shapeCast_apply _ hc (ix2 i j) (ix4 p q r s) (by
    rw [Shape.rowMajor_val_four, Shape.rowMajor_val_two]
    show ((p.val * c + q.val) * b + r.val) * d + s.val = i.val * (b * d) + j.val
    rw [hi, hj]; ring)]
  rw [mulf_apply,
    broadcastInDim_apply ![0, 1, 2, 3] h3 _ _ (ix4 p (0 : Fin 1) r (0 : Fin 1))
      (by intro a; fin_cases a <;> first | exact keep _ | rfl),
    broadcastInDim_apply ![0, 2] h1 _ _ (ix2 p r)
      (by intro a; fin_cases a <;> first | exact keep _ | rfl),
    broadcastInDim_apply ![0, 1, 2, 3] h4 _ _ (ix4 (0 : Fin 1) q (0 : Fin 1) s)
      (by intro a; fin_cases a <;> first | exact keep _ | rfl),
    broadcastInDim_apply ![1, 3] h2 _ _ (ix2 q s)
      (by intro a; fin_cases a <;> first | exact keep _ | rfl)]

/-- The identity times (a row of four ones times the identity of `C` channels) repeats every pixel four times. -/
theorem repeats {n C K L M : ℕ} [NeZero C] [NeZero L] (hK : K = n * C) (hM : M = 4 * C) (hL : L = n * M)
    (U : FVec Ideal ⟨2, ![K, L]⟩ .f32) (E : FVec Ideal ⟨2, ![n, n]⟩ .f32) (hE : IsEye E)
    (T : FVec Ideal ⟨2, ![C, M]⟩ .f32) (O : FVec Ideal ⟨2, ![1, 4]⟩ .f32) (hO : ∀ r, O (ix2 0 r) = (1 : EReal))
    (D : FVec Ideal ⟨2, ![C, C]⟩ .f32) (hD : IsEye D)
    (hU : ∀ (i : Fin K) (j : Fin L) (p : Fin n) (q : Fin C) (r : Fin n) (s : Fin M), i.val = p.val * C + q.val →
      j.val = r.val * M + s.val → U (ix2 i j) = (E (ix2 p r) * T (ix2 q s) : EReal))
    (hT : ∀ (i : Fin C) (j : Fin M) (p : Fin 1) (q : Fin C) (r : Fin 4) (s : Fin C), i.val = p.val * C + q.val →
      j.val = r.val * C + s.val → T (ix2 i j) = (O (ix2 p r) * D (ix2 q s) : EReal)) :
    Repeats U C := by
  intro i j
  have hC : 0 < C := Nat.pos_of_ne_zero (NeZero.ne C)
  subst hK hM hL
  have hj4 : j.val / C < n * 4 := by
    rw [Nat.div_lt_iff_lt_mul hC]; have := j.isLt; nlinarith
  have hp : i.val / C < n := (Nat.div_lt_iff_lt_mul hC).2 i.isLt
  have hr : j.val / C / 4 < n := by omega
  have hm : j.val % C < C := Nat.mod_lt _ hC
  have e := Nat.div_add_mod' j.val C
  have ei := Nat.div_add_mod' i.val C
  have hs : j.val / C % 4 * C + j.val % C < 4 * C := by
    have : j.val / C % 4 < 4 := Nat.mod_lt _ (by norm_num)
    nlinarith
  rw [hU i j ⟨i.val / C, hp⟩ ⟨i.val % C, Nat.mod_lt _ hC⟩ ⟨j.val / C / 4, hr⟩ ⟨j.val / C % 4 * C + j.val % C, hs⟩ ei.symm (by
      show j.val = j.val / C / 4 * (4 * C) + (j.val / C % 4 * C + j.val % C)
      have e4 := Nat.div_add_mod' (j.val / C) 4
      calc j.val = (j.val / C / 4 * 4 + j.val / C % 4) * C + j.val % C := by rw [e4, e]
        _ = _ := by ring),
    hT ⟨i.val % C, Nat.mod_lt _ hC⟩ _ 0 ⟨i.val % C, Nat.mod_lt _ hC⟩ ⟨j.val / C % 4, Nat.mod_lt _ (by norm_num)⟩ ⟨j.val % C, hm⟩
      (by simp) rfl, hE, hO, hD, one_mul]
  show (if i.val / C = j.val / C / 4 then (1 : EReal) else 0) * (if i.val % C = j.val % C then 1 else 0) = _
  have hiff : (i.val = j.val / C / 4 * C + j.val % C) ↔ (i.val / C = j.val / C / 4 ∧ i.val % C = j.val % C) := by
    constructor
    · intro h
      rw [h]
      refine ⟨?_, ?_⟩
      · rw [mul_comm, Nat.mul_add_div hC, Nat.div_eq_of_lt hm, add_zero]
      · rw [mul_comm, Nat.mul_add_mod, Nat.mod_mod]
    · rintro ⟨h1, h2⟩
      rw [← h1, ← h2]; exact ei.symm
  by_cases h1 : i.val / C = j.val / C / 4
  · by_cases h2 : i.val % C = j.val % C
    · rw [if_pos h1, if_pos h2, if_pos (hiff.2 ⟨h1, h2⟩), one_mul]
    · rw [if_pos h1, if_neg h2, if_neg (fun h => h2 (hiff.1 h).2), mul_zero]
  · rw [if_neg h1, if_neg (fun h => h1 (hiff.1 h).1), zero_mul]

/-- The constant one. -/
theorem one_bits : (Scalar.ofBits .f32 0x3F800000#32 : Ideal .f32) = (1 : EReal) := by
  show Ideal.ofBits .f32 0x3F800000#32 = _
  simp [Ideal.ofBits, Ideal.ieee, -EReal.coe_mul]
  norm_num

/-- A row of four ones. -/
theorem ones (h : (⟨0, ![]⟩ : Shape).BroadcastsInDim ⟨2, ![1, 4]⟩ ![]) (r : Fin 4) :
    broadcastInDim ⟨2, ![1, 4]⟩ ![] h (constant (F := Ideal) ⟨0, ![]⟩ .f32 0x3F800000#32) (ix2 0 r) = (1 : EReal) := one_bits

/-- The Kronecker product the kernel forms, of an identity, a row of ones and an identity, repeats every pixel four times. -/
theorem repeats_kron {n C K L M : ℕ} [NeZero C] [NeZero L] (hK : K = n * C) (hM : M = 4 * C) (hL : L = n * M) (hn : n < 2 ^ 32) (hC : C < 2 ^ 32)
    (he : (⟨0, ![]⟩ : Shape).BroadcastsInDim ⟨2, ![n, n]⟩ ![]) (hd : (⟨0, ![]⟩ : Shape).BroadcastsInDim ⟨2, ![C, C]⟩ ![])
    (ho : (⟨0, ![]⟩ : Shape).BroadcastsInDim ⟨2, ![1, 4]⟩ ![])
    (h1 : (⟨2, ![1, 4]⟩ : Shape).BroadcastsInDim ⟨4, ![1, 1, 4, 1]⟩ ![0, 2])
    (h2 : (⟨2, ![C, C]⟩ : Shape).BroadcastsInDim ⟨4, ![1, C, 1, C]⟩ ![1, 3])
    (h3 : (⟨4, ![1, 1, 4, 1]⟩ : Shape).BroadcastsInDim ⟨4, ![1, C, 4, C]⟩ ![0, 1, 2, 3])
    (h4 : (⟨4, ![1, C, 1, C]⟩ : Shape).BroadcastsInDim ⟨4, ![1, C, 4, C]⟩ ![0, 1, 2, 3])
    (hc : (⟨4, ![1, C, 4, C]⟩ : Shape).ShapeCasts ⟨2, ![C, M]⟩)
    (g1 : (⟨2, ![n, n]⟩ : Shape).BroadcastsInDim ⟨4, ![n, 1, n, 1]⟩ ![0, 2])
    (g2 : (⟨2, ![C, M]⟩ : Shape).BroadcastsInDim ⟨4, ![1, C, 1, M]⟩ ![1, 3])
    (g3 : (⟨4, ![n, 1, n, 1]⟩ : Shape).BroadcastsInDim ⟨4, ![n, C, n, M]⟩ ![0, 1, 2, 3])
    (g4 : (⟨4, ![1, C, 1, M]⟩ : Shape).BroadcastsInDim ⟨4, ![n, C, n, M]⟩ ![0, 1, 2, 3])
    (gc : (⟨4, ![n, C, n, M]⟩ : Shape).ShapeCasts ⟨2, ![K, L]⟩) :
    Repeats (kronOf K L (eyeOf n he) (kronOf C M (broadcastInDim ⟨2, ![1, 4]⟩ ![] ho (constant (F := Ideal) ⟨0, ![]⟩ .f32 0x3F800000#32))
      (eyeOf C hd) h1 h2 h3 h4 hc) g1 g2 g3 g4 gc) C := by
  refine repeats hK hM hL _ (eyeOf n he) (isEye hn he) (kronOf C M (broadcastInDim ⟨2, ![1, 4]⟩ ![] ho (constant (F := Ideal) ⟨0, ![]⟩ .f32 0x3F800000#32))
      (eyeOf C hd) h1 h2 h3 h4 hc) _ (ones ho) (eyeOf C hd) (isEye hC hd) ?_ ?_
  · intro i j p q r s hi hj
    exact kron _ _ hK hL g1 g2 g3 g4 gc i j p q r s hi hj
  · intro i j p q r s hi hj
    exact kron _ _ (by omega) hM h1 h2 h3 h4 hc i j p q r s hi hj

end Cert.Weights

end
-- ==== Proof.Halves.lean ====
/- The two channel halves of a field of sixteen channels.

   A row of 128 lanes holds eight pixels of sixteen channels. The kernel cuts the eight pieces of eight lanes that hold one
   half of the channels, puts them side by side and packs the result into rows of 128 lanes. -/
module

public import proofs.«01_k».proof.Proof.Flat

@[expose] public section

set_option maxRecDepth 16384

noncomputable section

namespace Cert.Halves

open Idealize.ShloMosaic hiding ix0 ix1 ix2 ix3 ix4 ix5 eq_ix1 eq_ix2 eq_ix3 eq_ix4 eq_ix5
open Idealize.ShloMosaic.ValueIdx
open Cert.Flat

variable {α : Type} {B R : ℕ}

/-- The eight lanes from `a` on. -/
abbrev cut (X : (⟨3, ![B, R, 128]⟩ : Shape).Idx → α) (a : ℕ) (h : (⟨3, ![B, R, 128]⟩ : Shape).Slices ![0, 0, a] ⟨3, ![B, R, 8]⟩) :
    (s : Shape) × (s.Idx → α) := ⟨⟨3, ![B, R, 8]⟩, extractStridedSlice ⟨3, ![B, R, 8]⟩ ![0, 0, a] X h⟩

/-- An element of the eight pieces side by side: lane `l` comes from lane `l % 8` of pixel `l / 8`'s half. -/
theorem concat_cuts (X : (⟨3, ![B, R, 128]⟩ : Shape).Idx → α) (a : ℕ) (ha : a ≤ 8)
    (h0 : (⟨3, ![B, R, 128]⟩ : Shape).Slices ![0, 0, 0 + a] ⟨3, ![B, R, 8]⟩) (h1 : (⟨3, ![B, R, 128]⟩ : Shape).Slices ![0, 0, 16 + a] ⟨3, ![B, R, 8]⟩)
    (h2 : (⟨3, ![B, R, 128]⟩ : Shape).Slices ![0, 0, 32 + a] ⟨3, ![B, R, 8]⟩) (h3 : (⟨3, ![B, R, 128]⟩ : Shape).Slices ![0, 0, 48 + a] ⟨3, ![B, R, 8]⟩)
    (h4 : (⟨3, ![B, R, 128]⟩ : Shape).Slices ![0, 0, 64 + a] ⟨3, ![B, R, 8]⟩) (h5 : (⟨3, ![B, R, 128]⟩ : Shape).Slices ![0, 0, 80 + a] ⟨3, ![B, R, 8]⟩)
    (h6 : (⟨3, ![B, R, 128]⟩ : Shape).Slices ![0, 0, 96 + a] ⟨3, ![B, R, 8]⟩) (h7 : (⟨3, ![B, R, 128]⟩ : Shape).Slices ![0, 0, 112 + a] ⟨3, ![B, R, 8]⟩)
    (h : Shape.Concatenates ([cut X _ h0, cut X _ h1, cut X _ h2, cut X _ h3, cut X _ h4, cut X _ h5, cut X _ h6, cut X _ h7].map (·.1)) ⟨3, ![B, R, 64]⟩ 2)
    (b : Fin B) (r : Fin R) (l : Fin 64) :
    concatenate ⟨3, ![B, R, 64]⟩ 2 [cut X _ h0, cut X _ h1, cut X _ h2, cut X _ h3, cut X _ h4, cut X _ h5, cut X _ h6, cut X _ h7] h (ix3 b r l)
      = X (ix3 b r ⟨l.val / 8 * 16 + a + l.val % 8, by omega⟩) := by
  have key : ∀ (k : ℕ) (hk : k < 8) (hs : (⟨3, ![B, R, 128]⟩ : Shape).Slices ![0, 0, 16 * k + a] ⟨3, ![B, R, 8]⟩)
      (hp : [cut X _ h0, cut X _ h1, cut X _ h2, cut X _ h3, cut X _ h4, cut X _ h5, cut X _ h6, cut X _ h7][k] = cut X (16 * k + a) hs)
      (hkq : l.val / 8 = k),
      concatenate ⟨3, ![B, R, 64]⟩ 2 [cut X _ h0, cut X _ h1, cut X _ h2, cut X _ h3, cut X _ h4, cut X _ h5, cut X _ h6, cut X _ h7] h (ix3 b r l)
        = X (ix3 b r ⟨l.val / 8 * 16 + a + l.val % 8, by omega⟩) := by
    intro k hk hs hp hkq
    refine (concatenate_apply_piece (t := ⟨3, ![B, R, 64]⟩) 2 _ h (ix3 b r l) k (by simpa using hk) ⟨3, ![B, R, 8]⟩
      (extractStridedSlice ⟨3, ![B, R, 8]⟩ ![0, 0, 16 * k + a] X hs) hp rfl (8 * k) ?_
      (ix3 b r ⟨l.val % 8, Nat.mod_lt _ (by norm_num)⟩) ?_ ?_).trans ?_
    · interval_cases k <;> simp
    · intro q hq; fin_cases q
      · rfl
      · rfl
      · exact absurd rfl hq
    · show 8 * k + l.val % 8 = l.val
      omega
    · exact extractStridedSlice_apply _ X hs _ _ fun q => by
        fin_cases q <;> simp
        omega
  rcases (by omega : l.val / 8 = 0 ∨ l.val / 8 = 1 ∨ l.val / 8 = 2 ∨ l.val / 8 = 3 ∨ l.val / 8 = 4 ∨ l.val / 8 = 5 ∨ l.val / 8 = 6
    ∨ l.val / 8 = 7) with e | e | e | e | e | e | e | e
  · exact key 0 (by omega) h0 rfl e
  · exact key 1 (by omega) h1 rfl e
  · exact key 2 (by omega) h2 rfl e
  · exact key 3 (by omega) h3 rfl e
  · exact key 4 (by omega) h4 rfl e
  · exact key 5 (by omega) h5 rfl e
  · exact key 6 (by omega) h6 rfl e
  · exact key 7 (by omega) h7 rfl e

/-- The same for eight arrays known to be the pieces. -/
theorem concat_pieces (X : (⟨3, ![B, R, 128]⟩ : Shape).Idx → α) (a : ℕ) (ha : a ≤ 8)
    (h0 : (⟨3, ![B, R, 128]⟩ : Shape).Slices ![0, 0, 0 + a] ⟨3, ![B, R, 8]⟩)
    (h1 : (⟨3, ![B, R, 128]⟩ : Shape).Slices ![0, 0, 16 + a] ⟨3, ![B, R, 8]⟩)
    (h2 : (⟨3, ![B, R, 128]⟩ : Shape).Slices ![0, 0, 32 + a] ⟨3, ![B, R, 8]⟩)
    (h3 : (⟨3, ![B, R, 128]⟩ : Shape).Slices ![0, 0, 48 + a] ⟨3, ![B, R, 8]⟩)
    (h4 : (⟨3, ![B, R, 128]⟩ : Shape).Slices ![0, 0, 64 + a] ⟨3, ![B, R, 8]⟩)
    (h5 : (⟨3, ![B, R, 128]⟩ : Shape).Slices ![0, 0, 80 + a] ⟨3, ![B, R, 8]⟩)
    (h6 : (⟨3, ![B, R, 128]⟩ : Shape).Slices ![0, 0, 96 + a] ⟨3, ![B, R, 8]⟩)
    (h7 : (⟨3, ![B, R, 128]⟩ : Shape).Slices ![0, 0, 112 + a] ⟨3, ![B, R, 8]⟩)
    (p0 p1 p2 p3 p4 p5 p6 p7 : (⟨3, ![B, R, 8]⟩ : Shape).Idx → α)
    (h : Shape.Concatenates [⟨3, ![B, R, 8]⟩, ⟨3, ![B, R, 8]⟩, ⟨3, ![B, R, 8]⟩, ⟨3, ![B, R, 8]⟩, ⟨3, ![B, R, 8]⟩, ⟨3, ![B, R, 8]⟩, ⟨3, ![B, R, 8]⟩,
      ⟨3, ![B, R, 8]⟩] ⟨3, ![B, R, 64]⟩ 2)
    (e0 : p0 = (cut X _ h0).2) (e1 : p1 = (cut X _ h1).2) (e2 : p2 = (cut X _ h2).2) (e3 : p3 = (cut X _ h3).2) (e4 : p4 = (cut X _ h4).2) (e5 : p5 = (cut X _ h5).2) (e6 : p6 = (cut X _ h6).2) (e7 : p7 = (cut X _ h7).2) (b : Fin B) (r : Fin R) (l : Fin 64) :
    concatenate ⟨3, ![B, R, 64]⟩ 2 [⟨⟨3, ![B, R, 8]⟩, p0⟩, ⟨⟨3, ![B, R, 8]⟩, p1⟩, ⟨⟨3, ![B, R, 8]⟩, p2⟩, ⟨⟨3, ![B, R, 8]⟩, p3⟩, ⟨⟨3, ![B, R, 8]⟩, p4⟩,
      ⟨⟨3, ![B, R, 8]⟩, p5⟩, ⟨⟨3, ![B, R, 8]⟩, p6⟩, ⟨⟨3, ![B, R, 8]⟩, p7⟩] h (ix3 b r l)
      = X (ix3 b r ⟨l.val / 8 * 16 + a + l.val % 8, by omega⟩) := by
  subst e0 e1 e2 e3 e4 e5 e6 e7
  exact concat_cuts X a ha h0 h1 h2 h3 h4 h5 h6 h7 h b r l

/-- The packed half, read in row-major order: position `p` of the half is channel `a + p % 8` of pixel `p / 8`. -/
theorem flat3_half {R' : ℕ} [NeZero R] [NeZero R'] (X : (⟨3, ![B, R, 128]⟩ : Shape).Idx → α) (Y : (⟨3, ![B, R, 64]⟩ : Shape).Idx → α) (a : ℕ) (ha : a ≤ 8)
    (hY : ∀ b r (l : Fin 64), Y (ix3 b r l) = X (ix3 b r ⟨l.val / 8 * 16 + a + l.val % 8, by omega⟩))
    (h : (⟨3, ![B, R, 64]⟩ : Shape).ShapeCasts ⟨3, ![B, R', 128]⟩) (hR : R * 64 = R' * 128) (b : Fin B) (p : ℕ) (hp : p < R * 64) :
    flat3 (shapeCast ⟨3, ![B, R', 128]⟩ Y h) b p = flat3 X b (p / 8 * 16 + a + p % 8) := by
  rw [flat3_shapeCast Y h b p hR hp]
  unfold flat3
  rw [hY]
  congr 1
  have h1 : (Fin.ofNat R (p / 64)) = Fin.ofNat R ((p / 8 * 16 + a + p % 8) / 128) := by
    congr 1; omega
  have h2 : (⟨(Fin.ofNat 64 p).val / 8 * 16 + a + (Fin.ofNat 64 p).val % 8, by have := (Fin.ofNat 64 p).isLt; omega⟩ : Fin 128)
      = Fin.ofNat 128 (p / 8 * 16 + a + p % 8) := by
    refine Fin.ext ?_
    show (p % 64) / 8 * 16 + a + (p % 64) % 8 = (p / 8 * 16 + a + p % 8) % 128
    omega
  rw [h1, h2]

end Cert.Halves

end
-- ==== Proof.Region4.lean ====
/- Region 4, the last convolution: two halves of 8 channels each, 49152 pixels repeated to 196608 in rows of 512 lanes, to 1 channel. -/
module

public import proofs.«01_k».proof.Proof.Gen.KernelIdeal.Frame
public import proofs.«01_k».proof.Proof.Flat
public import proofs.«01_k».proof.Proof.Fields
public import proofs.«01_k».proof.Proof.Blocks

@[expose] public section

set_option maxRecDepth 16384

noncomputable section

namespace Cert.Region4

open Idealize.ShloMosaic hiding ix0 ix1 ix2 ix3 ix4 ix5 eq_ix1 eq_ix2 eq_ix3 eq_ix4 eq_ix5
open Idealize.ShloMosaic.TcCoe Idealize.SL.Sem
open Idealize.ShloMosaic.ValueIdx
open Cert.KernelIdeal Cert.KernelIdeal.Gen Cert.Flat Cert.Fields Cert.Blocks
open scoped BigOperators

/-- Weights of both halves laid out block-diagonally. -/
def BlockDiags (X : (⟨4, ![2, 4, 512, 64]⟩ : Shape).Idx → EReal) (w : ℕ → ℕ → ℕ → ℕ → EReal) : Prop :=
  ∀ (g : Fin 2) (k : Fin 4) (i : Fin 512) (j : Fin 64), X (ix4 g k i j) = if i.val / 8 = j.val then w g k (i % 8) 0 else 0

/-- One matrix of these weights. -/
theorem window_apply {gg kk : ℕ} (X : Vec Ideal S2x4x512x64 .f32) (w : ℕ → ℕ → ℕ → ℕ → EReal) (hX : BlockDiags X w)
    (inb : ∀ a, (![gg, kk, 0, 0] : Fin 4 → ℕ) a + S1x1x512x64.size a ≤ S2x4x512x64.size a) (i : Fin 512) (j : Fin 64) :
    shapeCast S512x64 (View.ld X (Rect.unit (s := S2x4x512x64) ![gg, kk, 0, 0] S1x1x512x64.size inb)) shapeCasts_S1x1x512x64_S512x64 (ix2 i j)
      = if i.val / 8 = j.val then w gg kk (i % 8) 0 else 0 := by
  have hg := inb 0
  have hk := inb 1
  simp at hg hk
  refine (shapeCast_apply _ shapeCasts_S1x1x512x64_S512x64 _ (ix4 0 0 i j) ?_).trans ?_
  · rw [Shape.rowMajor_val_two, Shape.rowMajor_val_four]; simp
  refine (View.ld_unit_apply_of (Val := Elt Ideal) X _ _ inb _ (ix4 ⟨gg, by omega⟩ ⟨kk, by omega⟩ i j) ?_).trans ?_
  · intro a; fin_cases a <;> simp <;> rfl
  exact hX _ _ _ _

/-- The field of the first half: its input with every pixel repeated four times. -/
theorem t0_fun (x0 : Vec Ideal S1x3072x128 .f32) (x2 : Vec Ideal S128x512 .f32) (hu : Repeats x2 8) :
    flat (k4_pay3 x2 x0) = unpool 8 (flat3 x0 0) := by
  have h0 : flat (shapeCast S3072x128 x0 shapeCasts_S1x3072x128_S3072x128) = flat3 x0 0 := funext fun p => flat_dropUnit x0 _ p
  unfold k4_pay3 k4_pay2
  rw [← h0]
  refine flat_repeat _ _ _ 8 16 ?_ rfl rfl (by decide)
  intro i j
  refine Eq.trans ?_ (hu i j)
  exact shapeCast_apply _ _ _ _ rfl

/-- The field of the second half is made the same way. -/
theorem second_eq (x1 : Vec Ideal S1x3072x128 .f32) (x2 : Vec Ideal S128x512 .f32) : k4_pay15 (k4_pay2 x2) x1 = k4_pay3 x2 x1 := rfl

/-- First half: the first Chebyshev field. -/
theorem t1 (v0 : Vec Ideal S128x512 .f32) (v2 : Vec Ideal S1x3072x128 .f32) (p : ℕ) :
    flat (k4_pay6 (k4_pay3 v0 v2) (k4_pay4 v0 v2) (k4_pay5 v0 v2)) p = cheb 196608 8 (flat (k4_pay3 v0 v2)) 1 p := by
  unfold k4_pay6 k4_pay4 k4_pay5
  simp only [flat_addf, flat_mulf, flat_roll_next, flat_roll_prev, flat_rows, flat_roll, flat_broadcast, neg_eighth]
  rfl

/-- First half: the second Chebyshev field, from the first. -/
theorem t2 (v4 v49 v52 : FVec Ideal S3072x512 .f32) (p : ℕ) :
    flat (k4_pay11 v4 (k4_pay7 v4 v49 v52) (k4_pay8 v4 v49 v52) (k4_pay9 v4 v49 v52) (k4_pay10 v4 v49 v52)) p
      = ((2 : ℝ) : EReal) * (nbr 196608 8 (flat (k4_pay6 v4 v49 v52)) p * ((-(1 / 8) : ℝ) : EReal)) - flat v4 p := by
  unfold k4_pay11 k4_pay7 k4_pay8 k4_pay9 k4_pay10
  simp only [flat_addf, flat_subf, flat_mulf, flat_roll_next, flat_roll_prev, flat_rows, flat_roll, flat_broadcast, neg_eighth, two]
  rfl

/-- First half: the third Chebyshev field, from the second and the first. -/
theorem t3 (v4 v61 v106 v109 : FVec Ideal S3072x512 .f32) (v110 v111 : FVec Ideal S1536x512 .f32) (h1 h2 h3 h4 h5) (p : ℕ) :
    flat (subf (mulf (broadcast S3072x512 (Scalar.ofBits .f32 0x40000000#32 : Ideal .f32)) (mulf (addf (k4_pay12 v4 v106 v109 v110 v111)
      (concatenate S3072x512 1 [⟨S3072x8, extractStridedSlice S3072x8 ![0, 504] (k4_pay13 v4 v106 v109 v110 v111) h1⟩,
        ⟨S3072x504, extractStridedSlice S3072x504 ![0, 0] (concatenate S3072x512 0
          [⟨S1536x512, extractStridedSlice S1536x512 ![1536, 0] (k4_pay11 v4 v106 v109 v110 v111) h2⟩,
           ⟨S1536x512, extractStridedSlice S1536x512 ![0, 0] (k4_pay11 v4 v106 v109 v110 v111) h3⟩] h4) h5⟩] concatenates_S3072x8_S3072x504_S3072x512_d1))
      (broadcast S3072x512 (Scalar.ofBits .f32 0xBE000000#32 : Ideal .f32)))) v61) p
      = ((2 : ℝ) : EReal) * (nbr 196608 8 (flat (k4_pay11 v4 v106 v109 v110 v111)) p * ((-(1 / 8) : ℝ) : EReal)) - flat v61 p := by
  unfold k4_pay12 k4_pay13
  simp only [flat_addf, flat_subf, flat_mulf, flat_roll_next, flat_roll_prev, flat_rows, flat_roll, flat_broadcast, neg_eighth, two]
  rfl

/-- Second half: the first Chebyshev field. -/
theorem s1 (v1 : FVec Ideal S128x512 .f32) (v197 : Vec Ideal S1x3072x128 .f32) (p : ℕ) :
    flat (k4_pay18 (k4_pay15 v1 v197) (k4_pay16 v1 v197) (k4_pay17 v1 v197)) p = cheb 196608 8 (flat (k4_pay15 v1 v197)) 1 p := by
  unfold k4_pay18 k4_pay16 k4_pay17
  simp only [flat_addf, flat_mulf, flat_roll_next, flat_roll_prev, flat_rows, flat_roll, flat_broadcast, neg_eighth]
  rfl

/-- Second half: the second Chebyshev field, from the first. -/
theorem s2 (v199 v202 : FVec Ideal S3072x512 .f32) (v203 : FVec Ideal S3072x504 .f32) (p : ℕ) :
    flat (k4_pay20 v199 (k4_pay18 v199 v202 v203) (k4_pay19 v199 v202 v203)) p
      = ((2 : ℝ) : EReal) * (nbr 196608 8 (flat (k4_pay18 v199 v202 v203)) p * ((-(1 / 8) : ℝ) : EReal)) - flat v199 p := by
  unfold k4_pay20 k4_pay19
  simp only [flat_addf, flat_subf, flat_mulf, flat_roll_next, flat_roll_prev, flat_rows, flat_roll, flat_broadcast, neg_eighth, two]
  rfl

/-- Second half: the third Chebyshev field, from the second and the first. -/
theorem s3 (v199 v256 v262 : FVec Ideal S3072x512 .f32) (p : ℕ) :
    flat (k4_pay23 v256 (k4_pay20 v199 v256 v262) (k4_pay21 v199 v256 v262) (k4_pay22 v199 v256 v262)) p
      = ((2 : ℝ) : EReal) * (nbr 196608 8 (flat (k4_pay20 v199 v256 v262)) p * ((-(1 / 8) : ℝ) : EReal)) - flat v256 p := by
  unfold k4_pay23 k4_pay21 k4_pay22
  simp only [flat_addf, flat_subf, flat_mulf, flat_roll_next, flat_roll_prev, flat_rows, flat_roll, flat_broadcast, neg_eighth, two]
  rfl

/-- The convolution of both halves at pixel `i`, its eight terms added in order. -/
def conv2 (w : ℕ → ℕ → ℕ → ℕ → EReal) (f g : ℕ → EReal) (i : ℕ) : EReal :=
  conv 196608 8 (w 0) f i 0 + term 196608 8 (w 1) g i 0 0 + term 196608 8 (w 1) g i 0 1 + term 196608 8 (w 1) g i 0 2
    + term 196608 8 (w 1) g i 0 3

/-- What the region leaves in its output block. -/
theorem out_apply (x0 x1 : Vec Ideal S1x3072x128 .f32) (x2 : Vec Ideal S128x512 .f32) (x3 : Vec Ideal S2x4x512x64 .f32)
    (w : ℕ → ℕ → ℕ → ℕ → EReal) (hu : Repeats x2 8) (hw : BlockDiags x3 w) (r : Fin 3072) (l : Fin 64) :
    out4_4 x0 x1 x2 x3 (ix3 0 r l) = conv2 w (unpool 8 (flat3 x0 0)) (unpool 8 (flat3 x1 0)) (r * 64 + l) := by
  have hx : View.ld x0 r4_1 = x0 := View.ld_unit_lit _ _ (by decide)
  have hx1 : View.ld x1 r4_1 = x1 := View.ld_unit_lit _ _ (by decide)
  have hx2 : View.ld x2 r4_0 = x2 := View.ld_unit_lit _ _ (by decide)
  have h0 := t0_fun x0 x2 hu
  have h1 := funext (t1 x2 x0)
  have h2 := funext (t2 (k4_pay3 x2 x0) (k4_pay4 x2 x0) (k4_pay5 x2 x0))
  rw [h1] at h2
  rw [h0] at h1 h2
  have g0 := t0_fun x1 x2 hu
  rw [← second_eq] at g0
  have g1 := funext (s1 (k4_pay2 x2) x1)
  have g2 := funext (s2 (k4_pay15 (k4_pay2 x2) x1) (k4_pay16 (k4_pay2 x2) x1) (k4_pay17 (k4_pay2 x2) x1))
  have g3 := funext (s3 (k4_pay15 (k4_pay2 x2) x1) (k4_pay18 (k4_pay15 (k4_pay2 x2) x1) (k4_pay16 (k4_pay2 x2) x1) (k4_pay17 (k4_pay2 x2) x1))
    (k4_pay19 (k4_pay15 (k4_pay2 x2) x1) (k4_pay16 (k4_pay2 x2) x1) (k4_pay17 (k4_pay2 x2) x1)))
  rw [g1] at g2 g3
  rw [g2] at g3
  rw [g0] at g1 g2 g3
  unfold_out out4_4
  rw [hx, hx1, hx2]
  refine (congrFun (View.canon_cons_unit_lit _ _ _ (by decide)) _).trans ?_
  unfold k4_pay1 k4_pay14
  refine (addUnit_apply _ _ r l).trans ?_
  have hl := l.isLt
  have e : ∀ A B C D E : EReal, ∀ A' B' C' D' E' : EReal, A = A' → B = B' → C = C' → D = D' → E = E' → A + B + C + D + E = A' + B' + C' + D' + E' := by
    rintro _ _ _ _ _ _ _ _ _ _ rfl rfl rfl rfl rfl; rfl
  refine e _ _ _ _ _ _ _ _ _ _ ?_ ?_ ?_ ?_ ?_
  · refine conv_apply _ _ _ _ _ _ _ _ 196608 8 64 l 0 (unpool 8 (flat3 x0 0)) (w 0) r l h0 h1 h2 ?_
      (fun i => window_apply x3 w hw _ i l) (fun i => window_apply x3 w hw _ i l) (fun i => window_apply x3 w hw _ i l)
      (fun i => window_apply x3 w hw _ i l) rfl hl (by decide)
    funext p
    refine (t3 _ _ _ _ _ _ _ _ _ _ _ p).trans ?_
    rw [h1, h2]
    rfl
  · exact matmul_term _ _ 196608 8 64 l 0 0 (unpool 8 (flat3 x1 0)) (w 1) r l g0 (fun i => window_apply x3 w hw _ i l) rfl hl (by decide)
  · exact matmul_term _ _ 196608 8 64 l 0 1 (unpool 8 (flat3 x1 0)) (w 1) r l g1 (fun i => window_apply x3 w hw _ i l) rfl hl (by decide)
  · exact matmul_term _ _ 196608 8 64 l 0 2 (unpool 8 (flat3 x1 0)) (w 1) r l g2 (fun i => window_apply x3 w hw _ i l) rfl hl (by decide)
  · exact matmul_term _ _ 196608 8 64 l 0 3 (unpool 8 (flat3 x1 0)) (w 1) r l g3 (fun i => window_apply x3 w hw _ i l) rfl hl (by decide)

/-- Where each window's block sits at grid point `t`: the batch member's rows, and the constant arrays whole. -/
theorem idx : ∀ t : Fin cfg4.N, win4_0.index t = ![t.val, 0, 0]
    ∧ win4_1.index t = ![t.val, 0, 0]
    ∧ win4_2.index t = ![0, 0]
    ∧ win4_3.index t = ![0, 0, 0, 0]
    ∧ win4_4.index t = ![t.val, 0, 0] :=
  (by decide +kernel : ∀ t : Fin grid4.N, _)

section Array

variable (V : (c : Dev nD) → (b : Ref sig .tc) → Buf (Elt Ideal) ((c : Thread nD τ).loc b))

/-- The block of window 2 is its whole array. -/
theorem whole2 (c : Dev nD) (t : Fin cfg4.N) : iblk4 V c 2 t = V c (Pipeline.arrRef spec4 2) := by
  funext y
  blk_point [iblk4, idx t]

/-- The block of window 3 is its whole array. -/
theorem whole3 (c : Dev nD) (t : Fin cfg4.N) : iblk4 V c 3 t = V c (Pipeline.arrRef spec4 3) := by
  funext y
  blk_point [iblk4, idx t]

/-- The block of window 0 at point `t`, read in row-major order, is batch member `t` of its array. -/
theorem rows0 (c : Dev nD) (t : Fin cfg4.N) :
    flat3 (show FVec Ideal S1x3072x128 .f32 from iblk4 V c 0 t) 0
      = flat3 (show FVec Ideal S2x3072x128 .f32 from V c (Pipeline.arrRef spec4 0)) (Fin.cast rfl t) := by
  funext p
  unfold flat3
  blk_point [iblk4, idx t]
  rfl

/-- The block of window 1 at point `t`, read in row-major order, is batch member `t` of its array. -/
theorem rows1 (c : Dev nD) (t : Fin cfg4.N) :
    flat3 (show FVec Ideal S1x3072x128 .f32 from iblk4 V c 1 t) 0
      = flat3 (show FVec Ideal S2x3072x128 .f32 from V c (Pipeline.arrRef spec4 1)) (Fin.cast rfl t) := by
  funext p
  unfold flat3
  blk_point [iblk4, idx t]
  rfl

/-- The result array: the convolution of the two unpooled half fields. -/
theorem array (c : Dev nD) (w : ℕ → ℕ → ℕ → ℕ → EReal)
    (hu : Repeats (show FVec Ideal S128x512 .f32 from V c (Pipeline.arrRef spec4 2)) 8)
    (hw : BlockDiags (show FVec Ideal S2x4x512x64 .f32 from V c (Pipeline.arrRef spec4 3)) w) :
    (dat4 V c).arrAt 4 cfg4.N = unflat (B := 2) (R := 3072) (W := 64) fun b =>
      conv2 w (unpool 8 (flat3 (show FVec Ideal S2x3072x128 .f32 from V c (Pipeline.arrRef spec4 0)) b)) (unpool 8 (flat3 (show FVec Ideal S2x3072x128 .f32 from V c (Pipeline.arrRef spec4 1)) b)) := by
  refine (dat4 V c).arrAt_eq_of_covers 4 _ (by decide +kernel) fun t _ y => ?_
  blk_simp
  rw [after4_4, whole2, whole3]
  obtain ⟨r, l, rfl⟩ := eq_block (R := 3072) (L := 64) y
  rw [show (win4_4.blk t).view.emb (ix3 (0 : Fin 1) r l) = ix3 (Fin.cast rfl t : Fin 2) r l from
    funext fun a => Fin.ext (by fin_cases a <;> blk_simp [idx t] <;> rfl)]
  refine (out_apply _ _ _ _ w hu hw r l).trans ?_
  rw [rows0, rows1]
  rfl

end Array

end Cert.Region4

end
-- ==== Proof.Host.lean ====
/- What the kernel's host operations leave in the buffers that its five calls read: the packed input, the block-diagonal
   weights, the repeating matrices, the repacked results and the two channel halves. -/
module

public import proofs.«01_k».proof.Proof.Gen.KernelIdeal.Frame
public import proofs.«01_k».proof.Proof.Weights
public import proofs.«01_k».proof.Proof.Halves
public import proofs.«01_k».proof.Proof.Region4
public import Idealize.ShloMosaic.Lib.StableHlo.RunClose

@[expose] public section

set_option maxRecDepth 16384

noncomputable section

namespace Cert.Host

open Idealize.ShloMosaic hiding ix0 ix1 ix2 ix3 ix4 ix5 eq_ix1 eq_ix2 eq_ix3 eq_ix4 eq_ix5
open Idealize.ShloMosaic.TcCoe Idealize.SL.Sem Idealize.ShloMosaic.StableHlo
open Idealize.ShloMosaic.ValueIdx
open Cert.KernelIdeal Cert.KernelIdeal.Gen Cert.Flat Cert.Blocks Cert.Weights

variable (m : (ℓ : Loc nD τ sig) → Buf (Elt Ideal) ℓ) (ρ : Dev nD → PrngReg)

/-- A buffer that only the first stretch of host operations writes holds what that stretch left. -/
theorem from_first (c : Dev nD) (r : Ref sig .tc) (h5 : r ∉ hostOps0_5_W) (h4 : r ∉ hostOps0_4_W) (h3 : r ∉ hostOps0_3_W)
    (h2 : r ∉ hostOps0_2_W) (h1 : r ∉ hostOps0_1_W) : W6 m ρ c (Proc.devRef .tc r) = W1 m ρ c (Proc.devRef .tc r) := by
  rw [W6_of _ _ _ _ h5, W5_of _ _ _ _ h4, W4_of _ _ _ _ h3, W3_of _ _ _ _ h2, W2_of _ _ _ _ h1]

/-- The input, packed into rows of 128 lanes. -/
theorem input (c : Dev nD) : W6 m ρ c (Proc.devRef .tc main_v0)
    = shapeCast S2x1536x128 (show FVec Ideal S2x196608x1 .f32 from m ((c : Thread nD τ).loc main_arg0)) shapeCasts_S2x196608x1_S2x1536x128 := by
  rw [from_first m ρ c main_v0 (by decide) (by decide) (by decide) (by decide) (by decide)]
  unfold W1
  after_results_simp
  rfl

/-- The weights of the first call. -/
theorem weights0 (c : Dev nD) : BlockDiag (show FVec Ideal S4x128x2048 .f32 from W6 m ρ c (Proc.devRef .tc main_v12)) 1 16
    (wts (show FVec Ideal S4x1x16 .f32 from m ((c : Thread nD τ).loc main_arg10))) := by
  rw [from_first m ρ c main_v12 (by decide) (by decide) (by decide) (by decide) (by decide)]
  unfold W1
  after_results_simp
  exact expand (n := 128) (cin := 1) (cout := 16) _ (isEye (by norm_num) _) _ rfl rfl _ _ _ _ _

/-- The weights of the second call. -/
theorem weights1 (c : Dev nD) : BlockDiag (show FVec Ideal S4x128x256 .f32 from W6 m ρ c (Proc.devRef .tc main_v24)) 16 32
    (wts (show FVec Ideal S4x16x32 .f32 from m ((c : Thread nD τ).loc main_arg11))) := by
  rw [from_first m ρ c main_v24 (by decide) (by decide) (by decide) (by decide) (by decide)]
  unfold W1
  after_results_simp
  exact expand (n := 8) (cin := 16) (cout := 32) _ (isEye (by norm_num) _) _ rfl rfl _ _ _ _ _

/-- The weights of the third call. -/
theorem weights2 (c : Dev nD) : BlockDiag (show FVec Ideal S4x128x64 .f32 from W6 m ρ c (Proc.devRef .tc main_v36)) 32 16
    (wts (show FVec Ideal S4x32x16 .f32 from m ((c : Thread nD τ).loc main_arg12))) := by
  rw [from_first m ρ c main_v36 (by decide) (by decide) (by decide) (by decide) (by decide)]
  unfold W1
  after_results_simp
  exact expand (n := 4) (cin := 32) (cout := 16) _ (isEye (by norm_num) _) _ rfl rfl _ _ _ _ _

/-- The weights of the fourth call. -/
theorem weights3 (c : Dev nD) : BlockDiag (show FVec Ideal S4x512x512 .f32 from W6 m ρ c (Proc.devRef .tc main_v48)) 16 16
    (wts (show FVec Ideal S4x16x16 .f32 from m ((c : Thread nD τ).loc main_arg13))) := by
  rw [from_first m ρ c main_v48 (by decide) (by decide) (by decide) (by decide) (by decide)]
  unfold W1
  after_results_simp
  exact expand (n := 32) (cin := 16) (cout := 16) _ (isEye (by norm_num) _) _ rfl rfl _ _ _ _ _

/-- The weights of one half of the input channels. -/
def half (w : ℕ → ℕ → ℕ → EReal) (g k c o : ℕ) : EReal := w k (g * 8 + c) o

/-- Cutting half of the input channels out of the weights. -/
theorem wts_half (W : FVec Ideal ⟨3, ![4, 16, 1]⟩ .f32) (a g : ℕ) (ha : a = g * 8)
    (h : (⟨3, ![4, 16, 1]⟩ : Shape).Slices ![0, a, 0] ⟨3, ![4, 8, 1]⟩) (k c o : ℕ) (hc : c < 8) :
    wts (extractStridedSlice ⟨3, ![4, 8, 1]⟩ ![0, a, 0] W h) k c o = half (wts W) g k c o := by
  have hb : a + 8 ≤ 16 := h.2 1
  unfold half wts
  refine extractStridedSlice_apply _ W h _ _ fun q => ?_
  fin_cases q
  · simp
  · show (g * 8 + c) % 16 = a + c % 8
    omega
  · show o % 1 = 0 + o % 1
    omega

/-- Two block-diagonal arrays stacked along a new leading axis. -/
theorem stack (A B : FVec Ideal ⟨3, ![4, 512, 64]⟩ .f32) (w : ℕ → ℕ → ℕ → ℕ → EReal) (wA wB : ℕ → ℕ → ℕ → EReal)
    (hA : BlockDiag A 8 1 wA) (hB : BlockDiag B 8 1 wB) (eA : ∀ k c o, c < 8 → wA k c o = w 0 k c o) (eB : ∀ k c o, c < 8 → wB k c o = w 1 k c o)
    (h : (⟨3, ![4, 512, 64]⟩ : Shape).BroadcastsInDim ⟨4, ![1, 4, 512, 64]⟩ ![1, 2, 3])
    (hc : Shape.Concatenates [⟨4, ![1, 4, 512, 64]⟩, ⟨4, ![1, 4, 512, 64]⟩] ⟨4, ![2, 4, 512, 64]⟩ 0) :
    Region4.BlockDiags (concatenate ⟨4, ![2, 4, 512, 64]⟩ 0 [⟨⟨4, ![1, 4, 512, 64]⟩, broadcastInDim ⟨4, ![1, 4, 512, 64]⟩ ![1, 2, 3] h A⟩,
      ⟨⟨4, ![1, 4, 512, 64]⟩, broadcastInDim ⟨4, ![1, 4, 512, 64]⟩ ![1, 2, 3] h B⟩] hc) w := by
  intro g k i j
  have one : ∀ (X : FVec Ideal ⟨3, ![4, 512, 64]⟩ .f32), broadcastInDim ⟨4, ![1, 4, 512, 64]⟩ ![1, 2, 3] h X (ix4 0 k i j) = X (ix3 k i j) :=
    fun X => broadcastInDim_apply ![1, 2, 3] h X _ _ (by intro a; fin_cases a <;> rfl)
  have m8 : i.val % 8 < 8 := Nat.mod_lt _ (by norm_num)
  fin_cases g
  · refine (concatenate_pair_apply_left (t := ⟨4, ![2, 4, 512, 64]⟩) 0 _ _ hc _ rfl (ix4 0 k i j)
      (by intro a; fin_cases a <;> rfl)).trans ((one A).trans ((hA k i j).trans ?_))
    rw [Nat.div_one, eA _ _ _ m8, Nat.mod_one]
  · refine (concatenate_pair_apply_right (t := ⟨4, ![2, 4, 512, 64]⟩) 0 _ _ hc _ rfl rfl (ix4 0 k i j)
      (by intro a ha; fin_cases a; · exact absurd rfl ha
          all_goals rfl) rfl).trans ((one B).trans ((hB k i j).trans ?_))
    rw [Nat.div_one, eB _ _ _ m8, Nat.mod_one]

/-- The weights of the fifth call: the two halves, one after the other. -/
theorem weights4 (c : Dev nD) : Region4.BlockDiags (show FVec Ideal S2x4x512x64 .f32 from W6 m ρ c (Proc.devRef .tc main_v77))
    (half (wts (show FVec Ideal S4x16x1 .f32 from m ((c : Thread nD τ).loc main_arg14)))) := by
  rw [from_first m ρ c main_v77 (by decide) (by decide) (by decide) (by decide) (by decide)]
  unfold W1
  after_results
  exact stack _ _ _ _ _ (expand (n := 64) (cin := 8) (cout := 1) _ (isEye (by norm_num) _) _ rfl rfl _ _ _ _ _)
    (expand (n := 64) (cin := 8) (cout := 1) _ (isEye (by norm_num) _) _ rfl rfl _ _ _ _ _)
    (fun k c o hc => wts_half _ 0 0 rfl _ k c o hc) (fun k c o hc => wts_half _ 8 1 rfl _ k c o hc) _ _

/-- The matrix that repeats the pixels of sixteen channels. -/
theorem repeats16 (c : Dev nD) : Repeats (show FVec Ideal S128x512 .f32 from W6 m ρ c (Proc.devRef .tc main_v98)) 16 := by
  rw [W6_of _ _ _ main_v98 (by decide), W5_of _ _ _ main_v98 (by decide), W4_of _ _ _ main_v98 (by decide)]
  unfold W3 W2 W1
  after_results_simp
  change Repeats (kronOf 128 512 (eyeOf 8 bcast_S_S8x8) (kronOf 16 64 (broadcastInDim ⟨2, ![1, 4]⟩ ![] bcast_S_S1x4 (constant (F := Ideal) ⟨0, ![]⟩ .f32 0x3F800000#32))
    (eyeOf 16 bcast_S_S16x16) bcast_S1x4_S1x1x4x1_0_2 bcast_S16x16_S1x16x1x16_1_3 bcast_S1x1x4x1_S1x16x4x16_0_1_2_3
      bcast_S1x16x1x16_S1x16x4x16_0_1_2_3 shapeCasts_S1x16x4x16_S16x64) bcast_S8x8_S8x1x8x1_0_2 bcast_S16x64_S1x16x1x64_1_3
      bcast_S8x1x8x1_S8x16x8x64_0_1_2_3 bcast_S1x16x1x64_S8x16x8x64_0_1_2_3 shapeCasts_S8x16x8x64_S128x512) 16
  exact repeats_kron (n := 8) (C := 16) (K := 128) (L := 512) (M := 64) rfl rfl rfl (by norm_num) (by norm_num) _ _ _ _ _ _ _ _ _ _ _ _ _

/-- The matrix that repeats the pixels of eight channels. -/
theorem repeats8 (c : Dev nD) : Repeats (show FVec Ideal S128x512 .f32 from W6 m ρ c (Proc.devRef .tc main_v107)) 8 := by
  unfold W6 W5 W4 W3 W2 W1
  after_results_simp
  change Repeats (kronOf 128 512 (eyeOf 16 bcast_S_S16x16) (kronOf 8 32 (broadcastInDim ⟨2, ![1, 4]⟩ ![] bcast_S_S1x4 (constant (F := Ideal) ⟨0, ![]⟩ .f32 0x3F800000#32))
    (eyeOf 8 bcast_S_S8x8) bcast_S1x4_S1x1x4x1_0_2 bcast_S8x8_S1x8x1x8_1_3 bcast_S1x1x4x1_S1x8x4x8_0_1_2_3
      bcast_S1x8x1x8_S1x8x4x8_0_1_2_3 shapeCasts_S1x8x4x8_S8x32) bcast_S16x16_S16x1x16x1_0_2 bcast_S8x32_S1x8x1x32_1_3
      bcast_S16x1x16x1_S16x8x16x32_0_1_2_3 bcast_S1x8x1x32_S16x8x16x32_0_1_2_3 shapeCasts_S16x8x16x32_S128x512) 8
  exact repeats_kron (n := 16) (C := 8) (K := 128) (L := 512) (M := 32) rfl rfl rfl (by norm_num) (by norm_num) _ _ _ _ _ _ _ _ _ _ _ _ _

/-- The first call's result, repacked for the second. -/
theorem repack1 (c : Dev nD) : W8 m ρ c (Proc.devRef .tc main_v109)
    = shapeCast S2x6144x128 (show FVec Ideal S2x1536x512 .f32 from W7 m ρ c (Proc.devRef .tc main_v108)) shapeCasts_S2x1536x512_S2x6144x128 := by
  unfold W8
  after_results_simp
  rfl
/-- The second call's result, repacked. -/
theorem repack2 (c : Dev nD) : W10 m ρ c (Proc.devRef .tc main_v111)
    = shapeCast S2x3072x128 (show FVec Ideal S2x6144x64 .f32 from W9 m ρ c (Proc.devRef .tc main_v110)) shapeCasts_S2x6144x64_S2x3072x128 := by
  unfold W10
  after_results_simp
  rfl
/-- The third call's result, repacked. -/
theorem repack3 (c : Dev nD) : W12 m ρ c (Proc.devRef .tc main_v113)
    = shapeCast S2x1536x128 (show FVec Ideal S2x3072x64 .f32 from W11 m ρ c (Proc.devRef .tc main_v112)) shapeCasts_S2x3072x64_S2x1536x128 := by
  unfold W12
  after_results_simp
  rfl
/-- The fifth call's result, in the caller's shape. -/
theorem result (c : Dev nD) : W16 m ρ c (Proc.devRef .tc main_v137)
    = shapeCast S2x196608x1 (show FVec Ideal S2x3072x64 .f32 from W15 m ρ c (Proc.devRef .tc main_v136)) shapeCasts_S2x3072x64_S2x196608x1 := by
  unfold W16
  after_results_simp
  rfl

/-- The first half of the fourth call's channels, read in row-major order. -/
theorem half0 (c : Dev nD) (b : Fin 2) (p : ℕ) (hp : p < 6144 * 64) :
    flat3 (show FVec Ideal S2x3072x128 .f32 from W14 m ρ c (Proc.devRef .tc main_v125)) b p
      = flat3 (shapeCast S2x6144x128 (show FVec Ideal S2x1536x512 .f32 from W13 m ρ c (Proc.devRef .tc main_v114)) shapeCasts_S2x1536x512_S2x6144x128)
        b (p / 8 * 16 + 0 + p % 8) := by
  unfold W14
  after_results
  refine Halves.flat3_half _ _ 0 (by norm_num) (fun b r l => Halves.concat_pieces _ 0 (by norm_num)
    slices_S2x6144x128_S2x6144x8_0_0_0 slices_S2x6144x128_S2x6144x8_0_0_16 slices_S2x6144x128_S2x6144x8_0_0_32 slices_S2x6144x128_S2x6144x8_0_0_48
    slices_S2x6144x128_S2x6144x8_0_0_64 slices_S2x6144x128_S2x6144x8_0_0_80 slices_S2x6144x128_S2x6144x8_0_0_96 slices_S2x6144x128_S2x6144x8_0_0_112
    _ _ _ _ _ _ _ _ _ ?_ ?_ ?_ ?_ ?_ ?_ ?_ ?_ b r l) _ rfl b p hp
  · change (_ : Valuation τ sig (Elt Ideal)) (Proc.devRef .tc main_v116) = _
    after_results
    rfl
  · change (_ : Valuation τ sig (Elt Ideal)) (Proc.devRef .tc main_v117) = _
    after_results
    rfl
  · change (_ : Valuation τ sig (Elt Ideal)) (Proc.devRef .tc main_v118) = _
    after_results
    rfl
  · change (_ : Valuation τ sig (Elt Ideal)) (Proc.devRef .tc main_v119) = _
    after_results
    rfl
  · change (_ : Valuation τ sig (Elt Ideal)) (Proc.devRef .tc main_v120) = _
    after_results
    rfl
  · change (_ : Valuation τ sig (Elt Ideal)) (Proc.devRef .tc main_v121) = _
    after_results
    rfl
  · change (_ : Valuation τ sig (Elt Ideal)) (Proc.devRef .tc main_v122) = _
    after_results
    rfl
  · change (_ : Valuation τ sig (Elt Ideal)) (Proc.devRef .tc main_v123) = _
    after_results
    rfl

/-- The second half. -/
theorem half1 (c : Dev nD) (b : Fin 2) (p : ℕ) (hp : p < 6144 * 64) :
    flat3 (show FVec Ideal S2x3072x128 .f32 from W14 m ρ c (Proc.devRef .tc main_v135)) b p
      = flat3 (shapeCast S2x6144x128 (show FVec Ideal S2x1536x512 .f32 from W13 m ρ c (Proc.devRef .tc main_v114)) shapeCasts_S2x1536x512_S2x6144x128)
        b (p / 8 * 16 + 8 + p % 8) := by
  unfold W14
  after_results
  refine Halves.flat3_half _ _ 8 (by norm_num) (fun b r l => Halves.concat_pieces _ 8 (by norm_num)
    slices_S2x6144x128_S2x6144x8_0_0_8 slices_S2x6144x128_S2x6144x8_0_0_24 slices_S2x6144x128_S2x6144x8_0_0_40 slices_S2x6144x128_S2x6144x8_0_0_56
    slices_S2x6144x128_S2x6144x8_0_0_72 slices_S2x6144x128_S2x6144x8_0_0_88 slices_S2x6144x128_S2x6144x8_0_0_104 slices_S2x6144x128_S2x6144x8_0_0_120
    _ _ _ _ _ _ _ _ _ ?_ ?_ ?_ ?_ ?_ ?_ ?_ ?_ b r l) _ rfl b p hp
  · change (_ : Valuation τ sig (Elt Ideal)) (Proc.devRef .tc main_v126) = _
    after_results
    rfl
  · change (_ : Valuation τ sig (Elt Ideal)) (Proc.devRef .tc main_v127) = _
    after_results
    rfl
  · change (_ : Valuation τ sig (Elt Ideal)) (Proc.devRef .tc main_v128) = _
    after_results
    rfl
  · change (_ : Valuation τ sig (Elt Ideal)) (Proc.devRef .tc main_v129) = _
    after_results
    rfl
  · change (_ : Valuation τ sig (Elt Ideal)) (Proc.devRef .tc main_v130) = _
    after_results
    rfl
  · change (_ : Valuation τ sig (Elt Ideal)) (Proc.devRef .tc main_v131) = _
    after_results
    rfl
  · change (_ : Valuation τ sig (Elt Ideal)) (Proc.devRef .tc main_v132) = _
    after_results
    rfl
  · change (_ : Valuation τ sig (Elt Ideal)) (Proc.devRef .tc main_v133) = _
    after_results
    rfl

end Cert.Host

end
-- ==== Proof.Split.lean ====
/- A convolution over sixteen input channels is the sum of two over eight: the last call of the kernel keeps the two halves
   of the channels in separate arrays and adds the eight products one after the other. -/
module

public import proofs.«01_k».proof.Proof.Host

@[expose] public section

set_option maxRecDepth 16384

noncomputable section

namespace Cert.Split

open scoped BigOperators
open Cert.Fields

/-- The Chebyshev fields of one half of the channels are that half of the Chebyshev fields. -/
theorem cheb_half (n g : ℕ) (f F : ℕ → EReal) (h : ∀ i c, c < 8 → f (i * 8 + c) = F (i * 16 + g * 8 + c)) :
    ∀ k i c, c < 8 → cheb n 8 f k (i * 8 + c) = cheb n 16 F k (i * 16 + g * 8 + c) := by
  have hn : ∀ a A : ℕ → EReal, (∀ i c, c < 8 → a (i * 8 + c) = A (i * 16 + g * 8 + c)) →
      ∀ i c, c < 8 → nbr n 8 a (i * 8 + c) = nbr n 16 A (i * 16 + g * 8 + c) := by
    intro a A ha i c hc
    have one : ∀ d, a (i * 8 + c + 8 * d) = A (i * 16 + g * 8 + c + 16 * d) := fun d => by
      rw [show i * 8 + c + 8 * d = (i + d) * 8 + c by ring, ha _ _ hc]
      congr 1
      ring
    unfold nbr
    simp only [one]
  intro k
  induction k using Nat.strong_induction_on with
  | _ k ih =>
    match k, ih with
    | 0, _ => exact h
    | 1, ih => exact fun i c hc => congrArg (· * _) (hn _ _ h i c hc)
    | k + 2, ih =>
      intro i c hc
      show _ * (nbr n 8 _ _ * _) - cheb n 8 f k _ = _ * (nbr n 16 _ _ * _) - cheb n 16 F k _
      rw [hn _ _ (ih (k + 1) (by omega)) i c hc, ih k (by omega) i c hc]

/-- One term over sixteen channels, as two over eight. -/
theorem term_split (n : ℕ) (w : ℕ → ℕ → ℕ → EReal) (f0 f1 F : ℕ → EReal) (h0 : ∀ i c, c < 8 → f0 (i * 8 + c) = F (i * 16 + 0 * 8 + c))
    (h1 : ∀ i c, c < 8 → f1 (i * 8 + c) = F (i * 16 + 1 * 8 + c)) (i o k : ℕ) :
    term n 16 w F i o k = term n 8 (Host.half w 0) f0 i o k + term n 8 (Host.half w 1) f1 i o k := by
  unfold term
  rw [show (16 : ℕ) = 8 + 8 from rfl, Finset.sum_range_add]
  congr 1
  · refine Finset.sum_congr rfl fun c hc => ?_
    rw [cheb_half n 0 f0 F h0 k i c (Finset.mem_range.mp hc)]
    unfold Host.half
    rw [show i * (8 + 8) + c = i * 16 + 0 * 8 + c by ring, show c = 0 * 8 + c by ring]
    simp
  · refine Finset.sum_congr rfl fun c hc => ?_
    rw [cheb_half n 1 f1 F h1 k i c (Finset.mem_range.mp hc)]
    unfold Host.half
    rw [show i * (8 + 8) + (8 + c) = i * 16 + 1 * 8 + c by ring, show 8 + c = 1 * 8 + c by ring]

/-- The convolution of the last layer from its two halves. -/
theorem conv2_split (w : ℕ → ℕ → ℕ → EReal) (f0 f1 F : ℕ → EReal) (h0 : ∀ i c, c < 8 → f0 (i * 8 + c) = F (i * 16 + 0 * 8 + c))
    (h1 : ∀ i c, c < 8 → f1 (i * 8 + c) = F (i * 16 + 1 * 8 + c)) (i : ℕ) :
    Region4.conv2 (Host.half w) f0 f1 i = conv 196608 16 w F i 0 := by
  unfold Region4.conv2 conv
  simp only [term_split 196608 w f0 f1 F h0 h1]
  abel

/-- Half of a field of sixteen channels whose pixels are repeated. -/
theorem unpool_half (g : ℕ) (f F : ℕ → EReal) (hg : g < 2) (hf : ∀ p, f (p % 393216) = f p) (hF : ∀ p, F (p % 786432) = F p)
    (h : ∀ p, p < 393216 → f p = F (p / 8 * 16 + g * 8 + p % 8)) (i c : ℕ) (hc : c < 8) :
    unpool 8 f (i * 8 + c) = unpool 16 F (i * 16 + g * 8 + c) := by
  unfold unpool
  have e0 : (i * 8 + c) / 8 / 4 * 8 + (i * 8 + c) % 8 = i / 4 * 8 + c := by omega
  have e1 : (i * 16 + g * 8 + c) / 16 / 4 * 16 + (i * 16 + g * 8 + c) % 16 = i / 4 * 16 + g * 8 + c := by omega
  rw [e0, e1, ← hf (i / 4 * 8 + c), h _ (Nat.mod_lt _ (by norm_num)), ← hF (_ + _ + _), ← hF (i / 4 * 16 + g * 8 + c)]
  congr 1
  omega

end Cert.Split

end
-- ==== Proof.Region0.lean ====
/- Region 0, the first encoder convolution: 196608 pixels of 1 channel in rows of 128 lanes, to 16 channels, pooled. -/
module

public import proofs.«01_k».proof.Proof.Gen.KernelIdeal.Frame
public import proofs.«01_k».proof.Proof.Flat
public import proofs.«01_k».proof.Proof.Fields
public import proofs.«01_k».proof.Proof.Blocks

@[expose] public section

set_option maxRecDepth 16384

noncomputable section

namespace Cert.Region0

open Idealize.ShloMosaic hiding ix0 ix1 ix2 ix3 ix4 ix5 eq_ix1 eq_ix2 eq_ix3 eq_ix4 eq_ix5
open Idealize.ShloMosaic.TcCoe Idealize.SL.Sem
open Idealize.ShloMosaic.ValueIdx
open Cert.KernelIdeal Cert.KernelIdeal.Gen Cert.Flat Cert.Fields Cert.Blocks
open scoped BigOperators

/-- The first Chebyshev field: the negated mean over the eight neighbours of the input. -/
theorem t1 (v0 : Vec Ideal S1x1536x128 .f32) (p : ℕ) :
    flat (k0_pay4 (k0_pay2 v0) (k0_pay3 v0)) p = cheb 196608 1 (flat (k0_pay1 v0)) 1 p := by
  unfold k0_pay4 k0_pay2 k0_pay3
  simp only [flat_addf, flat_mulf, flat_roll_next, flat_roll_prev, flat_rows, flat_roll, flat_broadcast, neg_eighth]
  rfl

/-- The first Chebyshev field, as a function of the position. -/
theorem t1_fun (v0 : Vec Ideal S1x1536x128 .f32) :
    flat (k0_pay4 (k0_pay2 v0) (k0_pay3 v0)) = cheb 196608 1 (flat (k0_pay1 v0)) 1 := funext (t1 v0)

/-- The second Chebyshev field, from the first and the input. -/
theorem t2 (v46 v55 v1 : FVec Ideal S1536x128 .f32) (p : ℕ) :
    flat (k0_pay6 v1 (k0_pay5 v46 v55) (Scalar.ofBits .f32 0xBE000000#32)) p
      = ((2 : ℝ) : EReal) * (nbr 196608 1 (flat (k0_pay4 v46 v55)) p * ((-(1 / 8) : ℝ) : EReal)) - flat v1 p := by
  unfold k0_pay6 k0_pay5
  simp only [flat_addf, flat_subf, flat_mulf, flat_roll_next, flat_roll_prev, flat_rows, flat_roll, flat_broadcast, neg_eighth, two]
  rfl

/-- The neighbour sum of the second Chebyshev field, from which the third is made. -/
theorem t3 (v1 v113 : FVec Ideal S1536x128 .f32) (p : ℕ) :
    flat (addf (k0_pay7 v1 v113 (Scalar.ofBits .f32 0xBE000000#32)) (k0_pay8 v1 v113 (Scalar.ofBits .f32 0xBE000000#32))) p
      = nbr 196608 1 (flat (k0_pay6 v1 v113 (Scalar.ofBits .f32 0xBE000000#32))) p := by
  unfold k0_pay7 k0_pay8
  simp only [flat_addf, flat_roll_next, flat_roll_prev, flat_rows, flat_roll]
  rfl

/-- The third Chebyshev field. -/
theorem t3_fun (x0 : Vec Ideal S1x1536x128 .f32) (f : ℕ → EReal) (v58 v118 v163 v172 : FVec Ideal S1536x128 .f32)
    (h1 : flat v58 = cheb 196608 1 f 1) (h2 : flat v118 = cheb 196608 1 f 2)
    (h3 : ∀ p, flat (addf v163 v172) p = nbr 196608 1 (flat v118) p) : flat (k0_pay9 v58 v163 v172) = cheb 196608 1 f 3 := by
  funext p
  unfold k0_pay9
  have := h3 p
  rw [flat_addf] at this
  simp only [flat_addf, flat_subf, flat_mulf]
  rw [this, h1, h2]
  simp only [flat_broadcast, neg_eighth, two]
  rfl

/-- One quarter of the output lanes, from its eight pieces of four added pixels each. -/
theorem quarter_apply (h : ℕ) (g : ℕ → ℕ → EReal) (p0 p1 p2 p3 p4 p5 p6 p7 : FVec Ideal S1536x16 .f32) (hc) (hs) (r : Fin 1536) (l : Fin 128)
    (h0 : ∀ o : Fin 16, p0 (ix2 r o) = sum4 (fun i => g i o) (r * 32 + (8 * h + 0)))
    (h1 : ∀ o : Fin 16, p1 (ix2 r o) = sum4 (fun i => g i o) (r * 32 + (8 * h + 1)))
    (h2 : ∀ o : Fin 16, p2 (ix2 r o) = sum4 (fun i => g i o) (r * 32 + (8 * h + 2)))
    (h3 : ∀ o : Fin 16, p3 (ix2 r o) = sum4 (fun i => g i o) (r * 32 + (8 * h + 3)))
    (h4 : ∀ o : Fin 16, p4 (ix2 r o) = sum4 (fun i => g i o) (r * 32 + (8 * h + 4)))
    (h5 : ∀ o : Fin 16, p5 (ix2 r o) = sum4 (fun i => g i o) (r * 32 + (8 * h + 5)))
    (h6 : ∀ o : Fin 16, p6 (ix2 r o) = sum4 (fun i => g i o) (r * 32 + (8 * h + 6)))
    (h7 : ∀ o : Fin 16, p7 (ix2 r o) = sum4 (fun i => g i o) (r * 32 + (8 * h + 7))) :
    shapeCast S1x1536x128 (mulf (concatenate S1536x128 1 (eight p0 p1 p2 p3 p4 p5 p6 p7) hc)
      (broadcast S1536x128 (Scalar.ofBits .f32 0x3E800000#32 : Ideal .f32))) hs (ix3 0 r l)
      = pool4 (fun i => g i (l % 16)) (r * 32 + (8 * h + l / 16)) := by
  refine (addUnit_apply _ _ r l).trans ?_
  refine congrArg₂ (fun a b : EReal => a * b) ?_ quarter
  exact concat_eight p0 p1 p2 p3 p4 p5 p6 p7 hc r l (fun q o => sum4 (fun i => g i o) (r * 32 + (8 * h + q))) h0 h1 h2 h3 h4 h5 h6 h7 rfl

/-- The convolution with its negative values cut off, for the weights' columns `j0 …`. -/
theorem relu_apply {j0 : ℕ} (X : Vec Ideal S4x128x2048 .f32) (w : ℕ → ℕ → ℕ → EReal) (hw : BlockDiag X 1 16 w) (f : ℕ → EReal)
    (v1 v58 v118 v178 : FVec Ideal S1536x128 .f32)
    (h0 : flat v1 = cheb 196608 1 f 0) (h1 : flat v58 = cheb 196608 1 f 1) (h2 : flat v118 = cheb 196608 1 f 2)
    (h3 : flat v178 = cheb 196608 1 f 3) (i0 i1 i2 i3) (r : Fin 1536) (j : Fin 512) :
    k0_pay38 v1 v58 v118 v178 (View.ld X (Rect.unit ![0, 0, j0] S1x128x512.size i0)) (View.ld X (Rect.unit ![1, 0, j0] S1x128x512.size i1))
      (View.ld X (Rect.unit ![2, 0, j0] S1x128x512.size i2)) (View.ld X (Rect.unit ![3, 0, j0] S1x128x512.size i3)) (ix2 r j)
      = max (conv 196608 1 w f (r * (4 * 32) + (j0 + j) / 16) ((j0 + j) % 16)) 0 := by
  unfold k0_pay38
  exact congrArg₂ max (conv_window _ _ _ _ X 196608 1 16 128 f w hw r j h0 h1 h2 h3 i0 i1 i2 i3 _ rfl rfl (by decide)) zero

/-- What the region leaves in its output block: the convolution, its negative values cut off, pooled. -/
theorem out_apply (x0 : Vec Ideal S1x1536x128 .f32) (x1 : Vec Ideal S4x128x2048 .f32) (w : ℕ → ℕ → ℕ → EReal)
    (hw : BlockDiag x1 1 16 w) (r : Fin 1536) (l : Fin 512) :
    out0_2 x0 x1 (ix3 0 r l) = pool4 (fun i => max (conv 196608 1 w (flat3 x0 0) i (l % 16)) 0) (r * 32 + l / 16) := by
  have h1 := t1_fun x0
  have h2 : flat (k0_pay6 (k0_pay1 x0) (k0_pay5 (k0_pay2 x0) (k0_pay3 x0)) (Scalar.ofBits .f32 0xBE000000#32))
      = cheb 196608 1 (flat (k0_pay1 x0)) 2 := by
    funext p; rw [t2, h1]; rfl
  have h0 : flat (k0_pay1 x0) = flat3 x0 0 := funext fun p => flat_dropUnit x0 _ p
  rw [h0] at h1 h2
  have h3 := t3_fun x0 _ _ _ _ _ h1 h2 (t3 (k0_pay1 x0) (k0_pay5 (k0_pay2 x0) (k0_pay3 x0)))
  have hx : View.ld x0 r0_0 = x0 := View.ld_unit_lit _ _ (by decide)
  obtain ⟨G, hG⟩ : ∃ G : ℕ → ℕ → EReal, ∀ r l, pool4 (fun i => max (conv 196608 1 w (flat3 x0 0) i (l % 16)) 0) (r * 32 + l / 16) = G r l :=
    ⟨_, fun _ _ => rfl⟩
  obtain ⟨g, hg⟩ : ∃ g : ℕ → ℕ → EReal, ∀ i o, max (conv 196608 1 w (flat3 x0 0) i o) 0 = g i o := ⟨_, fun _ _ => rfl⟩
  have hq : ∀ (h : ℕ) (r : Fin 1536) (o : Fin 128), pool4 (fun i => g i (o % 16)) (r * 32 + (8 * h + o / 16)) = G r (128 * h + o) := by
    intro h r o
    rw [← hG]
    simp only [hg]
    rw [show (128 * h + o.val) % 16 = o.val % 16 by omega, show (128 * h + o.val) / 16 = 8 * h + o.val / 16 by omega]
  rw [hG]
  refine canon_tiles _ G r l (cover0_2 _ _ _ _ _) (List.forall_mem_cons.2 ⟨tile_apply (by decide) _ G ?_,
    List.forall_mem_cons.2 ⟨tile_apply (by decide) _ G ?_, List.forall_mem_cons.2 ⟨tile_apply (by decide) _ G ?_,
      List.forall_mem_cons.2 ⟨tile_apply (by decide) _ G ?_, fun p hp => absurd hp List.not_mem_nil⟩⟩⟩⟩)
  all_goals
    intro r o
    simp only [k0_pay54, k0_pay53, k0_pay52, k0_pay51, k0_pay50, k0_pay49, k0_pay48, k0_pay47, k0_pay46, k0_pay45, k0_pay44, k0_pay43, hx]
  · refine Eq.trans ?_ (hq 3 r o)
    unfold k0_pay42 k0_pay41 k0_pay40 k0_pay39
    have hX := fun j => (relu_apply (j0 := 1536) x1 w hw _ _ _ _ _ h0 h1 h2 h3 (by decide) (by decide) (by decide) (by decide) r j).trans (hg _ _)
    refine quarter_apply 3 g _ _ _ _ _ _ _ _ _ _ r o ?_ ?_ ?_ ?_ ?_ ?_ ?_ ?_
    all_goals exact fun o => sum_piece _ _ _ _ _ r o 32 _ 1536 g hX rfl rfl rfl rfl
  · refine Eq.trans ?_ (hq 2 r o)
    unfold k0_pay37 k0_pay36 k0_pay35 k0_pay34 k0_pay33 k0_pay32 k0_pay31 k0_pay30 k0_pay29
    have hX := fun j => (relu_apply (j0 := 1024) x1 w hw _ _ _ _ _ h0 h1 h2 h3 (by decide) (by decide) (by decide) (by decide) r j).trans (hg _ _)
    refine quarter_apply 2 g _ _ _ _ _ _ _ _ _ _ r o ?_ ?_ ?_ ?_ ?_ ?_ ?_ ?_
    all_goals exact fun o => sum_piece _ _ _ _ _ r o 32 _ 1024 g hX rfl rfl rfl rfl
  · refine Eq.trans ?_ (hq 1 r o)
    unfold k0_pay25 k0_pay24 k0_pay23 k0_pay22 k0_pay21 k0_pay20 k0_pay19 k0_pay18
    have hX := fun j => (relu_apply (j0 := 512) x1 w hw _ _ _ _ _ h0 h1 h2 h3 (by decide) (by decide) (by decide) (by decide) r j).trans (hg _ _)
    refine quarter_apply 1 g _ _ _ _ _ _ _ _ _ _ r o ?_ ?_ ?_ ?_ ?_ ?_ ?_ ?_
    all_goals exact fun o => sum_piece _ _ _ _ _ r o 32 _ 512 g hX rfl rfl rfl rfl
  · refine Eq.trans ?_ (hq 0 r o)
    unfold k0_pay15 k0_pay14 k0_pay13 k0_pay12 k0_pay11
    have hX := fun j => (relu_apply (j0 := 0) x1 w hw _ _ _ _ _ h0 h1 h2 h3 (by decide) (by decide) (by decide) (by decide) r j).trans (hg _ _)
    refine quarter_apply 0 g _ _ _ _ _ _ _ _ _ _ r o ?_ ?_ ?_ ?_ ?_ ?_ ?_ ?_
    all_goals exact fun o => sum_piece _ _ _ _ _ r o 32 _ 0 g hX rfl rfl rfl rfl

/-- Where each window's block sits at grid point `t`: the batch member's rows, and the constant arrays whole. -/
theorem idx : ∀ t : Fin cfg0.N, win0_0.index t = ![t.val, 0, 0]
    ∧ win0_1.index t = ![0, 0, 0]
    ∧ win0_2.index t = ![t.val, 0, 0] :=
  (by decide +kernel : ∀ t : Fin grid0.N, _)

section Array

variable (V : (c : Dev nD) → (b : Ref sig .tc) → Buf (Elt Ideal) ((c : Thread nD τ).loc b))

/-- The block of window 1 is its whole array. -/
theorem whole1 (c : Dev nD) (t : Fin cfg0.N) : iblk0 V c 1 t = V c (Pipeline.arrRef spec0 1) := by
  funext y
  blk_point [iblk0, idx t]

/-- The block of window 0 at point `t`, read in row-major order, is batch member `t` of its array. -/
theorem rows0 (c : Dev nD) (t : Fin cfg0.N) :
    flat3 (show FVec Ideal S1x1536x128 .f32 from iblk0 V c 0 t) 0
      = flat3 (show FVec Ideal S2x1536x128 .f32 from V c (Pipeline.arrRef spec0 0)) (Fin.cast rfl t) := by
  funext p
  unfold flat3
  blk_point [iblk0, idx t]
  rfl

/-- The result array: the pooled convolution of the batch member's field. -/
theorem array (c : Dev nD) (w : ℕ → ℕ → ℕ → EReal)
    (hw : BlockDiag (show FVec Ideal S4x128x2048 .f32 from V c (Pipeline.arrRef spec0 1)) 1 16 w) :
    (dat0 V c).arrAt 2 cfg0.N = unflat (B := 2) (R := 1536) (W := 512) fun b =>
      poolConv 196608 1 16 w (flat3 (show FVec Ideal S2x1536x128 .f32 from V c (Pipeline.arrRef spec0 0)) b) := by
  refine (dat0 V c).arrAt_eq_of_covers 2 _ (by decide +kernel) fun t _ y => ?_
  blk_simp
  rw [after0_2, whole1]
  obtain ⟨r, l, rfl⟩ := eq_block (R := 1536) (L := 512) y
  rw [show (win0_2.blk t).view.emb (ix3 (0 : Fin 1) r l) = ix3 (Fin.cast rfl t : Fin 2) r l from
    funext fun a => Fin.ext (by fin_cases a <;> blk_simp [idx t] <;> rfl)]
  refine (out_apply _ _ w hw r l).trans ?_
  rw [rows0]
  show pool4 _ _ = pool4 (fun i => max (conv _ _ _ _ i ((r.val * 512 + l.val) % 16)) 0) ((r.val * 512 + l.val) / 16)
  rw [show (r.val * 512 + l.val) / 16 = r.val * 32 + l.val / 16 by omega, show (r.val * 512 + l.val) % 16 = l.val % 16 by omega]

end Array

end Cert.Region0

end
-- ==== Proof.Region1.lean ====
/- Region 1, the second encoder convolution: 49152 pixels of 16 channels in rows of 128 lanes, to 32 channels, pooled. -/
module

public import proofs.«01_k».proof.Proof.Gen.KernelIdeal.Frame
public import proofs.«01_k».proof.Proof.Flat
public import proofs.«01_k».proof.Proof.Fields
public import proofs.«01_k».proof.Proof.Blocks

@[expose] public section

set_option maxRecDepth 16384

noncomputable section

namespace Cert.Region1

open Idealize.ShloMosaic hiding ix0 ix1 ix2 ix3 ix4 ix5 eq_ix1 eq_ix2 eq_ix3 eq_ix4 eq_ix5
open Idealize.ShloMosaic.TcCoe Idealize.SL.Sem
open Idealize.ShloMosaic.ValueIdx
open Cert.KernelIdeal Cert.KernelIdeal.Gen Cert.Flat Cert.Fields Cert.Blocks
open scoped BigOperators

/-- The first Chebyshev field: the negated mean over the eight neighbours of the input. -/
theorem t1 (v0 : Vec Ideal S1x6144x128 .f32) (p : ℕ) :
    flat (k1_pay5 (k1_pay3 v0) (k1_pay4 v0)) p = cheb 49152 16 (flat (k1_pay2 v0)) 1 p := by
  unfold k1_pay5 k1_pay3 k1_pay4
  simp only [flat_addf, flat_mulf, flat_roll_next, flat_roll_prev, flat_rows, flat_roll, flat_broadcast, neg_eighth]
  rfl

/-- The first Chebyshev field, as a function of the position. -/
theorem t1_fun (v0 : Vec Ideal S1x6144x128 .f32) :
    flat (k1_pay5 (k1_pay3 v0) (k1_pay4 v0)) = cheb 49152 16 (flat (k1_pay2 v0)) 1 := funext (t1 v0)

/-- The second Chebyshev field, from the first and the input. -/
theorem t2 (v46 v55 v1 : FVec Ideal S6144x128 .f32) (p : ℕ) :
    flat (k1_pay7 v1 (k1_pay6 v46 v55) (Scalar.ofBits .f32 0xBE000000#32)) p
      = ((2 : ℝ) : EReal) * (nbr 49152 16 (flat (k1_pay5 v46 v55)) p * ((-(1 / 8) : ℝ) : EReal)) - flat v1 p := by
  unfold k1_pay7 k1_pay6
  simp only [flat_addf, flat_subf, flat_mulf, flat_roll_next, flat_roll_prev, flat_rows, flat_roll, flat_broadcast, neg_eighth, two]
  rfl

/-- The neighbour sum of the second Chebyshev field, from which the third is made. -/
theorem t3 (v1 v113 : FVec Ideal S6144x128 .f32) (p : ℕ) :
    flat (addf (k1_pay8 v1 v113 (Scalar.ofBits .f32 0xBE000000#32)) (k1_pay9 v1 v113 (Scalar.ofBits .f32 0xBE000000#32))) p
      = nbr 49152 16 (flat (k1_pay7 v1 v113 (Scalar.ofBits .f32 0xBE000000#32))) p := by
  unfold k1_pay8 k1_pay9
  simp only [flat_addf, flat_roll_next, flat_roll_prev, flat_rows, flat_roll]
  rfl

/-- The third Chebyshev field. -/
theorem t3_fun (x0 : Vec Ideal S1x6144x128 .f32) (f : ℕ → EReal) (v58 v118 v163 v172 : FVec Ideal S6144x128 .f32)
    (h1 : flat v58 = cheb 49152 16 f 1) (h2 : flat v118 = cheb 49152 16 f 2)
    (h3 : ∀ p, flat (addf v163 v172) p = nbr 49152 16 (flat v118) p) : flat (k1_pay10 v58 v163 v172) = cheb 49152 16 f 3 := by
  funext p
  unfold k1_pay10
  have := h3 p
  rw [flat_addf] at this
  simp only [flat_addf, flat_subf, flat_mulf]
  rw [this, h1, h2]
  simp only [flat_broadcast, neg_eighth, two]
  rfl

/-- One half of the output lanes: 32 of them, from the weights' columns `j0 …`. -/
theorem half_apply {j0 : ℕ} (q : ℕ) (X : Vec Ideal S4x128x256 .f32) (w : ℕ → ℕ → ℕ → EReal) (hw : BlockDiag X 16 32 w) (f : ℕ → EReal)
    (v1 v58 v118 v178 : FVec Ideal S6144x128 .f32)
    (h0 : flat v1 = cheb 49152 16 f 0) (h1 : flat v58 = cheb 49152 16 f 1) (h2 : flat v118 = cheb 49152 16 f 2)
    (h3 : flat v178 = cheb 49152 16 f 3) (i0 i1 i2 i3) (hj : j0 = 4 * q * 32) (r : Fin 6144) (o : Fin 32) :
    k1_pay1 v1 v58 v118 v178 (View.ld X (Rect.unit ![0, 0, j0] S1x128x128.size i0)) (View.ld X (Rect.unit ![1, 0, j0] S1x128x128.size i1))
      (View.ld X (Rect.unit ![2, 0, j0] S1x128x128.size i2)) (View.ld X (Rect.unit ![3, 0, j0] S1x128x128.size i3)) (ix3 0 r o)
      = pool4 (fun i => max (conv 49152 16 w f i o) 0) (r * 2 + q) := by
  unfold k1_pay1
  refine (addUnit_apply _ _ r o).trans ?_
  refine congrArg₂ (fun a b : EReal => a * b) ?_ quarter
  refine sum_piece _ _ _ _ _ r o 2 q j0 (fun i o => max (conv 49152 16 w f i o) 0) (fun j => ?_) (by rw [hj, Nat.add_zero]) rfl rfl rfl
  exact congrArg₂ max (conv_window _ _ _ _ X 49152 16 32 8 f w hw r j h0 h1 h2 h3 i0 i1 i2 i3 _ rfl rfl (by decide)) zero

/-- What the region leaves in its output block: the convolution, its negative values cut off, pooled. -/
theorem out_apply (x0 : Vec Ideal S1x6144x128 .f32) (x1 : Vec Ideal S4x128x256 .f32) (w : ℕ → ℕ → ℕ → EReal)
    (hw : BlockDiag x1 16 32 w) (r : Fin 6144) (l : Fin 64) :
    out1_2 x0 x1 (ix3 0 r l) = pool4 (fun i => max (conv 49152 16 w (flat3 x0 0) i (l % 32)) 0) (r * 2 + l / 32) := by
  have h1 := t1_fun x0
  have h2 : flat (k1_pay7 (k1_pay2 x0) (k1_pay6 (k1_pay3 x0) (k1_pay4 x0)) (Scalar.ofBits .f32 0xBE000000#32))
      = cheb 49152 16 (flat (k1_pay2 x0)) 2 := by
    funext p; rw [t2, h1]; rfl
  have h0 : flat (k1_pay2 x0) = flat3 x0 0 := funext fun p => flat_dropUnit x0 _ p
  rw [h0] at h1 h2
  have h3 := t3_fun x0 _ _ _ _ _ h1 h2 (t3 (k1_pay2 x0) (k1_pay6 (k1_pay3 x0) (k1_pay4 x0)))
  have hx : View.ld x0 r1_0 = x0 := View.ld_unit_lit _ _ (by decide)
  obtain ⟨G, hG⟩ : ∃ G : ℕ → ℕ → EReal, ∀ r l, pool4 (fun i => max (conv 49152 16 w (flat3 x0 0) i (l % 32)) 0) (r * 2 + l / 32) = G r l :=
    ⟨_, fun _ _ => rfl⟩
  rw [hG]
  refine canon_tiles _ G r l (cover1_2 _ _ _)
    (List.forall_mem_cons.2 ⟨tile_apply (by decide) _ G ?_, List.forall_mem_cons.2 ⟨tile_apply (by decide) _ G ?_, fun p hp => absurd hp List.not_mem_nil⟩⟩)
  all_goals
    intro r o
    rw [← hG]
    unfold k1_pay12 k1_pay15 k1_pay17 k1_pay18 k1_pay19 k1_pay16 k1_pay14 k1_pay13 k1_pay12
    rw [hx]
  · rw [show (32 + o.val) % 32 = o.val by omega, show (32 + o.val) / 32 = 1 by omega]
    exact half_apply 1 x1 w hw _ _ _ _ _ h0 h1 h2 h3 _ _ _ _ rfl r o
  · rw [show (0 + o.val) % 32 = o.val by omega, show (0 + o.val) / 32 = 0 by omega]
    exact half_apply 0 x1 w hw _ _ _ _ _ h0 h1 h2 h3 _ _ _ _ rfl r o

/-- Where each window's block sits at grid point `t`: the batch member's rows, and the constant arrays whole. -/
theorem idx : ∀ t : Fin cfg1.N, win1_0.index t = ![t.val, 0, 0]
    ∧ win1_1.index t = ![0, 0, 0]
    ∧ win1_2.index t = ![t.val, 0, 0] :=
  (by decide +kernel : ∀ t : Fin grid1.N, _)

section Array

variable (V : (c : Dev nD) → (b : Ref sig .tc) → Buf (Elt Ideal) ((c : Thread nD τ).loc b))

/-- The block of window 1 is its whole array. -/
theorem whole1 (c : Dev nD) (t : Fin cfg1.N) : iblk1 V c 1 t = V c (Pipeline.arrRef spec1 1) := by
  funext y
  blk_point [iblk1, idx t]

/-- The block of window 0 at point `t`, read in row-major order, is batch member `t` of its array. -/
theorem rows0 (c : Dev nD) (t : Fin cfg1.N) :
    flat3 (show FVec Ideal S1x6144x128 .f32 from iblk1 V c 0 t) 0
      = flat3 (show FVec Ideal S2x6144x128 .f32 from V c (Pipeline.arrRef spec1 0)) (Fin.cast rfl t) := by
  funext p
  unfold flat3
  blk_point [iblk1, idx t]
  rfl

/-- The result array: the pooled convolution of the batch member's field. -/
theorem array (c : Dev nD) (w : ℕ → ℕ → ℕ → EReal)
    (hw : BlockDiag (show FVec Ideal S4x128x256 .f32 from V c (Pipeline.arrRef spec1 1)) 16 32 w) :
    (dat1 V c).arrAt 2 cfg1.N = unflat (B := 2) (R := 6144) (W := 64) fun b =>
      poolConv 49152 16 32 w (flat3 (show FVec Ideal S2x6144x128 .f32 from V c (Pipeline.arrRef spec1 0)) b) := by
  refine (dat1 V c).arrAt_eq_of_covers 2 _ (by decide +kernel) fun t _ y => ?_
  blk_simp
  rw [after1_2, whole1]
  obtain ⟨r, l, rfl⟩ := eq_block (R := 6144) (L := 64) y
  rw [show (win1_2.blk t).view.emb (ix3 (0 : Fin 1) r l) = ix3 (Fin.cast rfl t : Fin 2) r l from
    funext fun a => Fin.ext (by fin_cases a <;> blk_simp [idx t] <;> rfl)]
  refine (out_apply _ _ w hw r l).trans ?_
  rw [rows0]
  show pool4 _ _ = pool4 (fun i => max (conv _ _ _ _ i ((r.val * 64 + l.val) % 32)) 0) ((r.val * 64 + l.val) / 32)
  rw [show (r.val * 64 + l.val) / 32 = r.val * 2 + l.val / 32 by omega, show (r.val * 64 + l.val) % 32 = l.val % 32 by omega]

end Array

end Cert.Region1

end
-- ==== Proof.Region2.lean ====
/- Region 2, the bottleneck convolution: 12288 pixels of 32 channels in rows of 128 lanes, to 16 channels. -/
module

public import proofs.«01_k».proof.Proof.Gen.KernelIdeal.Frame
public import proofs.«01_k».proof.Proof.Flat
public import proofs.«01_k».proof.Proof.Fields
public import proofs.«01_k».proof.Proof.Blocks

@[expose] public section

set_option maxRecDepth 16384

noncomputable section

namespace Cert.Region2

open Idealize.ShloMosaic hiding ix0 ix1 ix2 ix3 ix4 ix5 eq_ix1 eq_ix2 eq_ix3 eq_ix4 eq_ix5
open Idealize.ShloMosaic.TcCoe Idealize.SL.Sem
open Idealize.ShloMosaic.ValueIdx
open Cert.KernelIdeal Cert.KernelIdeal.Gen Cert.Flat Cert.Fields Cert.Blocks
open scoped BigOperators

/-- The first Chebyshev field: the negated mean over the eight neighbours of the input. -/
theorem t1 (v0 : Vec Ideal S1x3072x128 .f32) (p : ℕ) :
    flat (k2_pay5 (k2_pay3 v0) (k2_pay4 v0)) p = cheb 12288 32 (flat (k2_pay2 v0)) 1 p := by
  unfold k2_pay5 k2_pay3 k2_pay4
  simp only [flat_addf, flat_mulf, flat_roll_next, flat_roll_prev, flat_rows, flat_roll, flat_broadcast, neg_eighth]
  rfl

/-- The first Chebyshev field, as a function of the position. -/
theorem t1_fun (v0 : Vec Ideal S1x3072x128 .f32) :
    flat (k2_pay5 (k2_pay3 v0) (k2_pay4 v0)) = cheb 12288 32 (flat (k2_pay2 v0)) 1 := funext (t1 v0)

/-- The second Chebyshev field, from the first and the input. -/
theorem t2 (v46 v55 v1 : FVec Ideal S3072x128 .f32) (p : ℕ) :
    flat (k2_pay7 v1 (k2_pay6 v46 v55) (Scalar.ofBits .f32 0xBE000000#32)) p
      = ((2 : ℝ) : EReal) * (nbr 12288 32 (flat (k2_pay5 v46 v55)) p * ((-(1 / 8) : ℝ) : EReal)) - flat v1 p := by
  unfold k2_pay7 k2_pay6
  simp only [flat_addf, flat_subf, flat_mulf, flat_roll_next, flat_roll_prev, flat_rows, flat_roll, flat_broadcast, neg_eighth, two]
  rfl

/-- The neighbour sum of the second Chebyshev field, from which the third is made. -/
theorem t3 (v1 v113 : FVec Ideal S3072x128 .f32) (p : ℕ) :
    flat (addf (k2_pay8 v1 v113 (Scalar.ofBits .f32 0xBE000000#32)) (k2_pay9 v1 v113 (Scalar.ofBits .f32 0xBE000000#32))) p
      = nbr 12288 32 (flat (k2_pay7 v1 v113 (Scalar.ofBits .f32 0xBE000000#32))) p := by
  unfold k2_pay8 k2_pay9
  simp only [flat_addf, flat_roll_next, flat_roll_prev, flat_rows, flat_roll]
  rfl

/-- What the region leaves in its output block: the convolution with its negative values cut off. -/
theorem out_apply (x0 : Vec Ideal S1x3072x128 .f32) (x1 : Vec Ideal S4x128x64 .f32) (w : ℕ → ℕ → ℕ → EReal)
    (hw : BlockDiag x1 32 16 w) (r : Fin 3072) (l : Fin 64) :
    out2_2 x0 x1 (ix3 0 r l) = max (conv 12288 32 w (flat3 x0 0) (r * 4 + l / 16) (l % 16)) 0 := by
  unfold_out out2_2
  have hx : View.ld x0 r2_0 = x0 := View.ld_unit_lit _ _ (by decide)
  rw [hx]
  refine (congrFun (View.canon_cons_unit_lit _ _ _ (by decide)) _).trans ?_
  unfold k2_pay1
  refine (addUnit_apply _ _ r l).trans ?_
  refine congrArg₂ max ?_ zero
  have h1 := t1_fun x0
  have h2 : flat (k2_pay7 (k2_pay2 x0) (k2_pay6 (k2_pay3 x0) (k2_pay4 x0)) (Scalar.ofBits .f32 0xBE000000#32))
      = cheb 12288 32 (flat (k2_pay2 x0)) 2 := by
    funext p; rw [t2, h1]; rfl
  have h0 : flat (k2_pay2 x0) = flat3 x0 0 := funext fun p => flat_dropUnit x0 _ p
  rw [h0] at h1 h2
  refine (conv_window (j0 := 0) _ _ _ _ x1 12288 32 16 4 (flat3 x0 0) w hw r l h0 h1 h2 ?_ _ _ _ _ _ rfl rfl (by decide)).trans ?_
  · funext p
    simp only [flat_addf, flat_subf, flat_mulf]
    have := t3 (k2_pay2 x0) (k2_pay6 (k2_pay3 x0) (k2_pay4 x0)) p
    rw [flat_addf] at this
    rw [this, h1, h2]
    simp only [flat_broadcast, neg_eighth, two]
    rfl
  · rw [Nat.zero_add]

/-- Where each window's block sits at grid point `t`: the batch member's rows, and the constant arrays whole. -/
theorem idx : ∀ t : Fin cfg2.N, win2_0.index t = ![t.val, 0, 0]
    ∧ win2_1.index t = ![0, 0, 0]
    ∧ win2_2.index t = ![t.val, 0, 0] :=
  (by decide +kernel : ∀ t : Fin grid2.N, _)

section Array

variable (V : (c : Dev nD) → (b : Ref sig .tc) → Buf (Elt Ideal) ((c : Thread nD τ).loc b))

/-- The block of window 1 is its whole array. -/
theorem whole1 (c : Dev nD) (t : Fin cfg2.N) : iblk2 V c 1 t = V c (Pipeline.arrRef spec2 1) := by
  funext y
  blk_point [iblk2, idx t]

/-- The block of window 0 at point `t`, read in row-major order, is batch member `t` of its array. -/
theorem rows0 (c : Dev nD) (t : Fin cfg2.N) :
    flat3 (show FVec Ideal S1x3072x128 .f32 from iblk2 V c 0 t) 0
      = flat3 (show FVec Ideal S2x3072x128 .f32 from V c (Pipeline.arrRef spec2 0)) (Fin.cast rfl t) := by
  funext p
  unfold flat3
  blk_point [iblk2, idx t]
  rfl

/-- The result array: the convolution of the batch member's field, its negative values cut off. -/
theorem array (c : Dev nD) (w : ℕ → ℕ → ℕ → EReal)
    (hw : BlockDiag (show FVec Ideal S4x128x64 .f32 from V c (Pipeline.arrRef spec2 1)) 32 16 w) :
    (dat2 V c).arrAt 2 cfg2.N = unflat (B := 2) (R := 3072) (W := 64) fun b =>
      reluConv 12288 32 16 w (flat3 (show FVec Ideal S2x3072x128 .f32 from V c (Pipeline.arrRef spec2 0)) b) := by
  refine (dat2 V c).arrAt_eq_of_covers 2 _ (by decide +kernel) fun t _ y => ?_
  blk_simp
  rw [after2_2, whole1]
  obtain ⟨r, l, rfl⟩ := eq_block (R := 3072) (L := 64) y
  rw [show (win2_2.blk t).view.emb (ix3 (0 : Fin 1) r l) = ix3 (Fin.cast rfl t : Fin 2) r l from
    funext fun a => Fin.ext (by fin_cases a <;> blk_simp [idx t] <;> rfl)]
  refine (out_apply _ _ w hw r l).trans ?_
  rw [rows0]
  show max (conv _ _ _ _ _ _) 0 = max (conv _ _ _ _ ((r.val * 64 + l.val) / 16) ((r.val * 64 + l.val) % 16)) 0
  rw [show (r.val * 64 + l.val) / 16 = r.val * 4 + l.val / 16 by omega, show (r.val * 64 + l.val) % 16 = l.val % 16 by omega]

end Array

end Cert.Region2

end
-- ==== Proof.Region3.lean ====
/- Region 3, the first decoder convolution: 12288 pixels of 16 channels repeated to 49152 pixels in rows of 512 lanes, to 16 channels. -/
module

public import proofs.«01_k».proof.Proof.Gen.KernelIdeal.Frame
public import proofs.«01_k».proof.Proof.Flat
public import proofs.«01_k».proof.Proof.Fields
public import proofs.«01_k».proof.Proof.Blocks

@[expose] public section

set_option maxRecDepth 16384

noncomputable section

namespace Cert.Region3

open Idealize.ShloMosaic hiding ix0 ix1 ix2 ix3 ix4 ix5 eq_ix1 eq_ix2 eq_ix3 eq_ix4 eq_ix5
open Idealize.ShloMosaic.TcCoe Idealize.SL.Sem
open Idealize.ShloMosaic.ValueIdx
open Cert.KernelIdeal Cert.KernelIdeal.Gen Cert.Flat Cert.Fields Cert.Blocks
open scoped BigOperators

/-- The field the region works on: its input with every pixel repeated four times. -/
theorem t0_fun (x0 : Vec Ideal S1x1536x128 .f32) (x1 : Vec Ideal S128x512 .f32) (hu : Repeats x1 16) :
    flat (k3_pay2 x0 x1) = unpool 16 (flat3 x0 0) := by
  have h0 : flat (shapeCast S1536x128 x0 shapeCasts_S1x1536x128_S1536x128) = flat3 x0 0 := funext fun p => flat_dropUnit x0 _ p
  unfold k3_pay2
  rw [← h0]
  refine flat_repeat _ _ _ 16 8 ?_ rfl rfl (by decide)
  intro i j
  refine Eq.trans ?_ (hu i j)
  exact shapeCast_apply _ _ _ _ rfl

/-- The first Chebyshev field. -/
theorem t1 (v0 : Vec Ideal S1x1536x128 .f32) (v2 : Vec Ideal S128x512 .f32) (p : ℕ) :
    flat (k3_pay5 (k3_pay2 v0 v2) (k3_pay3 v0 v2) (k3_pay4 v0 v2)) p = cheb 49152 16 (flat (k3_pay2 v0 v2)) 1 p := by
  unfold k3_pay5 k3_pay3 k3_pay4
  simp only [flat_addf, flat_mulf, flat_roll_next, flat_roll_prev, flat_rows, flat_roll, flat_broadcast, neg_eighth]
  rfl

/-- The second Chebyshev field, from the first. -/
theorem t2 (v4 v49 v52 : FVec Ideal S1536x512 .f32) (p : ℕ) :
    flat (k3_pay10 v4 (k3_pay6 v4 v49 v52) (k3_pay7 v4 v49 v52) (k3_pay8 v4 v49 v52) (k3_pay9 v4 v49 v52)) p
      = ((2 : ℝ) : EReal) * (nbr 49152 16 (flat (k3_pay5 v4 v49 v52)) p * ((-(1 / 8) : ℝ) : EReal)) - flat v4 p := by
  unfold k3_pay10 k3_pay6 k3_pay7 k3_pay8 k3_pay9
  simp only [flat_addf, flat_subf, flat_mulf, flat_roll_next, flat_roll_prev, flat_rows, flat_roll, flat_broadcast, neg_eighth, two]
  rfl

/-- The third Chebyshev field, from the second and the first. -/
theorem t3 (v4 v61 v106 v109 : FVec Ideal S1536x512 .f32) (v110 v111 : FVec Ideal S768x512 .f32) (h1 h2 h3 h4 h5) (p : ℕ) :
    flat (subf (mulf (broadcast S1536x512 (Scalar.ofBits .f32 0x40000000#32 : Ideal .f32)) (mulf (addf (k3_pay11 v4 v106 v109 v110 v111)
      (concatenate S1536x512 1 [⟨S1536x16, extractStridedSlice S1536x16 ![0, 496] (k3_pay12 v4 v106 v109 v110 v111) h1⟩,
        ⟨S1536x496, extractStridedSlice S1536x496 ![0, 0] (concatenate S1536x512 0
          [⟨S768x512, extractStridedSlice S768x512 ![768, 0] (k3_pay10 v4 v106 v109 v110 v111) h2⟩,
           ⟨S768x512, extractStridedSlice S768x512 ![0, 0] (k3_pay10 v4 v106 v109 v110 v111) h3⟩] h4) h5⟩] concatenates_S1536x16_S1536x496_S1536x512_d1))
      (broadcast S1536x512 (Scalar.ofBits .f32 0xBE000000#32 : Ideal .f32)))) v61) p
      = ((2 : ℝ) : EReal) * (nbr 49152 16 (flat (k3_pay10 v4 v106 v109 v110 v111)) p * ((-(1 / 8) : ℝ) : EReal)) - flat v61 p := by
  unfold k3_pay11 k3_pay12
  simp only [flat_addf, flat_subf, flat_mulf, flat_roll_next, flat_roll_prev, flat_rows, flat_roll, flat_broadcast, neg_eighth, two]
  rfl

/-- What the region leaves in its output block: the convolution with its negative values cut off. -/
theorem out_apply (x0 : Vec Ideal S1x1536x128 .f32) (x1 : Vec Ideal S128x512 .f32) (x2 : Vec Ideal S4x512x512 .f32) (w : ℕ → ℕ → ℕ → EReal)
    (hu : Repeats x1 16) (hw : BlockDiag x2 16 16 w) (r : Fin 1536) (l : Fin 512) :
    out3_3 x0 x1 x2 (ix3 0 r l) = max (conv 49152 16 w (unpool 16 (flat3 x0 0)) (r * 32 + l / 16) (l % 16)) 0 := by
  have hx : View.ld x0 r3_0 = x0 := View.ld_unit_lit _ _ (by decide)
  have hx1 : View.ld x1 r3_1 = x1 := View.ld_unit_lit _ _ (by decide)
  have h0 := t0_fun x0 x1 hu
  have h1 := funext (t1 x0 x1)
  have h2 := funext (t2 (k3_pay2 x0 x1) (k3_pay3 x0 x1) (k3_pay4 x0 x1))
  rw [h1] at h2
  rw [h0] at h1 h2
  unfold_out out3_3
  rw [hx, hx1]
  refine (congrFun (View.canon_cons_unit_lit _ _ _ (by decide)) _).trans ?_
  unfold k3_pay1
  refine (addUnit_apply _ _ r l).trans ?_
  refine congrArg₂ max ?_ zero
  refine (conv_window (j0 := 0) _ _ _ _ x2 49152 16 16 32 (unpool 16 (flat3 x0 0)) w hw r l h0 h1 h2 ?_ _ _ _ _ _ rfl rfl (by decide)).trans ?_
  · funext p
    refine (t3 _ _ _ _ _ _ _ _ _ _ _ p).trans ?_
    rw [h1, h2]
    rfl
  · rw [Nat.zero_add]

/-- Where each window's block sits at grid point `t`: the batch member's rows, and the constant arrays whole. -/
theorem idx : ∀ t : Fin cfg3.N, win3_0.index t = ![t.val, 0, 0]
    ∧ win3_1.index t = ![0, 0]
    ∧ win3_2.index t = ![0, 0, 0]
    ∧ win3_3.index t = ![t.val, 0, 0] :=
  (by decide +kernel : ∀ t : Fin grid3.N, _)

section Array

variable (V : (c : Dev nD) → (b : Ref sig .tc) → Buf (Elt Ideal) ((c : Thread nD τ).loc b))

/-- The block of window 1 is its whole array. -/
theorem whole1 (c : Dev nD) (t : Fin cfg3.N) : iblk3 V c 1 t = V c (Pipeline.arrRef spec3 1) := by
  funext y
  blk_point [iblk3, idx t]

/-- The block of window 2 is its whole array. -/
theorem whole2 (c : Dev nD) (t : Fin cfg3.N) : iblk3 V c 2 t = V c (Pipeline.arrRef spec3 2) := by
  funext y
  blk_point [iblk3, idx t]

/-- The block of window 0 at point `t`, read in row-major order, is batch member `t` of its array. -/
theorem rows0 (c : Dev nD) (t : Fin cfg3.N) :
    flat3 (show FVec Ideal S1x1536x128 .f32 from iblk3 V c 0 t) 0
      = flat3 (show FVec Ideal S2x1536x128 .f32 from V c (Pipeline.arrRef spec3 0)) (Fin.cast rfl t) := by
  funext p
  unfold flat3
  blk_point [iblk3, idx t]
  rfl

/-- The result array: the convolution of the batch member's unpooled field, its negative values cut off. -/
theorem array (c : Dev nD) (w : ℕ → ℕ → ℕ → EReal)
    (hu : Repeats (show FVec Ideal S128x512 .f32 from V c (Pipeline.arrRef spec3 1)) 16)
    (hw : BlockDiag (show FVec Ideal S4x512x512 .f32 from V c (Pipeline.arrRef spec3 2)) 16 16 w) :
    (dat3 V c).arrAt 3 cfg3.N = unflat (B := 2) (R := 1536) (W := 512) fun b =>
      reluConv 49152 16 16 w (unpool 16 (flat3 (show FVec Ideal S2x1536x128 .f32 from V c (Pipeline.arrRef spec3 0)) b)) := by
  refine (dat3 V c).arrAt_eq_of_covers 3 _ (by decide +kernel) fun t _ y => ?_
  blk_simp
  rw [after3_3, whole1, whole2]
  obtain ⟨r, l, rfl⟩ := eq_block (R := 1536) (L := 512) y
  rw [show (win3_3.blk t).view.emb (ix3 (0 : Fin 1) r l) = ix3 (Fin.cast rfl t : Fin 2) r l from
    funext fun a => Fin.ext (by fin_cases a <;> blk_simp [idx t] <;> rfl)]
  refine (out_apply _ _ _ w hu hw r l).trans ?_
  rw [rows0]
  show max (conv _ _ _ _ _ _) 0 = max (conv _ _ _ _ ((r.val * 512 + l.val) / 16) ((r.val * 512 + l.val) % 16)) 0
  rw [show (r.val * 512 + l.val) / 16 = r.val * 32 + l.val / 16 by omega, show (r.val * 512 + l.val) % 16 = l.val % 16 by omega]

end Array

end Cert.Region3

end
-- ==== Proof.KernelValue.lean ====
/- The kernel's result: the contents of the result buffer at the last boundary, followed back call by call to the arguments,
   are the network of `Fields` on the packed input. -/
module

public import proofs.«01_k».proof.Proof.Split
public import proofs.«01_k».proof.Proof.Region0
public import proofs.«01_k».proof.Proof.Region1
public import proofs.«01_k».proof.Proof.Region2
public import proofs.«01_k».proof.Proof.Region3

@[expose] public section

set_option maxRecDepth 16384

noncomputable section

namespace Cert.KernelValue

open Idealize.ShloMosaic hiding ix0 ix1 ix2 ix3 ix4 ix5 eq_ix1 eq_ix2 eq_ix3 eq_ix4 eq_ix5
open Idealize.ShloMosaic.TcCoe Idealize.SL.Sem
open Idealize.ShloMosaic.ValueIdx
open Cert.KernelIdeal Cert.KernelIdeal.Gen Cert.Flat Cert.Blocks Cert.Weights Cert.Fields

/-- A repacked array, read in row-major order. -/
theorem repacked {B R W R' W' : ℕ} [NeZero R] [NeZero W] [NeZero R'] [NeZero W'] (F : Fin B → ℕ → EReal) (N : ℕ) (hN : R * W = N)
    (h : (⟨3, ![B, R, W]⟩ : Shape).ShapeCasts ⟨3, ![B, R', W']⟩) (hRW : R * W = R' * W') (b : Fin B) :
    flat3 (shapeCast ⟨3, ![B, R', W']⟩ (unflat (B := B) (R := R) (W := W) F) h) b = wrap N (F b) := by
  subst hN
  have pos : 0 < R * W := Nat.mul_pos (Nat.pos_of_ne_zero (NeZero.ne R)) (Nat.pos_of_ne_zero (NeZero.ne W))
  funext p
  have hp := Nat.mod_lt p pos
  unfold wrap
  rw [← flat3_mod, ← hRW, flat3_shapeCast _ h b _ hRW hp, flat3_unflat _ _ _ hp]

variable (m : (ℓ : Loc nD τ sig) → Buf (Elt Ideal) ℓ) (ρ : Dev nD → PrngReg)

/-- The input as a field of the finest level. -/
def inp (c : Dev nD) (b : Fin 2) : ℕ → EReal := flat3 (show FVec Ideal S2x196608x1 .f32 from m ((c : Thread nD τ).loc main_arg0)) b

/-- The weights of the five layers. -/
def w0 (c : Dev nD) := wts (show FVec Ideal S4x1x16 .f32 from m ((c : Thread nD τ).loc main_arg10))
/-- The weights of the second layer. -/
def w1 (c : Dev nD) := wts (show FVec Ideal S4x16x32 .f32 from m ((c : Thread nD τ).loc main_arg11))
/-- The weights of the third layer. -/
def w2 (c : Dev nD) := wts (show FVec Ideal S4x32x16 .f32 from m ((c : Thread nD τ).loc main_arg12))
/-- The weights of the fourth layer. -/
def w3 (c : Dev nD) := wts (show FVec Ideal S4x16x16 .f32 from m ((c : Thread nD τ).loc main_arg13))
/-- The weights of the fifth layer. -/
def w4 (c : Dev nD) := wts (show FVec Ideal S4x16x1 .f32 from m ((c : Thread nD τ).loc main_arg14))

/-- The input, packed. -/
theorem in0 (c : Dev nD) (b : Fin 2) : flat3 (show FVec Ideal S2x1536x128 .f32 from V6 m ρ c (Pipeline.arrRef spec0 0)) b = inp m c b := by
  have e : V6 m ρ c (Pipeline.arrRef spec0 0) = _ := Host.input m ρ c
  rw [e]
  funext p
  rw [← flat3_mod]
  rw [flat3_shapeCast _ shapeCasts_S2x196608x1_S2x1536x128 b _ rfl (Nat.mod_lt _ (by norm_num))]
  exact flat3_mod (R := 196608) (W := 1) _ b p

/-- The first call's field. -/
theorem in1 (c : Dev nD) (b : Fin 2) : flat3 (show FVec Ideal S2x6144x128 .f32 from V8 m ρ c (Pipeline.arrRef spec1 0)) b = enc1 (w0 m c) (inp m c b) := by
  have e : V8 m ρ c (Pipeline.arrRef spec1 0) = _ := Host.repack1 m ρ c
  have a : W7 m ρ c (Proc.devRef .tc main_v108) = _ := (W7_arr m ρ c 2).trans (Region0.array _ c _ (Host.weights0 m ρ c))
  rw [e, a]
  refine (repacked (B := 2) (R := 1536) (W := 512) (R' := 6144) (W' := 128) _ 786432 (by norm_num) _ (by norm_num) b).trans ?_
  rw [in0]
  rfl

/-- The second call's field. -/
theorem in2 (c : Dev nD) (b : Fin 2) : flat3 (show FVec Ideal S2x3072x128 .f32 from V10 m ρ c (Pipeline.arrRef spec2 0)) b
    = enc2 (w1 m c) (enc1 (w0 m c) (inp m c b)) := by
  have e : V10 m ρ c (Pipeline.arrRef spec2 0) = _ := Host.repack2 m ρ c
  have k : W8 m ρ c (Proc.devRef .tc main_v24) = _ := (W8_of m ρ c main_v24 (by decide)).trans (W7_of m ρ c main_v24 (by decide))
  have h := Host.weights1 m ρ c
  rw [← k] at h
  have a : W9 m ρ c (Proc.devRef .tc main_v110) = _ := (W9_arr m ρ c 2).trans (Region1.array _ c _ h)
  rw [e, a]
  refine (repacked (B := 2) (R := 6144) (W := 64) (R' := 3072) (W' := 128) _ 393216 (by norm_num) _ (by norm_num) b).trans ?_
  rw [in1]
  rfl

/-- The third call's field. -/
theorem in3 (c : Dev nD) (b : Fin 2) : flat3 (show FVec Ideal S2x1536x128 .f32 from V12 m ρ c (Pipeline.arrRef spec3 0)) b
    = mid (w2 m c) (enc2 (w1 m c) (enc1 (w0 m c) (inp m c b))) := by
  have e : V12 m ρ c (Pipeline.arrRef spec3 0) = _ := Host.repack3 m ρ c
  have k : W10 m ρ c (Proc.devRef .tc main_v36) = _ := (W10_of m ρ c main_v36 (by decide)).trans <| (W9_of m ρ c main_v36 (by decide)).trans <|
    (W8_of m ρ c main_v36 (by decide)).trans (W7_of m ρ c main_v36 (by decide))
  have h := Host.weights2 m ρ c
  rw [← k] at h
  have a : W11 m ρ c (Proc.devRef .tc main_v112) = _ := (W11_arr m ρ c 2).trans (Region2.array _ c _ h)
  rw [e, a]
  refine (repacked (B := 2) (R := 3072) (W := 64) (R' := 1536) (W' := 128) _ 196608 (by norm_num) _ (by norm_num) b).trans ?_
  rw [in2]
  rfl

/-- A buffer that the first three calls leave alone. -/
theorem at12 (c : Dev nD) (r : Ref sig .tc) (h12 : r ∉ hostOps3_W) (h11 : ∀ w : Fin cfg2.W, Pipeline.arrRef spec2 w = r → (cfg2.win w).isOut = false)
    (h10 : r ∉ hostOps2_W) (h9 : ∀ w : Fin cfg1.W, Pipeline.arrRef spec1 w = r → (cfg1.win w).isOut = false) (h8 : r ∉ hostOps1_W)
    (h7 : ∀ w : Fin cfg0.W, Pipeline.arrRef spec0 w = r → (cfg0.win w).isOut = false) :
    W12 m ρ c (Proc.devRef .tc r) = W6 m ρ c (Proc.devRef .tc r) := by
  rw [W12_of m ρ c r h12, W11_of m ρ c r h11, W10_of m ρ c r h10, W9_of m ρ c r h9, W8_of m ρ c r h8, W7_of m ρ c r h7]

/-- A buffer that the first four calls leave alone. -/
theorem at14 (c : Dev nD) (r : Ref sig .tc) (h14 : r ∉ hostOps4_W) (h13 : ∀ w : Fin cfg3.W, Pipeline.arrRef spec3 w = r → (cfg3.win w).isOut = false) :
    W14 m ρ c (Proc.devRef .tc r) = W12 m ρ c (Proc.devRef .tc r) := by
  rw [W14_of m ρ c r h14, W13_of m ρ c r h13]

/-- The fourth call's field, before its channels are split. -/
theorem in4 (c : Dev nD) (b : Fin 2) : flat3 (shapeCast S2x6144x128 (show FVec Ideal S2x1536x512 .f32 from W13 m ρ c (Proc.devRef .tc main_v114)) shapeCasts_S2x1536x512_S2x6144x128) b
    = dec1 (w3 m c) (mid (w2 m c) (enc2 (w1 m c) (enc1 (w0 m c) (inp m c b)))) := by
  have h := Host.weights3 m ρ c
  rw [← at12 m ρ c main_v48 (by decide) (by decide) (by decide) (by decide) (by decide) (by decide)] at h
  have u := Host.repeats16 m ρ c
  rw [← at12 m ρ c main_v98 (by decide) (by decide) (by decide) (by decide) (by decide) (by decide)] at u
  have a : W13 m ρ c (Proc.devRef .tc main_v114) = _ := (W13_arr m ρ c 3).trans (Region3.array _ c _ u h)
  rw [a]
  refine (repacked (B := 2) (R := 1536) (W := 512) (R' := 6144) (W' := 128) _ 786432 (by norm_num) _ (by norm_num) b).trans ?_
  rw [in3]
  rfl

/-- The kernel's result: the network on the input. -/
theorem out (c : Dev nD) (b : Fin 2) : flat3 (show FVec Ideal S2x196608x1 .f32 from W16 m ρ c (Proc.devRef .tc main_v137)) b
    = net (w0 m c) (w1 m c) (w2 m c) (w3 m c) (w4 m c) (inp m c b) := by
  have h := Host.weights4 m ρ c
  rw [← at12 m ρ c main_v77 (by decide) (by decide) (by decide) (by decide) (by decide) (by decide), ← at14 m ρ c main_v77 (by decide) (by decide)] at h
  have u := Host.repeats8 m ρ c
  rw [← at12 m ρ c main_v107 (by decide) (by decide) (by decide) (by decide) (by decide) (by decide), ← at14 m ρ c main_v107 (by decide) (by decide)] at u
  have a : W15 m ρ c (Proc.devRef .tc main_v136) = _ := (W15_arr m ρ c 4).trans (Region4.array _ c _ u h)
  rw [Host.result, a]
  refine (repacked (B := 2) (R := 3072) (W := 64) (R' := 196608) (W' := 1) _ 196608 (by norm_num) _ (by norm_num) b).trans ?_
  unfold net dec2
  refine congrArg (wrap 196608) (funext fun p => ?_)
  have per : ∀ f : ℕ → EReal, ∀ p, dec1 (w3 m c) f (p % 786432) = dec1 (w3 m c) f p := fun f p =>
    congrArg (reluConv _ _ _ _ _) (Nat.mod_mod p 786432)
  have e0 := fun p hp => (Host.half0 m ρ c b p hp).trans (congrFun (in4 m ρ c b) _)
  have e1 := fun p hp => (Host.half1 m ρ c b p hp).trans (congrFun (in4 m ρ c b) _)
  exact Split.conv2_split _ _ _ _ (Split.unpool_half 0 _ _ (by norm_num) (fun p => flat3_mod _ b p) (per _) e0)
    (Split.unpool_half 1 _ _ (by norm_num) (fun p => flat3_mod _ b p) (per _) e1) p

end Cert.KernelValue

end
-- ==== Proof.Sparse.lean ====
/- The two index operations of the graph product, read at an element: taking rows of pixels along the middle axis, and adding
   the messages of the edges into their centres. -/
module

public import Idealize.ShloMosaic.PureOps.Ideal
public import Idealize.ShloMosaic.Lib.Pipeline.ValueKit
public import Idealize.ShloMosaic.Lib.IdealHost
public import Idealize.ShloMosaic.Lib.ValueIdx
public import Idealize.ShloMosaic.Lib.Routing.OpsPair

@[expose] public section

noncomputable section

namespace Cert.Sparse

open Idealize.ShloMosaic hiding ix0 ix1 ix2 ix3 ix4 ix5 eq_ix1 eq_ix2 eq_ix3 eq_ix4 eq_ix5
open Idealize.ShloMosaic.ValueIdx
open scoped BigOperators

variable {n E C : ℕ}

/-- Taking pixel `idx[e]` for every edge `e`, all batch members and channels with it. -/
abbrev pick (n E C : ℕ)
    (wf : GatherDims.WF ⟨3, ![2, n, C]⟩ ⟨2, ![E, 1]⟩ ⟨3, ![2, E, C]⟩ [0, 2] [1] [] [1] [] 1 ![2, 1, C]) :
    GatherDims ⟨3, ![2, n, C]⟩ ⟨2, ![E, 1]⟩ ⟨3, ![2, E, C]⟩ where
  offsetDims := [0, 2]
  collapsedSliceDims := [1]
  operandBatchingDims := []
  startIndicesBatchingDims := []
  startIndexMap := [1]
  indexVectorDim := 1
  sliceSizes := ![2, 1, C]
  wf := wf

/-- What is taken for edge `e`. -/
theorem pick_apply {α : Type} (wf : GatherDims.WF ⟨3, ![2, n, C]⟩ ⟨2, ![E, 1]⟩ ⟨3, ![2, E, C]⟩ [0, 2] [1] [] [1] [] 1 ![2, 1, C])
    (x : (⟨3, ![2, n, C]⟩ : Shape).Idx → α) (idx : IVec ⟨2, ![E, 1]⟩ 32) (b : Fin 2) (e : Fin E) (c : Fin C) (i : Fin n)
    (hi : (idx (ix2 e 0)).toInt = (i.val : ℤ)) : Host.gather (pick n E C wf) x idx (ix3 b e c) = x (ix3 b i c) := by
  unfold Host.gather
  congr 1
  funext a
  refine Fin.ext ?_
  have hb : ∀ a, (pick n E C wf).batchCoord (ix3 b e c) a = 0 := fun a => GatherDims.batchCoord_eq_zero _ _ _ List.not_mem_nil
  show (pick n E C wf).start (ix3 b e c) idx a + (pick n E C wf).batchCoord (ix3 b e c) a + (pick n E C wf).offCoord (ix3 b e c) a = _
  rw [hb]
  fin_cases a
  · show (pick n E C wf).start (ix3 b e c) idx 0 + 0 + (pick n E C wf).offCoord (ix3 b e c) 0 = b.val
    unfold GatherDims.start
    rw [dif_neg (show (0 : Fin 3) ∉ [1] by decide)]
    rw [Nat.zero_add]
    rfl
  · show (pick n E C wf).start (ix3 b e c) idx 1 + 0 + (pick n E C wf).offCoord (ix3 b e c) 1 = i.val
    rw [GatherDims.offCoord_eq_zero _ _ _ (fun h => ((GatherDims.mem_sKept _ _).mp h).1 (List.mem_singleton.mpr rfl))]
    unfold GatherDims.start
    rw [dif_pos (show (1 : Fin 3) ∈ [1] from List.mem_singleton.mpr rfl)]
    have hs : (pick n E C wf).siIdx (ix3 b e c) ⟨List.idxOf (1 : Fin 3) (pick n E C wf).startIndexMap,
        List.idxOf_lt_length_iff.2 (List.mem_singleton.mpr rfl)⟩ = ix2 e 0 := by
      funext q
      fin_cases q <;> rfl
    rw [hs, hi]
    show min (i.val : ℤ).toNat (n - 1) + 0 + 0 = i.val
    rw [Int.toNat_natCast]
    have := i.isLt
    omega
  · show (pick n E C wf).start (ix3 b e c) idx 2 + 0 + (pick n E C wf).offCoord (ix3 b e c) 2 = c.val
    unfold GatherDims.start
    rw [dif_neg (show (2 : Fin 3) ∉ [1] by decide)]
    rw [Nat.zero_add]
    rfl

/-- Adding the message of every edge `e` into pixel `idx[e]`. -/
abbrev drop (n E C : ℕ) (wf : ScatterDims.WF ⟨3, ![n, 2, C]⟩ ⟨2, ![E, 1]⟩ ⟨3, ![E, 2, C]⟩ [1, 2] [0] [0] 1) :
    ScatterDims ⟨3, ![n, 2, C]⟩ ⟨2, ![E, 1]⟩ ⟨3, ![E, 2, C]⟩ where
  updateWindowDims := [1, 2]
  insertedWindowDims := [0]
  scatterDimsToOperandDims := [0]
  indexVectorDim := 1
  wf := wf

/-- Where the message of edge `e` lands. -/
theorem drop_lands (wf : ScatterDims.WF ⟨3, ![n, 2, C]⟩ ⟨2, ![E, 1]⟩ ⟨3, ![E, 2, C]⟩ [1, 2] [0] [0] 1) (idx : IVec ⟨2, ![E, 1]⟩ 32)
    (e : Fin E) (b b' : Fin 2) (c c' : Fin C) (i : Fin n) :
    (drop n E C wf).resultIdx? (ix3 e b c) idx = some (ix3 i b' c') ↔ (idx (ix2 e 0)).toInt = (i.val : ℤ) ∧ b = b' ∧ c = c' := by
  have s0 : (drop n E C wf).start (ix3 e b c) idx 0 = (idx (ix2 e 0)).toInt := by
    unfold ScatterDims.start
    rw [dif_pos (show (0 : Fin 3) ∈ [0] from List.mem_singleton.mpr rfl)]
    have hs : (drop n E C wf).siIdx (ix3 e b c) ⟨List.idxOf (0 : Fin 3) (drop n E C wf).scatterDimsToOperandDims,
        List.idxOf_lt_length_iff.2 (List.mem_singleton.mpr rfl)⟩ = ix2 e 0 := by
      funext q
      fin_cases q <;> rfl
    rw [hs]
  have s1 : (drop n E C wf).start (ix3 e b c) idx 1 = 0 := by
    unfold ScatterDims.start
    rw [dif_neg (show (1 : Fin 3) ∉ [0] by decide)]
  have s2 : (drop n E C wf).start (ix3 e b c) idx 2 = 0 := by
    unfold ScatterDims.start
    rw [dif_neg (show (2 : Fin 3) ∉ [0] by decide)]
  have w0 : (drop n E C wf).window (ix3 e b c) 0 = 0 := rfl
  have w1 : (drop n E C wf).window (ix3 e b c) 1 = b.val := rfl
  have w2 : (drop n E C wf).window (ix3 e b c) 2 = c.val := rfl
  rw [Routing.resultIdx?_eq_some]
  constructor
  · intro h
    have h0 := h 0
    have h1 := h 1
    have h2 := h 2
    rw [s0, w0] at h0
    rw [s1, w1] at h1
    rw [s2, w2] at h2
    change (idx (ix2 e 0)).toInt + ((0 : ℕ) : ℤ) = (i.val : ℤ) at h0
    change (0 : ℤ) + (b.val : ℤ) = (b'.val : ℤ) at h1
    change (0 : ℤ) + (c.val : ℤ) = (c'.val : ℤ) at h2
    exact ⟨by omega, Fin.ext (by omega), Fin.ext (by omega)⟩
  · rintro ⟨h0, rfl, rfl⟩ a
    fin_cases a
    · show (drop n E C wf).start (ix3 e b c) idx 0 + ((drop n E C wf).window (ix3 e b c) 0 : ℤ) = (i.val : ℤ)
      rw [s0, w0, h0]
      simp
    · show (drop n E C wf).start (ix3 e b c) idx 1 + ((drop n E C wf).window (ix3 e b c) 1 : ℤ) = (b.val : ℤ)
      rw [s1, w1]
      simp
    · show (drop n E C wf).start (ix3 e b c) idx 2 + ((drop n E C wf).window (ix3 e b c) 2 : ℤ) = (c.val : ℤ)
      rw [s2, w2]
      simp

/-- Edge `j` of pixel `i`. -/
abbrev edge (hE : E = n * 8) (i : Fin n) (j : Fin 8) : Fin E := ⟨i.val * 8 + j.val, by omega⟩

/-- Where edges `8i … 8i+7` have centre `i`: pixel `i` gets the sum of those eight messages. -/
theorem drop_apply (wf : ScatterDims.WF ⟨3, ![n, 2, C]⟩ ⟨2, ![E, 1]⟩ ⟨3, ![E, 2, C]⟩ [1, 2] [0] [0] 1) (hE : E = n * 8)
    (x : FVec Ideal ⟨3, ![n, 2, C]⟩ .f32) (idx : IVec ⟨2, ![E, 1]⟩ 32) (upd : FVec Ideal ⟨3, ![E, 2, C]⟩ .f32)
    (hidx : ∀ e : Fin E, (idx (ix2 e 0)).toInt = ((e.val / 8 : ℕ) : ℤ)) (i : Fin n) (b : Fin 2) (c : Fin C) :
    Host.scatterAdd (F := Ideal) (drop n E C wf) x idx upd (ix3 i b c)
      = (x (ix3 i b c) + ∑ j : Fin 8, (upd (ix3 (edge hE i j) b c) : EReal) : EReal) := by
  show (x (ix3 i b c) + ∑ k ∈ Finset.univ.filter (fun k => (drop n E C wf).resultIdx? k idx = some (ix3 i b c)), upd k : EReal) = _
  congr 1
  have hf : Finset.univ.filter (fun k => (drop n E C wf).resultIdx? k idx = some (ix3 i b c))
      = Finset.univ.image (fun j : Fin 8 => (ix3 (edge hE i j) b c : (⟨3, ![E, 2, C]⟩ : Shape).Idx)) := by
    ext k
    obtain ⟨e, b', c', rfl⟩ : ∃ (e : Fin E) (b' : Fin 2) (c' : Fin C), k = ix3 e b' c' := ⟨_, _, _, eq_ix3 k⟩
    rw [Finset.mem_filter, drop_lands, hidx, Finset.mem_image]
    constructor
    · rintro ⟨-, h, rfl, rfl⟩
      have he : e.val / 8 = i.val := by exact_mod_cast h
      refine ⟨⟨e.val % 8, Nat.mod_lt _ (by norm_num)⟩, Finset.mem_univ _, ?_⟩
      rw [show edge hE i ⟨e.val % 8, Nat.mod_lt _ (by norm_num)⟩ = e from Fin.ext (by show i.val * 8 + e.val % 8 = e.val; omega)]
    · rintro ⟨j, -, h⟩
      have h0 := congrFun h 0
      have h1 := congrFun h 1
      have h2 := congrFun h 2
      change edge hE i j = e at h0
      change b = b' at h1
      change c = c' at h2
      subst h0 h1 h2
      refine ⟨Finset.mem_univ _, ?_, rfl, rfl⟩
      show (((i.val * 8 + j.val) / 8 : ℕ) : ℤ) = (i.val : ℤ)
      congr 1
      omega
  rw [hf, Finset.sum_image]
  intro j _ j' _ h
  have h0 := congrArg Fin.val (congrFun h 0)
  change i.val * 8 + j.val = i.val * 8 + j'.val at h0
  exact Fin.ext (by omega)

end Cert.Sparse

end
-- ==== Proof.Adjacency.lean ====
/- The reference's product with the adjacency matrix of the graph, and its value on the ring graph: at every pixel the sum
   of an eighth of its eight neighbours. -/
module

public import proofs.«01_k».proof.Proof.Sparse
public import proofs.«01_k».proof.Proof.Weights
public import proofs.«01_k».proof.Proof.Flat
public import Idealize.ShloMosaic.Lib.ReduceAll

@[expose] public section

set_option maxRecDepth 16384

noncomputable section

namespace Cert.Adjacency

open Idealize.ShloMosaic hiding ix0 ix1 ix2 ix3 ix4 ix5 eq_ix1 eq_ix2 eq_ix3 eq_ix4 eq_ix5
open Idealize.ShloMosaic.ValueIdx
open Cert.Sparse Cert.Weights
open scoped BigOperators

/-- The shape side conditions of one product, for `n` pixels, `E` edges and `C` channels. -/
structure Facts (n E C : ℕ) : Prop where
  word : (⟨0, ![]⟩ : Shape).BroadcastsInDim ⟨1, ![E]⟩ ![]
  column : (⟨1, ![E]⟩ : Shape).BroadcastsInDim ⟨2, ![E, 1]⟩ ![0]
  words : (⟨0, ![]⟩ : Shape).BroadcastsInDim ⟨2, ![E, 1]⟩ ![]
  bound : (⟨1, ![1]⟩ : Shape).BroadcastsInDim ⟨2, ![1, 1]⟩ ![1]
  bounds : (⟨2, ![1, 1]⟩ : Shape).BroadcastsInDim ⟨2, ![E, 1]⟩ ![0, 1]
  reduces : (⟨2, ![E, 1]⟩ : Shape).ReducesTo [1] ⟨1, ![E]⟩
  one : 0 < (⟨0, ![]⟩ : Shape).numel
  pick : GatherDims.WF ⟨3, ![2, n, C]⟩ ⟨2, ![E, 1]⟩ ⟨3, ![2, E, C]⟩ [0, 2] [1] [] [1] [] 1 ![2, 1, C]
  mask : (⟨1, ![E]⟩ : Shape).BroadcastsInDim ⟨3, ![2, E, C]⟩ ![1]
  fill : (⟨0, ![]⟩ : Shape).BroadcastsInDim ⟨3, ![2, E, C]⟩ ![]
  weight : (⟨1, ![E]⟩ : Shape).BroadcastsInDim ⟨3, ![1, E, 1]⟩ ![1]
  weights : (⟨3, ![1, E, 1]⟩ : Shape).BroadcastsInDim ⟨3, ![2, E, C]⟩ ![0, 1, 2]
  flip : (⟨3, ![2, E, C]⟩ : Shape).Transposes [1, 0, 2] ⟨3, ![E, 2, C]⟩
  zeros : (⟨0, ![]⟩ : Shape).BroadcastsInDim ⟨3, ![n, 2, C]⟩ ![]
  drop : ScatterDims.WF ⟨3, ![n, 2, C]⟩ ⟨2, ![E, 1]⟩ ⟨3, ![E, 2, C]⟩ [1, 2] [0] [0] 1
  back : (⟨3, ![n, 2, C]⟩ : Shape).Transposes [1, 0, 2] ⟨3, ![2, n, C]⟩

variable {n E C : ℕ}

/-- The neighbour of every edge as a column, a negative number counted from the end. -/
def column (h : Facts n E C) (src : IVec ⟨1, ![E]⟩ 32) : IVec ⟨2, ![E, 1]⟩ 32 :=
  broadcastInDim ⟨2, ![E, 1]⟩ ![0] h.column
    (select (cmpi .slt src (broadcastInDim ⟨1, ![E]⟩ ![] h.word (constantI ⟨0, ![]⟩ 32 0#32)))
      (addi src (broadcastInDim ⟨1, ![E]⟩ ![] h.word (constantI ⟨0, ![]⟩ 32 (BitVec.ofNat 32 n)))) src)

/-- Whether the neighbour of every edge is a pixel. -/
def inside (h : Facts n E C) (src : IVec ⟨1, ![E]⟩ 32) : IVec ⟨2, ![E, 1]⟩ 1 :=
  andi (cmpi .sge (column h src) (broadcastInDim ⟨2, ![E, 1]⟩ ![] h.words (constantI ⟨0, ![]⟩ 32 0#32)))
    (cmpi .sle (column h src) (broadcastInDim ⟨2, ![E, 1]⟩ ![0, 1] h.bounds
      (broadcastInDim ⟨2, ![1, 1]⟩ ![1] h.bound (constantI ⟨1, ![1]⟩ 32 (BitVec.ofNat 32 (n - 1))))))

/-- The field at the neighbour of every edge. -/
def taken (h : Facts n E C) (x : FVec Ideal ⟨3, ![2, n, C]⟩ .f32) (src : IVec ⟨1, ![E]⟩ 32) : FVec Ideal ⟨3, ![2, E, C]⟩ .f32 :=
  select (broadcastInDim ⟨3, ![2, E, C]⟩ ![1] h.mask (Host.reduce IntOp.andi (inside h src) (constantI ⟨0, ![]⟩ 1 1#1) h.reduces h.one))
    (Host.gather (pick n E C h.pick) x (column h src)) (broadcastInDim ⟨3, ![2, E, C]⟩ ![] h.fill (constant ⟨0, ![]⟩ .f32 0x7FC00000#32))

/-- The product with the adjacency matrix. -/
def adj (h : Facts n E C) (x : FVec Ideal ⟨3, ![2, n, C]⟩ .f32) (src dst : IVec ⟨1, ![E]⟩ 32) (w : FVec Ideal ⟨1, ![E]⟩ .f32) :
    FVec Ideal ⟨3, ![2, n, C]⟩ .f32 :=
  transpose ⟨3, ![2, n, C]⟩ [1, 0, 2] (Host.scatterAdd (Cert.Sparse.drop n E C h.drop)
    (broadcastInDim ⟨3, ![n, 2, C]⟩ ![] h.zeros (constant ⟨0, ![]⟩ .f32 0x00000000#32))
    (broadcastInDim ⟨2, ![E, 1]⟩ ![0] h.column dst)
    (transpose ⟨3, ![E, 2, C]⟩ [1, 0, 2] (mulf (taken h x src)
      (broadcastInDim ⟨3, ![2, E, C]⟩ ![0, 1, 2] h.weights (broadcastInDim ⟨3, ![1, E, 1]⟩ ![1] h.weight w))) h.flip)) h.back

/-- The offsets of the eight neighbours, in the order of the edges. -/
def offs (n : ℕ) : Fin 8 → ℕ := ![1, n - 1, 2, n - 2, n / 4, n - n / 4, n / 2 + 1, n - (n / 2 + 1)]

/-- The ring graph on `n` pixels: edge `e` ends in pixel `e / 8`, starts `offs n (e % 8)` pixels further round, and has
    weight an eighth. -/
structure Ring (n E : ℕ) (src dst : IVec ⟨1, ![E]⟩ 32) (w : FVec Ideal ⟨1, ![E]⟩ .f32) : Prop where
  edges : E = n * 8
  small : n < 2 ^ 31
  src : ∀ e : Fin E, (src (ix1 e)).toNat = (e.val / 8 + offs n ⟨e.val % 8, Nat.mod_lt _ (by norm_num)⟩) % n
  dst : ∀ e : Fin E, (dst (ix1 e)).toNat = e.val / 8
  w : ∀ e : Fin E, w (ix1 e) = ((1 / 8 : ℝ) : EReal)

variable {src dst : IVec ⟨1, ![E]⟩ 32} {w : FVec Ideal ⟨1, ![E]⟩ .f32}

/-- There is a pixel where there is an edge. -/
theorem Ring.pos (g : Ring n E src dst w) (e : Fin E) : 0 < n := by
  have := e.isLt
  have := g.edges
  omega

/-- The neighbour of an edge is a pixel. -/
theorem Ring.src_lt (g : Ring n E src dst w) (e : Fin E) : (src (ix1 e)).toNat < n := by
  rw [g.src]
  exact Nat.mod_lt _ (g.pos e)

/-- No neighbour is counted from the end. -/
theorem column_apply (g : Ring n E src dst w) (h : Facts n E C) (e : Fin E) : column h src (ix2 e 0) = src (ix1 e) := by
  unfold column
  rw [broadcastInDim_apply ![0] h.column _ _ (ix1 e) (by intro a; fin_cases a <;> exact keep _)]
  refine Routing.wrap_of_lt _ _ ?_
  have := g.src_lt e
  have := g.small
  show _ < 2 ^ 31
  omega

/-- Every neighbour is a pixel. -/
theorem inside_apply (g : Ring n E src dst w) (h : Facts n E C) (i) : inside h src i = 1#1 := by
  obtain ⟨e, z, rfl⟩ : ∃ (e : Fin E) (z : Fin 1), i = ix2 e z := ⟨_, _, eq_ix2 i⟩
  obtain rfl : z = 0 := Subsingleton.elim _ _
  have hs := g.src_lt e
  have hn := g.small
  show IntOp.andi (IntOp.cmpi .sge (column h src (ix2 e 0)) 0#32) (IntOp.cmpi .sle (column h src (ix2 e 0)) (BitVec.ofNat 32 (n - 1))) = 1#1
  rw [column_apply g, WordCmp.cmpi_sge_of_lt (by show _ < 2 ^ 31; omega) (by decide),
    WordCmp.cmpi_sle_of_lt (by show _ < 2 ^ 31; omega) (by show (n - 1) % 2 ^ 32 < 2 ^ 31; omega)]
  rw [show (BitVec.ofNat 32 (n - 1)).toNat = n - 1 from by show (n - 1) % 2 ^ 32 = _; omega]
  rw [decide_eq_true (by show _ ≤ _; simp), decide_eq_true (by omega)]
  rfl

/-- The field at the neighbour of an edge. -/
theorem taken_apply (g : Ring n E src dst w) (h : Facts n E C) (x : FVec Ideal ⟨3, ![2, n, C]⟩ .f32) (b : Fin 2) (e : Fin E) (c : Fin C) :
    taken h x src (ix3 b e c) = x (ix3 b ⟨(src (ix1 e)).toNat, g.src_lt e⟩ c) := by
  unfold taken
  have hm : broadcastInDim ⟨3, ![2, E, C]⟩ ![1] h.mask
      (Host.reduce IntOp.andi (inside h src) (constantI ⟨0, ![]⟩ 1 1#1) h.reduces h.one) (ix3 b e c) = 1#1 := by
    rw [broadcastInDim_apply ![1] h.mask _ _ (ix1 e) (by intro a; fin_cases a <;> exact keep _)]
    exact Host.reduce_andi_one _ _ _ _ _ rfl (inside_apply g h)
  show Scalar.select (broadcastInDim ⟨3, ![2, E, C]⟩ ![1] h.mask
    (Host.reduce IntOp.andi (inside h src) (constantI ⟨0, ![]⟩ 1 1#1) h.reduces h.one) (ix3 b e c)) _ _ = _
  rw [hm]
  show Host.gather (pick n E C h.pick) x (column h src) (ix3 b e c) = _
  refine pick_apply h.pick x _ b e c _ ?_
  rw [column_apply g]
  have := g.src_lt e
  have := g.small
  exact WordCmp.toInt_eq_toNat_of_lt_half (by show _ < 2 ^ 31; omega)

/-- At every pixel, the sum of an eighth of the eight neighbours. -/
theorem adj_apply (g : Ring n E src dst w) (h : Facts n E C) (x : FVec Ideal ⟨3, ![2, n, C]⟩ .f32) (b : Fin 2) (i : Fin n) (c : Fin C) :
    adj h x src dst w (ix3 b i c)
      = (∑ j : Fin 8, (x (ix3 b ⟨(i.val + offs n j) % n, Nat.mod_lt _ (by have := i.isLt; omega)⟩ c) : EReal) * ((1 / 8 : ℝ) : EReal) : EReal) := by
  unfold adj
  rw [transpose_apply _ _ h.back (ix3 b i c) (ix3 i b c) (by intro a; fin_cases a <;> rfl)]
  rw [drop_apply h.drop g.edges]
  · rw [show broadcastInDim ⟨3, ![n, 2, C]⟩ ![] h.zeros (constant (F := Ideal) ⟨0, ![]⟩ .f32 0x00000000#32) (ix3 i b c) = (0 : EReal) from
      Cert.Flat.zero, zero_add]
    refine Finset.sum_congr rfl fun j _ => ?_
    rw [transpose_apply _ _ h.flip (ix3 (edge g.edges i j) b c) (ix3 b (edge g.edges i j) c) (by intro a; fin_cases a <;> rfl)]
    rw [mulf_apply, taken_apply g h,
      broadcastInDim_apply ![0, 1, 2] h.weights _ _ (ix3 (0 : Fin 1) (edge g.edges i j) (0 : Fin 1))
        (by intro a; fin_cases a <;> first | exact keep _ | rfl),
      broadcastInDim_apply ![1] h.weight _ _ (ix1 (edge g.edges i j)) (by intro a; fin_cases a <;> exact keep _), g.w]
    have hs : (src (ix1 (edge g.edges i j))).toNat = (i.val + offs n j) % n := by
      rw [g.src]
      have h1 : (i.val * 8 + j.val) / 8 = i.val := by omega
      have h2 : (⟨(i.val * 8 + j.val) % 8, Nat.mod_lt _ (by norm_num)⟩ : Fin 8) = j := Fin.ext (by show (i.val * 8 + j.val) % 8 = j.val; omega)
      show ((i.val * 8 + j.val) / 8 + offs n ⟨(i.val * 8 + j.val) % 8, _⟩) % n = _
      rw [h1, h2]
    simp only [hs]
  · intro e
    rw [broadcastInDim_apply ![0] h.column _ _ (ix1 e) (by intro a; fin_cases a <;> exact keep _)]
    have h1 := g.dst e
    have h2 := g.small
    have h3 := e.isLt
    have h4 := g.edges
    rw [WordCmp.toInt_eq_toNat_of_lt_half (by show _ < 2 ^ 31; omega), h1]

end Cert.Adjacency

end
-- ==== Proof.Layer.lean ====
/- The reference's layers, for any number of pixels and channels: the graph convolution, the cut at zero, the pooling and the
   unpooling, as the reference writes them, and their values as fields read in row-major order on the ring graph. -/
module

public import proofs.«01_k».proof.Proof.Adjacency
public import proofs.«01_k».proof.Proof.Fields
public import proofs.«01_k».proof.Proof.Flat

@[expose] public section

set_option maxRecDepth 16384

noncomputable section

namespace Cert.Layer

open Idealize.ShloMosaic hiding ix0 ix1 ix2 ix3 ix4 ix5 eq_ix1 eq_ix2 eq_ix3 eq_ix4 eq_ix5
open Idealize.ShloMosaic.ValueIdx
open Cert.Adjacency Cert.Weights Cert.Flat Cert.Fields
open scoped BigOperators

/-- The shape side conditions of one convolution, from `C` to `O` channels. -/
structure Facts (n E C O : ℕ) : Prop extends Cert.Adjacency.Facts n E C where
  s0 : (⟨3, ![4, C, O]⟩ : Shape).Slices ![0, 0, 0] ⟨3, ![1, C, O]⟩
  s1 : (⟨3, ![4, C, O]⟩ : Shape).Slices ![1, 0, 0] ⟨3, ![1, C, O]⟩
  s2 : (⟨3, ![4, C, O]⟩ : Shape).Slices ![2, 0, 0] ⟨3, ![1, C, O]⟩
  s3 : (⟨3, ![4, C, O]⟩ : Shape).Slices ![3, 0, 0] ⟨3, ![1, C, O]⟩
  matrix : (⟨3, ![1, C, O]⟩ : Shape).ShapeCasts ⟨2, ![C, O]⟩
  dot : DotDims.WF ⟨3, ![2, n, C]⟩ ⟨2, ![C, O]⟩ ⟨3, ![2, n, O]⟩ [2] [0] [0, 1] [1] [] []
  two : (⟨0, ![]⟩ : Shape).BroadcastsInDim ⟨3, ![2, n, C]⟩ ![]

variable {n E C O : ℕ}

/-- The contraction of the channels. -/
abbrev chan (wf : DotDims.WF ⟨3, ![2, n, C]⟩ ⟨2, ![C, O]⟩ ⟨3, ![2, n, O]⟩ [2] [0] [0, 1] [1] [] []) :
    DotDims ⟨3, ![2, n, C]⟩ ⟨2, ![C, O]⟩ ⟨3, ![2, n, O]⟩ where
  lhsContracting := [2]
  rhsContracting := [0]
  lhsNonContracting := [0, 1]
  rhsNonContracting := [1]
  lhsBatch := []
  rhsBatch := []
  wf := wf

/-- The contraction at an element. -/
theorem chan_apply (wf : DotDims.WF ⟨3, ![2, n, C]⟩ ⟨2, ![C, O]⟩ ⟨3, ![2, n, O]⟩ [2] [0] [0, 1] [1] [] [])
    (x : FVec Ideal ⟨3, ![2, n, C]⟩ .f32) (y : FVec Ideal ⟨2, ![C, O]⟩ .f32) (b : Fin 2) (i : Fin n) (o : Fin O) :
    Host.dotGeneral (chan wf) none x y (ix3 b i o) = (∑ k : Fin C, (x (ix3 b i k) : EReal) * (y (ix2 k o) : EReal) : EReal) := by
  simp only [Host.dotGeneral]
  rw [Ideal.dotGeneral_apply, ← Equiv.sum_comp (contrEquiv1 (chan wf) C rfl rfl).symm]
  refine Finset.sum_congr rfl fun k _ => ?_
  have hk := contrEquiv1_symm_val (chan wf) C rfl rfl k
  generalize (contrEquiv1 (chan wf) C rfl rfl).symm k = q at hk
  have el : (chan wf).lhsIdx (ix3 b i o) q = ix3 b i k := funext fun a => Fin.ext (by
    match a with
    | ⟨0, _⟩ =>
      show ((chan wf).lhsIdx (ix3 b i o) q 0).val = b.val
      unfold DotDims.lhsIdx
      rw [dif_neg (show ¬(0 : Fin 3) ∈ [] by decide), dif_pos (show (0 : Fin 3) ∈ [0, 1] by decide)]
      rfl
    | ⟨1, _⟩ =>
      show ((chan wf).lhsIdx (ix3 b i o) q 1).val = i.val
      unfold DotDims.lhsIdx
      rw [dif_neg (show ¬(1 : Fin 3) ∈ [] by decide), dif_pos (show (1 : Fin 3) ∈ [0, 1] by decide)]
      rfl
    | ⟨2, _⟩ => exact ((chan wf).lhsIdx_val_of_single rfl (ix3 b i o) q).trans hk)
  have er : (chan wf).rhsIdx (ix3 b i o) q = ix2 k o := funext fun a => Fin.ext (by
    match a with
    | ⟨0, _⟩ => exact ((chan wf).rhsIdx_val_of_single rfl (ix3 b i o) q).trans hk
    | ⟨1, _⟩ =>
      show ((chan wf).rhsIdx (ix3 b i o) q 1).val = o.val
      unfold DotDims.rhsIdx
      rw [dif_neg (show ¬(1 : Fin 2) ∈ [] by decide), dif_pos (show (1 : Fin 2) ∈ [1] by decide)]
      rfl)
  rw [el, er]

/-- The weights of one Chebyshev field. -/
abbrev weight (h : Facts n E C O) (W : FVec Ideal ⟨3, ![4, C, O]⟩ .f32) {k : ℕ}
    (hk : (⟨3, ![4, C, O]⟩ : Shape).Slices ![k, 0, 0] ⟨3, ![1, C, O]⟩) : FVec Ideal ⟨2, ![C, O]⟩ .f32 :=
  shapeCast ⟨2, ![C, O]⟩ (extractStridedSlice ⟨3, ![1, C, O]⟩ ![k, 0, 0] W hk) h.matrix

/-- The second field, `−A x`. -/
abbrev first (h : Facts n E C O) (src dst : IVec ⟨1, ![E]⟩ 32) (w : FVec Ideal ⟨1, ![E]⟩ .f32) (x : FVec Ideal ⟨3, ![2, n, C]⟩ .f32) :
    FVec Ideal ⟨3, ![2, n, C]⟩ .f32 := Host.negf (adj h.toFacts x src dst w)

/-- The next field from the last two, `−2 A x − y`. -/
abbrev next (h : Facts n E C O) (src dst : IVec ⟨1, ![E]⟩ 32) (w : FVec Ideal ⟨1, ![E]⟩ .f32) (x y : FVec Ideal ⟨3, ![2, n, C]⟩ .f32) :
    FVec Ideal ⟨3, ![2, n, C]⟩ .f32 :=
  subf (mulf (broadcastInDim ⟨3, ![2, n, C]⟩ ![] h.two (constant ⟨0, ![]⟩ .f32 0xC0000000#32)) (adj h.toFacts x src dst w)) y

/-- The product of a field with the weights of one Chebyshev field. -/
abbrev part (h : Facts n E C O) (W : FVec Ideal ⟨3, ![4, C, O]⟩ .f32) {k : ℕ}
    (hk : (⟨3, ![4, C, O]⟩ : Shape).Slices ![k, 0, 0] ⟨3, ![1, C, O]⟩) (x : FVec Ideal ⟨3, ![2, n, C]⟩ .f32) :
    FVec Ideal ⟨3, ![2, n, O]⟩ .f32 := Host.dotGeneral (chan h.dot) none x (weight h W hk)

/-- One graph convolution. -/
def conv (h : Facts n E C O) (src dst : IVec ⟨1, ![E]⟩ 32) (w : FVec Ideal ⟨1, ![E]⟩ .f32) (W : FVec Ideal ⟨3, ![4, C, O]⟩ .f32)
    (x : FVec Ideal ⟨3, ![2, n, C]⟩ .f32) : FVec Ideal ⟨3, ![2, n, O]⟩ .f32 :=
  addf (addf (addf (part h W h.s0 x) (part h W h.s1 (first h src dst w x)))
      (part h W h.s2 (next h src dst w (first h src dst w x) x)))
    (part h W h.s3 (next h src dst w (next h src dst w (first h src dst w x) x) (first h src dst w x)))

variable [NeZero n] [NeZero C] [NeZero O] {src dst : IVec ⟨1, ![E]⟩ 32} {w : FVec Ideal ⟨1, ![E]⟩ .f32}

/-- The product with the adjacency matrix, as a field. -/
theorem flat3_adj (g : Ring n E src dst w) (h : Cert.Adjacency.Facts n E C) (x : FVec Ideal ⟨3, ![2, n, C]⟩ .f32) (b : Fin 2) :
    flat3 (adj h x src dst w) b = nbr n C (fun q => (flat3 x b q : EReal) * ((1 / 8 : ℝ) : EReal)) := by
  funext p
  have hx : ∀ d : ℕ, x (ix3 b ⟨((Fin.ofNat n (p / C)).val + d) % n, Nat.mod_lt _ (Nat.pos_of_ne_zero (NeZero.ne n))⟩ (Fin.ofNat C p))
      = flat3 x b (p + C * d) := by
    intro d
    unfold flat3
    congr 2
    · apply Fin.ext
      show (p / C % n + d) % n = (p + C * d) / C % n
      rw [Nat.add_mul_div_left _ _ (Nat.pos_of_ne_zero (NeZero.ne C)), Nat.mod_add_mod]
    · apply Fin.ext
      show p % C = (p + C * d) % C
      rw [Nat.add_mul_mod_self_left]
  show adj h x src dst w (ix3 b (Fin.ofNat n (p / C)) (Fin.ofNat C p)) = _
  rw [adj_apply g, Fin.sum_univ_eight]
  simp only [hx]
  rfl

/-- Minus it is the second Chebyshev field. -/
theorem flat3_first (g : Ring n E src dst w) (h : Facts n E C O) (x : FVec Ideal ⟨3, ![2, n, C]⟩ .f32) (b : Fin 2) :
    flat3 (first h src dst w x) b = cheb n C (flat3 x b) 1 := by
  funext p
  show -(flat3 (adj h.toFacts x src dst w) b p : EReal) = nbr n C (flat3 x b) p * ((-(1 / 8) : ℝ) : EReal)
  rw [flat3_adj g, nbr_mul]

/-- The constant of the recurrence. -/
theorem neg_two : (Scalar.ofBits .f32 0xC0000000#32 : Ideal .f32) = ((-2 : ℝ) : EReal) := by
  show Ideal.ofBits .f32 0xC0000000#32 = _
  simp [Ideal.ofBits, Ideal.ieee, -EReal.coe_mul]; norm_num

/-- The recurrence of the Chebyshev fields. -/
theorem flat3_next (g : Ring n E src dst w) (h : Facts n E C O) (x y : FVec Ideal ⟨3, ![2, n, C]⟩ .f32) (b : Fin 2)
    (f : ℕ → EReal) (k : ℕ) (hx : flat3 x b = cheb n C f (k + 1)) (hy : flat3 y b = cheb n C f k) :
    flat3 (next h src dst w x y) b = cheb n C f (k + 2) := by
  funext p
  show ((Scalar.ofBits .f32 0xC0000000#32 : Ideal .f32) : EReal) * (flat3 (adj h.toFacts x src dst w) b p : EReal) - (flat3 y b p : EReal)
    = ((2 : ℝ) : EReal) * (nbr n C (cheb n C f (k + 1)) p * ((-(1 / 8) : ℝ) : EReal)) - cheb n C f k p
  rw [flat3_adj g, nbr_mul, hx, hy, neg_two, EReal.coe_neg, EReal.neg_mul, mul_neg]

/-- One term of the convolution. -/
theorem part_apply (h : Facts n E C O) (W : FVec Ideal ⟨3, ![4, C, O]⟩ .f32) {k : ℕ} (hk4 : k < 4)
    (hk : (⟨3, ![4, C, O]⟩ : Shape).Slices ![k, 0, 0] ⟨3, ![1, C, O]⟩) (x : FVec Ideal ⟨3, ![2, n, C]⟩ .f32) (b : Fin 2)
    (f : ℕ → EReal) (hx : flat3 x b = cheb n C f k) (i : Fin n) (o : Fin O) :
    part h W hk x (ix3 b i o) = term n C (wts W) f i.val o.val k := by
  unfold part
  rw [chan_apply]
  unfold term
  rw [← Fin.sum_univ_eq_sum_range]
  refine Finset.sum_congr rfl fun c _ => ?_
  rw [apply_eq_flat3 x, hx]
  congr 1
  unfold weight
  rw [shapeCast_apply _ h.matrix (ix2 c o) (ix3 (0 : Fin 1) c o) (by
    rw [Shape.rowMajor_val_three, Shape.rowMajor_val_two]
    show (0 * C + c.val) * O + o.val = c.val * O + o.val
    rw [Nat.zero_mul, Nat.zero_add])]
  rw [extractStridedSlice_apply _ _ hk _ (ix3 (⟨k, hk4⟩ : Fin 4) c o) (by
    intro a
    fin_cases a
    · show k = k + 0
      rfl
    · show c.val = 0 + c.val
      rw [Nat.zero_add]
    · show o.val = 0 + o.val
      rw [Nat.zero_add])]
  unfold wts
  congr 2
  · exact Fin.ext (Nat.mod_eq_of_lt hk4).symm
  · exact Fin.ext (Nat.mod_eq_of_lt c.isLt).symm
  · exact Fin.ext (Nat.mod_eq_of_lt o.isLt).symm

/-- The reference's convolution is the convolution of fields. -/
theorem conv_apply (g : Ring n E src dst w) (h : Facts n E C O) (W : FVec Ideal ⟨3, ![4, C, O]⟩ .f32) (x : FVec Ideal ⟨3, ![2, n, C]⟩ .f32)
    (b : Fin 2) (i : Fin n) (o : Fin O) :
    conv h src dst w W x (ix3 b i o) = Fields.conv n C (wts W) (flat3 x b) i.val o.val := by
  have h1 := flat3_first g h x b
  have h2 := flat3_next g h _ x b (flat3 x b) 0 h1 rfl
  have h3 := flat3_next g h _ _ b (flat3 x b) 1 h2 h1
  unfold conv Fields.conv
  rw [addf_apply, addf_apply, addf_apply, part_apply h W (by norm_num) h.s0 x b (flat3 x b) rfl,
    part_apply h W (by norm_num) h.s1 _ b (flat3 x b) h1, part_apply h W (by norm_num) h.s2 _ b (flat3 x b) h2,
    part_apply h W (by norm_num) h.s3 _ b (flat3 x b) h3]

/-- The convolution with its negative values cut off, as the reference writes it. -/
abbrev relu (hz : (⟨0, ![]⟩ : Shape).BroadcastsInDim ⟨3, ![2, n, O]⟩ ![]) (y : FVec Ideal ⟨3, ![2, n, O]⟩ .f32) :
    FVec Ideal ⟨3, ![2, n, O]⟩ .f32 := maximumf y (broadcastInDim ⟨3, ![2, n, O]⟩ ![] hz (constant ⟨0, ![]⟩ .f32 0x00000000#32))

/-- The cut at an element. -/
theorem relu_apply (hz : (⟨0, ![]⟩ : Shape).BroadcastsInDim ⟨3, ![2, n, O]⟩ ![]) (y : FVec Ideal ⟨3, ![2, n, O]⟩ .f32)
    (j : (⟨3, ![2, n, O]⟩ : Shape).Idx) : relu hz y j = max (y j : EReal) 0 := by
  show max (y j : EReal) ((Scalar.ofBits .f32 0x00000000#32 : Ideal .f32) : EReal) = _
  rw [Cert.Flat.zero]

/-- An array given at every pixel and channel, as a field. -/
theorem flat3_of (X : FVec Ideal ⟨3, ![2, n, O]⟩ .f32) (b : Fin 2) (G : ℕ → ℕ → EReal)
    (hX : ∀ (i : Fin n) (o : Fin O), X (ix3 b i o) = G i.val o.val) (N : ℕ) (hN : n * O = N) :
    flat3 X b = wrap N (fun p => G (p / O) (p % O)) := by
  subst hN
  funext p
  show X (ix3 b (Fin.ofNat n (p / O)) (Fin.ofNat O p)) = G (p % (n * O) / O) (p % (n * O) % O)
  rw [hX, Nat.mul_comm n O, Nat.mod_mul_right_div_self, Nat.mod_mul_right_mod]
  rfl

/-- The shape side conditions of pooling `n` pixels into `m`. -/
structure PoolFacts (n m O : ℕ) : Prop where
  group : (⟨3, ![2, n, O]⟩ : Shape).ShapeCasts ⟨4, ![2, m, 4, O]⟩
  sum : (⟨4, ![2, m, 4, O]⟩ : Shape).ReducesTo [2] ⟨3, ![2, m, O]⟩
  sum' : (⟨4, ![2, m, 4, O]⟩ : Shape).Reduces [2] ⟨3, ![2, m, O]⟩
  one : 0 < (⟨0, ![]⟩ : Shape).numel
  four : (⟨0, ![]⟩ : Shape).BroadcastsInDim ⟨3, ![2, m, O]⟩ ![]
  count : n = m * 4

variable {m : ℕ} [NeZero m]

/-- The mean of four consecutive pixels, as the reference writes it. -/
abbrev pool (h : PoolFacts n m O) (x : FVec Ideal ⟨3, ![2, n, O]⟩ .f32) : FVec Ideal ⟨3, ![2, m, O]⟩ .f32 :=
  Host.divf (Host.reduceAdd (shapeCast ⟨4, ![2, m, 4, O]⟩ x h.group) (constant ⟨0, ![]⟩ .f32 0x00000000#32) h.sum h.one)
    (broadcastInDim ⟨3, ![2, m, O]⟩ ![] h.four (constant ⟨0, ![]⟩ .f32 0x40800000#32))

/-- The divisor of the mean. -/
theorem four : (Scalar.ofBits .f32 0x40800000#32 : Ideal .f32) = ((4 : ℝ) : EReal) := by
  show Ideal.ofBits .f32 0x40800000#32 = _
  simp [Ideal.ofBits, Ideal.ieee, -EReal.coe_mul]; norm_num

/-- The mean at an element. -/
theorem pool_apply (h : PoolFacts n m O) (x : FVec Ideal ⟨3, ![2, n, O]⟩ .f32) (b : Fin 2) (G : ℕ → ℕ → EReal)
    (hx : ∀ (i : Fin n) (o : Fin O), x (ix3 b i o) = G i.val o.val) (i : Fin m) (o : Fin O) :
    pool h x (ix3 b i o) = pool4 (fun q => G q o.val) i.val := by
  have hs : Host.reduceAdd (shapeCast ⟨4, ![2, m, 4, O]⟩ x h.group) (constant (F := Ideal) ⟨0, ![]⟩ .f32 0x00000000#32) h.sum h.one (ix3 b i o)
      = (∑ k : Fin 4, (G (i.val * 4 + k.val) o.val) : EReal) := by
    simp only [Host.reduceAdd, Ideal.hostReduceAdd_def]
    rw [Ideal.hostReduceAdd_single h.sum h.sum']
    rw [show (constant (F := Ideal) ⟨0, ![]⟩ .f32 0x00000000#32 (Shape.Idx.first h.one) : EReal) = 0 from Cert.Flat.zero, zero_add]
    refine Finset.sum_congr rfl fun (k : Fin 4) _ => ?_
    have hl : h.sum'.lift (ix3 b i o) k = ix4 b i k o := funext fun a => Fin.ext (by
      match a with | ⟨0, _⟩ => rfl | ⟨1, _⟩ => rfl | ⟨2, _⟩ => rfl | ⟨3, _⟩ => rfl)
    have hk : k.val < 4 := k.isLt
    have hik : i.val * 4 + k.val < n := by
      have := i.isLt
      have := h.count
      omega
    rw [hl, shapeCast_apply x h.group (ix4 b i k o) (ix3 b (⟨i.val * 4 + k.val, hik⟩ : Fin n) o) (by
      rw [Shape.rowMajor_val_four, Shape.rowMajor_val_three]
      show (b.val * n + (i.val * 4 + k.val)) * O + o.val = ((b.val * m + i.val) * 4 + k.val) * O + o.val
      rw [h.count]; ring), hx]
  show Ideal.div (Host.reduceAdd (shapeCast ⟨4, ![2, m, 4, O]⟩ x h.group) (constant (F := Ideal) ⟨0, ![]⟩ .f32 0x00000000#32) h.sum h.one (ix3 b i o))
    ((Scalar.ofBits .f32 0x40800000#32 : Ideal .f32) : EReal) = _
  rw [hs, four, Ideal.div_coe (by norm_num), Fin.sum_univ_four]
  unfold pool4 sum4
  rw [Nat.mul_comm 4]
  rfl

/-- Every pixel four times, as the reference writes it. -/
abbrev spread (hb : (⟨3, ![2, m, O]⟩ : Shape).BroadcastsInDim ⟨4, ![2, m, 4, O]⟩ ![0, 1, 3])
    (hc : (⟨4, ![2, m, 4, O]⟩ : Shape).ShapeCasts ⟨3, ![2, n, O]⟩) (x : FVec Ideal ⟨3, ![2, m, O]⟩ .f32) : FVec Ideal ⟨3, ![2, n, O]⟩ .f32 :=
  shapeCast ⟨3, ![2, n, O]⟩ (broadcastInDim ⟨4, ![2, m, 4, O]⟩ ![0, 1, 3] hb x) hc

/-- It is the repetition of fields. -/
theorem flat3_spread (hb : (⟨3, ![2, m, O]⟩ : Shape).BroadcastsInDim ⟨4, ![2, m, 4, O]⟩ ![0, 1, 3])
    (hc : (⟨4, ![2, m, 4, O]⟩ : Shape).ShapeCasts ⟨3, ![2, n, O]⟩) (hn : n = m * 4) (x : FVec Ideal ⟨3, ![2, m, O]⟩ .f32) (b : Fin 2) :
    flat3 (spread hb hc x) b = unpool O (flat3 x b) := by
  funext p
  have posO : 0 < O := Nat.pos_of_ne_zero (NeZero.ne O)
  have posm : 0 < m := Nat.pos_of_ne_zero (NeZero.ne m)
  have hi : p / O / 4 % m < m := Nat.mod_lt _ posm
  have hk : p / O % 4 < 4 := Nat.mod_lt _ (by norm_num)
  unfold unpool spread
  show shapeCast ⟨3, ![2, n, O]⟩ (broadcastInDim ⟨4, ![2, m, 4, O]⟩ ![0, 1, 3] hb x) hc (ix3 b (Fin.ofNat n (p / O)) (Fin.ofNat O p))
    = x (ix3 b (Fin.ofNat m ((p / O / 4 * O + p % O) / O)) (Fin.ofNat O (p / O / 4 * O + p % O)))
  rw [shapeCast_apply _ hc _ (ix4 b (⟨p / O / 4 % m, hi⟩ : Fin m) (⟨p / O % 4, hk⟩ : Fin 4) (Fin.ofNat O p)) (by
    rw [Shape.rowMajor_val_four, Shape.rowMajor_val_three]
    show ((b.val * m + p / O / 4 % m) * 4 + p / O % 4) * O + p % O = (b.val * n + p / O % n) * O + p % O
    rw [hn, show p / O % (m * 4) = p / O / 4 % m * 4 + p / O % 4 from by
      rw [Nat.mul_comm m 4, Nat.mod_mul]; ring]
    ring),
    broadcastInDim_apply ![0, 1, 3] hb _ _ (ix3 b (⟨p / O / 4 % m, hi⟩ : Fin m) (Fin.ofNat O p))
      (by intro a; fin_cases a <;> first | exact keep _ | rfl)]
  congr 2
  · apply Fin.ext
    show p / O / 4 % m = (p / O / 4 * O + p % O) / O % m
    rw [Nat.mul_comm _ O, Nat.mul_add_div posO, Nat.div_eq_of_lt (Nat.mod_lt _ posO), Nat.add_zero]
  · apply Fin.ext
    show p % O = (p / O / 4 * O + p % O) % O
    rw [Nat.add_comm, Nat.add_mul_mod_self_right, Nat.mod_mod]

end Cert.Layer

end
-- ==== Proof.Reference.lean ====
/- The reference's value: its five layers are the layers of fields, so that it computes the network on the ring graph. -/
module

public import proofs.«01_k».proof.Proof.Layer
public import proofs.«01_k».proof.Proof.Gen.ReferenceIdeal
public import proofs.«01_k».proof.Proof.Gen.ReferenceIdeal.Run
public import proofs.«01_k».proof.Proof.Gen.ReferenceIdeal.Read

@[expose] public section

set_option maxRecDepth 16384

noncomputable section

namespace Cert.Reference

open Idealize.ShloMosaic hiding ix0 ix1 ix2 ix3 ix4 ix5 eq_ix1 eq_ix2 eq_ix3 eq_ix4 eq_ix5
open Idealize.ShloMosaic.ValueIdx
open Cert.ReferenceIdeal Cert.ReferenceIdeal.Facts₀ Cert.ReferenceIdeal.Facts Cert.ReferenceIdeal.Read
open Cert.Layer (relu pool spread flat3_of)
open Cert.Adjacency (Ring)
open Cert.Flat Cert.Fields Cert.Weights

/-- The shape facts of the first layer. -/
theorem facts0 : Cert.Layer.Facts 196608 1572864 1 16 :=
  ⟨⟨bcast_S_S1572864, bcast_S1572864_S1572864x1_0, bcast_S_S1572864x1, bcast_S1_S1x1_1, bcast_S1x1_S1572864x1_0_1,
    reducesTo_S1572864x1_S1572864_d1, h_S_, gather_S2x196608x1_S1572864x1_S2x1572864x1_02_1_n_n_1_1_211_wf,
    bcast_S1572864_S2x1572864x1_1, bcast_S_S2x1572864x1, bcast_S1572864_S1x1572864x1_1, bcast_S1x1572864x1_S2x1572864x1_0_1_2,
    transposes_S2x1572864x1_S1572864x2x1_1_0_2, bcast_S_S196608x2x1, scatter_S196608x2x1_S1572864x1_S1572864x2x1_12_0_0_1_wf,
    transposes_S196608x2x1_S2x196608x1_1_0_2⟩,
    slices_S4x1x16_S1x1x16_0_0_0, slices_S4x1x16_S1x1x16_1_0_0, slices_S4x1x16_S1x1x16_2_0_0, slices_S4x1x16_S1x1x16_3_0_0,
    shapeCasts_S1x1x16_S1x16, dot_S2x196608x1_S1x16_S2x196608x16_2_0_01_1_n_n_wf, bcast_S_S2x196608x1⟩

/-- The shape facts of the first layer's pooling. -/
theorem pool0 : Cert.Layer.PoolFacts 196608 49152 16 :=
  ⟨shapeCasts_S2x196608x16_S2x49152x4x16, reducesTo_S2x49152x4x16_S2x49152x16_d2, by decide, h_S_, bcast_S_S2x49152x16, by norm_num⟩

/-- The shape facts of the second layer. -/
theorem facts1 : Cert.Layer.Facts 49152 393216 16 32 :=
  ⟨⟨bcast_S_S393216, bcast_S393216_S393216x1_0, bcast_S_S393216x1, bcast_S1_S1x1_1, bcast_S1x1_S393216x1_0_1,
    reducesTo_S393216x1_S393216_d1, h_S_, gather_S2x49152x16_S393216x1_S2x393216x16_02_1_n_n_1_1_2116_wf,
    bcast_S393216_S2x393216x16_1, bcast_S_S2x393216x16, bcast_S393216_S1x393216x1_1, bcast_S1x393216x1_S2x393216x16_0_1_2,
    transposes_S2x393216x16_S393216x2x16_1_0_2, bcast_S_S49152x2x16, scatter_S49152x2x16_S393216x1_S393216x2x16_12_0_0_1_wf,
    transposes_S49152x2x16_S2x49152x16_1_0_2⟩,
    slices_S4x16x32_S1x16x32_0_0_0, slices_S4x16x32_S1x16x32_1_0_0, slices_S4x16x32_S1x16x32_2_0_0, slices_S4x16x32_S1x16x32_3_0_0,
    shapeCasts_S1x16x32_S16x32, dot_S2x49152x16_S16x32_S2x49152x32_2_0_01_1_n_n_wf, bcast_S_S2x49152x16⟩

/-- The shape facts of the second layer's pooling. -/
theorem pool1 : Cert.Layer.PoolFacts 49152 12288 32 :=
  ⟨shapeCasts_S2x49152x32_S2x12288x4x32, reducesTo_S2x12288x4x32_S2x12288x32_d2, by decide, h_S_, bcast_S_S2x12288x32, by norm_num⟩

/-- The shape facts of the third layer. -/
theorem facts2 : Cert.Layer.Facts 12288 98304 32 16 :=
  ⟨⟨bcast_S_S98304, bcast_S98304_S98304x1_0, bcast_S_S98304x1, bcast_S1_S1x1_1, bcast_S1x1_S98304x1_0_1,
    reducesTo_S98304x1_S98304_d1, h_S_, gather_S2x12288x32_S98304x1_S2x98304x32_02_1_n_n_1_1_2132_wf,
    bcast_S98304_S2x98304x32_1, bcast_S_S2x98304x32, bcast_S98304_S1x98304x1_1, bcast_S1x98304x1_S2x98304x32_0_1_2,
    transposes_S2x98304x32_S98304x2x32_1_0_2, bcast_S_S12288x2x32, scatter_S12288x2x32_S98304x1_S98304x2x32_12_0_0_1_wf,
    transposes_S12288x2x32_S2x12288x32_1_0_2⟩,
    slices_S4x32x16_S1x32x16_0_0_0, slices_S4x32x16_S1x32x16_1_0_0, slices_S4x32x16_S1x32x16_2_0_0, slices_S4x32x16_S1x32x16_3_0_0,
    shapeCasts_S1x32x16_S32x16, dot_S2x12288x32_S32x16_S2x12288x16_2_0_01_1_n_n_wf, bcast_S_S2x12288x32⟩

/-- The shape facts of the fourth layer. -/
theorem facts3 : Cert.Layer.Facts 49152 393216 16 16 :=
  ⟨⟨bcast_S_S393216, bcast_S393216_S393216x1_0, bcast_S_S393216x1, bcast_S1_S1x1_1, bcast_S1x1_S393216x1_0_1,
    reducesTo_S393216x1_S393216_d1, h_S_, gather_S2x49152x16_S393216x1_S2x393216x16_02_1_n_n_1_1_2116_wf,
    bcast_S393216_S2x393216x16_1, bcast_S_S2x393216x16, bcast_S393216_S1x393216x1_1, bcast_S1x393216x1_S2x393216x16_0_1_2,
    transposes_S2x393216x16_S393216x2x16_1_0_2, bcast_S_S49152x2x16, scatter_S49152x2x16_S393216x1_S393216x2x16_12_0_0_1_wf,
    transposes_S49152x2x16_S2x49152x16_1_0_2⟩,
    slices_S4x16x16_S1x16x16_0_0_0, slices_S4x16x16_S1x16x16_1_0_0, slices_S4x16x16_S1x16x16_2_0_0, slices_S4x16x16_S1x16x16_3_0_0,
    shapeCasts_S1x16x16_S16x16, dot_S2x49152x16_S16x16_S2x49152x16_2_0_01_1_n_n_wf, bcast_S_S2x49152x16⟩

/-- The shape facts of the last layer. -/
theorem facts4 : Cert.Layer.Facts 196608 1572864 16 1 :=
  ⟨⟨bcast_S_S1572864, bcast_S1572864_S1572864x1_0, bcast_S_S1572864x1, bcast_S1_S1x1_1, bcast_S1x1_S1572864x1_0_1,
    reducesTo_S1572864x1_S1572864_d1, h_S_, gather_S2x196608x16_S1572864x1_S2x1572864x16_02_1_n_n_1_1_2116_wf,
    bcast_S1572864_S2x1572864x16_1, bcast_S_S2x1572864x16, bcast_S1572864_S1x1572864x1_1, bcast_S1x1572864x1_S2x1572864x16_0_1_2,
    transposes_S2x1572864x16_S1572864x2x16_1_0_2, bcast_S_S196608x2x16, scatter_S196608x2x16_S1572864x1_S1572864x2x16_12_0_0_1_wf,
    transposes_S196608x2x16_S2x196608x16_1_0_2⟩,
    slices_S4x16x1_S1x16x1_0_0_0, slices_S4x16x1_S1x16x1_1_0_0, slices_S4x16x1_S1x16x1_2_0_0, slices_S4x16x1_S1x16x1_3_0_0,
    shapeCasts_S1x16x1_S16x1, dot_S2x196608x16_S16x1_S2x196608x1_2_0_01_1_n_n_wf, bcast_S_S2x196608x16⟩

variable (x0 : FVec Ideal S2x196608x1 .f32) (x1 x2 : IVec S1572864 32) (x3 : FVec Ideal S1572864 .f32)
  (x4 x5 : IVec S393216 32) (x6 : FVec Ideal S393216 .f32) (x7 x8 : IVec S98304 32) (x9 : FVec Ideal S98304 .f32)
  (x10 : FVec Ideal S4x1x16 .f32) (x11 : FVec Ideal S4x16x32 .f32) (x12 : FVec Ideal S4x32x16 .f32) (x13 : FVec Ideal S4x16x16 .f32)
  (x14 : FVec Ideal S4x16x1 .f32)

/-- The first layer. -/
theorem layer0 : val_main_v53 (F := Ideal) x0 x1 x2 x3 x10
    = pool pool0 (relu bcast_S_S2x196608x16 (Cert.Layer.conv facts0 x1 x2 x3 x10 x0)) := rfl

/-- The second layer. -/
theorem layer1 : val_main_v107 (F := Ideal) x0 x1 x2 x3 x4 x5 x6 x10 x11
    = pool pool1 (relu bcast_S_S2x49152x32 (Cert.Layer.conv facts1 x4 x5 x6 x11 (val_main_v53 (F := Ideal) x0 x1 x2 x3 x10))) := rfl

/-- The third layer. -/
theorem layer2 : val_main_v157 (F := Ideal) x0 x1 x2 x3 x4 x5 x6 x7 x8 x9 x10 x11 x12
    = relu bcast_S_S2x12288x16 (Cert.Layer.conv facts2 x7 x8 x9 x12 (val_main_v107 (F := Ideal) x0 x1 x2 x3 x4 x5 x6 x10 x11)) := rfl

/-- The fourth layer. -/
theorem layer3 : val_main_v209 (F := Ideal) x0 x1 x2 x3 x4 x5 x6 x7 x8 x9 x10 x11 x12 x13
    = relu bcast_S_S2x49152x16 (Cert.Layer.conv facts3 x4 x5 x6 x13
      (spread bcast_S2x12288x16_S2x12288x4x16_0_1_3 shapeCasts_S2x12288x4x16_S2x49152x16
        (val_main_v157 (F := Ideal) x0 x1 x2 x3 x4 x5 x6 x7 x8 x9 x10 x11 x12))) := rfl

/-- The last layer. -/
theorem layer4 : val_main_v260 (F := Ideal) x0 x1 x2 x3 x4 x5 x6 x7 x8 x9 x10 x11 x12 x13 x14
    = Cert.Layer.conv facts4 x1 x2 x3 x14
      (spread bcast_S2x49152x16_S2x49152x4x16_0_1_3 shapeCasts_S2x49152x4x16_S2x196608x16
        (val_main_v209 (F := Ideal) x0 x1 x2 x3 x4 x5 x6 x7 x8 x9 x10 x11 x12 x13)) := rfl

variable {x0 x1 x2 x3 x4 x5 x6 x7 x8 x9 x10 x11 x12 x13 x14}

/-- The first layer as a field. -/
theorem enc1_eq (g : Ring 196608 1572864 x1 x2 x3) (b : Fin 2) :
    flat3 (show FVec Ideal S2x49152x16 .f32 from val_main_v53 (F := Ideal) x0 x1 x2 x3 x10) b = enc1 (wts x10) (flat3 x0 b) := by
  rw [layer0]
  exact flat3_of _ b (fun i o => pool4 (fun q => max (conv 196608 1 (wts x10) (flat3 x0 b) q o) 0) i)
    (Cert.Layer.pool_apply pool0 _ b (fun q o => max (conv 196608 1 (wts x10) (flat3 x0 b) q o) 0)
      (fun i o => by rw [Cert.Layer.relu_apply, Cert.Layer.conv_apply g])) 786432 (by norm_num)

/-- The second layer as a field. -/
theorem enc2_eq (g : Ring 49152 393216 x4 x5 x6) (b : Fin 2) :
    flat3 (show FVec Ideal S2x12288x32 .f32 from val_main_v107 (F := Ideal) x0 x1 x2 x3 x4 x5 x6 x10 x11) b
      = enc2 (wts x11) (flat3 (show FVec Ideal S2x49152x16 .f32 from val_main_v53 (F := Ideal) x0 x1 x2 x3 x10) b) := by
  rw [layer1]
  generalize val_main_v53 (F := Ideal) x0 x1 x2 x3 x10 = y
  exact flat3_of _ b (fun i o => pool4 (fun q => max (conv 49152 16 (wts x11) (flat3 y b) q o) 0) i)
    (Cert.Layer.pool_apply pool1 _ b (fun q o => max (conv 49152 16 (wts x11) (flat3 y b) q o) 0)
      (fun i o => by rw [Cert.Layer.relu_apply, Cert.Layer.conv_apply g])) 393216 (by norm_num)

/-- The third layer as a field. -/
theorem mid_eq (g : Ring 12288 98304 x7 x8 x9) (b : Fin 2) :
    flat3 (show FVec Ideal S2x12288x16 .f32 from val_main_v157 (F := Ideal) x0 x1 x2 x3 x4 x5 x6 x7 x8 x9 x10 x11 x12) b
      = mid (wts x12) (flat3 (show FVec Ideal S2x12288x32 .f32 from val_main_v107 (F := Ideal) x0 x1 x2 x3 x4 x5 x6 x10 x11) b) := by
  rw [layer2]
  generalize val_main_v107 (F := Ideal) x0 x1 x2 x3 x4 x5 x6 x10 x11 = y
  exact flat3_of _ b (fun i o => max (conv 12288 32 (wts x12) (flat3 y b) i o) 0)
    (fun i o => by rw [Cert.Layer.relu_apply, Cert.Layer.conv_apply g]) 196608 (by norm_num)

/-- The fourth layer as a field. -/
theorem dec1_eq (g : Ring 49152 393216 x4 x5 x6) (b : Fin 2) :
    flat3 (show FVec Ideal S2x49152x16 .f32 from val_main_v209 (F := Ideal) x0 x1 x2 x3 x4 x5 x6 x7 x8 x9 x10 x11 x12 x13) b
      = dec1 (wts x13) (flat3 (show FVec Ideal S2x12288x16 .f32 from
          val_main_v157 (F := Ideal) x0 x1 x2 x3 x4 x5 x6 x7 x8 x9 x10 x11 x12) b) := by
  rw [layer3]
  generalize val_main_v157 (F := Ideal) x0 x1 x2 x3 x4 x5 x6 x7 x8 x9 x10 x11 x12 = y
  exact flat3_of _ b (fun i o => max (conv 49152 16 (wts x13) (unpool 16 (flat3 y b)) i o) 0)
    (fun i o => by rw [Cert.Layer.relu_apply, Cert.Layer.conv_apply g, Cert.Layer.flat3_spread _ _ (by norm_num)]) 786432 (by norm_num)

/-- The last layer as a field. -/
theorem dec2_eq (g : Ring 196608 1572864 x1 x2 x3) (b : Fin 2) :
    flat3 (show FVec Ideal S2x196608x1 .f32 from val_main_v260 (F := Ideal) x0 x1 x2 x3 x4 x5 x6 x7 x8 x9 x10 x11 x12 x13 x14) b
      = dec2 (wts x14) (flat3 (show FVec Ideal S2x49152x16 .f32 from
          val_main_v209 (F := Ideal) x0 x1 x2 x3 x4 x5 x6 x7 x8 x9 x10 x11 x12 x13) b) := by
  rw [layer4]
  generalize val_main_v209 (F := Ideal) x0 x1 x2 x3 x4 x5 x6 x7 x8 x9 x10 x11 x12 x13 = y
  refine (flat3_of _ b (fun i o => conv 196608 16 (wts x14) (unpool 16 (flat3 y b)) i o)
    (fun i o => by rw [Cert.Layer.conv_apply g, Cert.Layer.flat3_spread _ _ (by norm_num)]) 196608 (by norm_num)).trans ?_
  funext p
  show conv 196608 16 (wts x14) (unpool 16 (flat3 y b)) (p % 196608 / 1) (p % 196608 % 1)
    = conv 196608 16 (wts x14) (unpool 16 (flat3 y b)) (p % 196608) 0
  rw [Nat.div_one, Nat.mod_one]

/-- On ring graphs the reference computes the network. -/
theorem out (g0 : Ring 196608 1572864 x1 x2 x3) (g1 : Ring 49152 393216 x4 x5 x6) (g2 : Ring 12288 98304 x7 x8 x9) (b : Fin 2) :
    flat3 (show FVec Ideal S2x196608x1 .f32 from val_main_v260 (F := Ideal) x0 x1 x2 x3 x4 x5 x6 x7 x8 x9 x10 x11 x12 x13 x14) b
      = net (wts x10) (wts x11) (wts x12) (wts x13) (wts x14) (flat3 x0 b) := by
  rw [dec2_eq g0, dec1_eq g1, mid_eq g2, enc2_eq g1, enc1_eq g0]
  rfl

end Cert.Reference

end
-- ==== Proof.Graph.lean ====
/- The precondition says that every level's graph is the ring graph. -/
module

public import proofs.«01_k».proof.Defs
public import proofs.«01_k».proof.Proof.Adjacency
public import proofs.«01_k».proof.Proof.Gen.Pre_sphere_graph
public import Idealize.ShloMosaic.Lib.Affine

@[expose] public section

set_option maxRecDepth 16384

noncomputable section

namespace Cert.Graph

open Idealize.ShloMosaic hiding ix0 ix1 ix2 ix3 ix4 ix5 eq_ix1 eq_ix2 eq_ix3 eq_ix4 eq_ix5
open Idealize.ShloMosaic.ValueIdx
open Cert.Adjacency Cert.Weights

/-- An eighth. -/
theorem eighth : (Scalar.ofBits .f32 0x3E000000#32 : Ideal .f32) = ((1 / 8 : ℝ) : EReal) := by
  show Ideal.ofBits .f32 0x3E000000#32 = _
  simp [Ideal.ofBits, Ideal.ieee, -EReal.coe_mul]; norm_num

/-- Two words that compare equal are equal. -/
theorem eq_of_cmpi {x y : BitVec 32} (h : IntOp.cmpi .eq x y = 1#1) : x = y := by
  rw [WordCmp.cmpi_eq_eq, WordCmp.ofBool_decide_eq_one_iff] at h
  exact h

/-- One level of the precondition: its three comparisons hold everywhere, so the graph is the ring graph. -/
theorem ring_of {n E : ℕ} (hE : E = n * 8) (hn : n < 2 ^ 20) (lit : Fin 8 → BitVec 32)
    (hlt : ∀ j, (lit j).toNat < 2 ^ 20) (hlit : ∀ j, (lit j).toNat % n = offs n j % n)
    (src dst : IVec ⟨1, ![E]⟩ 32) (w : FVec Ideal ⟨1, ![E]⟩ .f32)
    (hs : (⟨1, ![E]⟩ : Shape).ShapeCasts ⟨2, ![n, 8]⟩)
    (h1 : (⟨1, ![8]⟩ : Shape).BroadcastsInDim ⟨2, ![1, 8]⟩ ![1])
    (h2 : (⟨2, ![1, 8]⟩ : Shape).BroadcastsInDim ⟨2, ![n, 8]⟩ ![0, 1])
    (h0 : (⟨0, ![]⟩ : Shape).BroadcastsInDim ⟨2, ![n, 8]⟩ ![])
    (hw : (⟨0, ![]⟩ : Shape).BroadcastsInDim ⟨1, ![E]⟩ ![])
    (psrc : cmpi .eq (shapeCast ⟨2, ![n, 8]⟩ src hs) (Host.remsi (addi (iotaInDim ⟨2, ![n, 8]⟩ 32 0)
      (broadcastInDim ⟨2, ![n, 8]⟩ ![0, 1] h2 (broadcastInDim ⟨2, ![1, 8]⟩ ![1] h1 (fun i => lit ((⟨1, ![8]⟩ : Shape).rowMajor i)))))
      (broadcastInDim ⟨2, ![n, 8]⟩ ![] h0 (constantI ⟨0, ![]⟩ 32 (BitVec.ofNat 32 n)))) = fun _ => 1#1)
    (pdst : cmpi .eq (shapeCast ⟨2, ![n, 8]⟩ dst hs) (iotaInDim ⟨2, ![n, 8]⟩ 32 0) = fun _ => 1#1)
    (pw : cmpf .oeq w (broadcastInDim ⟨1, ![E]⟩ ![] hw (constant ⟨0, ![]⟩ .f32 0x3E000000#32)) = fun _ => 1#1) :
    Ring n E src dst w := by
  have cast : ∀ (v : IVec ⟨1, ![E]⟩ 32) (e : Fin E) (hi : e.val / 8 < n),
      shapeCast ⟨2, ![n, 8]⟩ v hs (ix2 (⟨e.val / 8, hi⟩ : Fin n) (⟨e.val % 8, Nat.mod_lt _ (by norm_num)⟩ : Fin 8)) = v (ix1 e) := by
    intro v e hi
    refine shapeCast_apply v hs _ _ ?_
    rw [Shape.rowMajor_val_one, Shape.rowMajor_val_two]
    show e.val = e.val / 8 * 8 + e.val % 8
    omega
  have hi : ∀ e : Fin E, e.val / 8 < n := fun e => by
    have := e.isLt
    omega
  refine ⟨hE, by omega, fun e => ?_, fun e => ?_, fun e => ?_⟩
  · have h := eq_of_cmpi (congrFun psrc (ix2 (⟨e.val / 8, hi e⟩ : Fin n) (⟨e.val % 8, Nat.mod_lt _ (by norm_num)⟩ : Fin 8)))
    rw [cast src e (hi e)] at h
    have hb : broadcastInDim ⟨2, ![n, 8]⟩ ![0, 1] h2 (broadcastInDim ⟨2, ![1, 8]⟩ ![1] h1 (fun i => lit ((⟨1, ![8]⟩ : Shape).rowMajor i)))
        (ix2 (⟨e.val / 8, hi e⟩ : Fin n) (⟨e.val % 8, Nat.mod_lt _ (by norm_num)⟩ : Fin 8)) = lit ⟨e.val % 8, Nat.mod_lt _ (by norm_num)⟩ := by
      rw [broadcastInDim_apply ![0, 1] h2 _ _ (ix2 (0 : Fin 1) (⟨e.val % 8, Nat.mod_lt _ (by norm_num)⟩ : Fin 8))
          (by intro a; fin_cases a <;> first | exact keep _ | rfl),
        broadcastInDim_apply ![1] h1 _ _ (ix1 (⟨e.val % 8, Nat.mod_lt _ (by norm_num)⟩ : Fin 8)) (by intro a; fin_cases a <;> exact keep _)]
      refine congrArg lit (Fin.ext ?_)
      exact Shape.rowMajor_val_one _
    change src (ix1 e) = IntOp.remsi .host (BitVec.ofNat 32 (e.val / 8) + broadcastInDim ⟨2, ![n, 8]⟩ ![0, 1] h2 (broadcastInDim ⟨2, ![1, 8]⟩ ![1] h1 (fun i => lit ((⟨1, ![8]⟩ : Shape).rowMajor i)))
        (ix2 (⟨e.val / 8, hi e⟩ : Fin n) (⟨e.val % 8, Nat.mod_lt _ (by norm_num)⟩ : Fin 8))) (BitVec.ofNat 32 n) at h
    rw [hb] at h
    have hl := hlt ⟨e.val % 8, Nat.mod_lt _ (by norm_num)⟩
    have ho := hlit ⟨e.val % 8, Nat.mod_lt _ (by norm_num)⟩
    have he := hi e
    have ha : (BitVec.ofNat 32 (e.val / 8) + lit ⟨e.val % 8, Nat.mod_lt _ (by norm_num)⟩).toNat
        = e.val / 8 + (lit ⟨e.val % 8, Nat.mod_lt _ (by norm_num)⟩).toNat := by
      rw [BitVec.toNat_add, BitVec.toNat_ofNat]
      omega
    rw [h, IntOp.toNat_remsi .host (by rw [ha]; omega) n (by omega) (by omega), ha]
    rw [Nat.add_mod, ho, ← Nat.add_mod]
  · have h := eq_of_cmpi (congrFun pdst (ix2 (⟨e.val / 8, hi e⟩ : Fin n) (⟨e.val % 8, Nat.mod_lt _ (by norm_num)⟩ : Fin 8)))
    rw [cast dst e (hi e)] at h
    rw [h]
    show e.val / 8 % 2 ^ 32 = e.val / 8
    have := hi e
    omega
  · have h := congrFun pw (ix1 e)
    change Ideal.cmp .oeq (w (ix1 e)) (Scalar.ofBits .f32 0x3E000000#32 : Ideal .f32) = 1#1 at h
    rw [eighth] at h
    exact (WordCmp.ofBool_decide_eq_one_iff _).1 h

open Cert.KernelIdeal in
/-- The three levels of the precondition, at the arguments of the program. -/
theorem rings (m : (ℓ : Loc nD τ sig) → Buf (Elt Ideal) ℓ) (h : Cert.Pre_KernelIdeal_sphere_graph m) (c : Dev nD) :
    Ring 196608 1572864 (m ((c.tc : Thread nD τ).loc main_arg1)) (m ((c.tc : Thread nD τ).loc main_arg2)) (m ((c.tc : Thread nD τ).loc main_arg3))
    ∧ Ring 49152 393216 (m ((c.tc : Thread nD τ).loc main_arg4)) (m ((c.tc : Thread nD τ).loc main_arg5)) (m ((c.tc : Thread nD τ).loc main_arg6))
    ∧ Ring 12288 98304 (m ((c.tc : Thread nD τ).loc main_arg7)) (m ((c.tc : Thread nD τ).loc main_arg8)) (m ((c.tc : Thread nD τ).loc main_arg9)) := by
  obtain ⟨a, b, d, a', b', d', a'', b'', d''⟩ := h c
  refine ⟨?_, ?_, ?_⟩
  · exact ring_of (by norm_num) (by norm_num) Cert.Pre_sphere_graph.lit0 (by decide) (by decide) _ _ _
      Cert.Pre_sphere_graph.Facts.shapeCasts_S1572864_S196608x8 Cert.Pre_sphere_graph.Facts.bcast_S8_S1x8_1
      Cert.Pre_sphere_graph.Facts.bcast_S1x8_S196608x8_0_1 Cert.Pre_sphere_graph.Facts.bcast_S_S196608x8
      Cert.Pre_sphere_graph.Facts.bcast_S_S1572864 a b d
  · exact ring_of (by norm_num) (by norm_num) Cert.Pre_sphere_graph.lit1 (by decide) (by decide) _ _ _
      Cert.Pre_sphere_graph.Facts.shapeCasts_S393216_S49152x8 Cert.Pre_sphere_graph.Facts.bcast_S8_S1x8_1
      Cert.Pre_sphere_graph.Facts.bcast_S1x8_S49152x8_0_1 Cert.Pre_sphere_graph.Facts.bcast_S_S49152x8
      Cert.Pre_sphere_graph.Facts.bcast_S_S393216 a' b' d'
  · exact ring_of (by norm_num) (by norm_num) Cert.Pre_sphere_graph.lit2 (by decide) (by decide) _ _ _
      Cert.Pre_sphere_graph.Facts.shapeCasts_S98304_S12288x8 Cert.Pre_sphere_graph.Facts.bcast_S8_S1x8_1
      Cert.Pre_sphere_graph.Facts.bcast_S1x8_S12288x8_0_1 Cert.Pre_sphere_graph.Facts.bcast_S_S12288x8
      Cert.Pre_sphere_graph.Facts.bcast_S_S98304 a'' b'' d''

end Cert.Graph

end
-- ==== Proof.Agree.lean ====
/- Kernel and reference agree: on arguments that are equal and satisfy the precondition, the contents of the kernel's result
   buffer are the value of the reference. -/
module

public import proofs.«01_k».proof.Proof.KernelRun
public import proofs.«01_k».proof.Proof.KernelValue
public import proofs.«01_k».proof.Proof.Reference
public import proofs.«01_k».proof.Proof.Graph

@[expose] public section

set_option maxRecDepth 16384

noncomputable section

namespace Cert.Agree

open Idealize.ShloMosaic hiding ix0 ix1 ix2 ix3 ix4 ix5 eq_ix1 eq_ix2 eq_ix3 eq_ix4 eq_ix5
open Idealize.ShloMosaic.TcCoe Idealize.SL.Sem
open Cert.Flat Cert.KernelIdeal.Gen
open Cert.ReferenceIdeal.Read (val_main_v260)

variable (m : (ℓ : Loc Cert.KernelIdeal.nD Cert.KernelIdeal.τ Cert.KernelIdeal.sig) → Buf (Elt Ideal) ℓ) (ρ : Dev Cert.KernelIdeal.nD → PrngReg)

open Cert.KernelIdeal in
/-- The reference's value of the kernel's arguments is what the kernel leaves in its result buffer: both are the same network. -/
theorem value (h : Cert.Pre_KernelIdeal_sphere_graph m) (c : Dev nD)
    {x0 : FVec Ideal S2x196608x1 .f32} {x1 x2 : IVec S1572864 32} {x3 : FVec Ideal S1572864 .f32} {x4 x5 : IVec S393216 32}
    {x6 : FVec Ideal S393216 .f32} {x7 x8 : IVec S98304 32} {x9 : FVec Ideal S98304 .f32} {x10 : FVec Ideal S4x1x16 .f32}
    {x11 : FVec Ideal S4x16x32 .f32} {x12 : FVec Ideal S4x32x16 .f32} {x13 : FVec Ideal S4x16x16 .f32} {x14 : FVec Ideal S4x16x1 .f32}
    (e0 : x0 = m ((c.tc : Thread nD τ).loc main_arg0)) (e1 : x1 = m ((c.tc : Thread nD τ).loc main_arg1))
    (e2 : x2 = m ((c.tc : Thread nD τ).loc main_arg2)) (e3 : x3 = m ((c.tc : Thread nD τ).loc main_arg3))
    (e4 : x4 = m ((c.tc : Thread nD τ).loc main_arg4)) (e5 : x5 = m ((c.tc : Thread nD τ).loc main_arg5))
    (e6 : x6 = m ((c.tc : Thread nD τ).loc main_arg6)) (e7 : x7 = m ((c.tc : Thread nD τ).loc main_arg7))
    (e8 : x8 = m ((c.tc : Thread nD τ).loc main_arg8)) (e9 : x9 = m ((c.tc : Thread nD τ).loc main_arg9))
    (e10 : x10 = m ((c.tc : Thread nD τ).loc main_arg10)) (e11 : x11 = m ((c.tc : Thread nD τ).loc main_arg11))
    (e12 : x12 = m ((c.tc : Thread nD τ).loc main_arg12)) (e13 : x13 = m ((c.tc : Thread nD τ).loc main_arg13))
    (e14 : x14 = m ((c.tc : Thread nD τ).loc main_arg14)) :
    val_main_v260 (F := Ideal) x0 x1 x2 x3 x4 x5 x6 x7 x8 x9 x10 x11 x12 x13 x14
      = (show FVec Ideal S2x196608x1 .f32 from W16 m ρ c (Proc.devRef .tc main_v137)) := by
  subst e0 e1 e2 e3 e4 e5 e6 e7 e8 e9 e10 e11 e12 e13 e14
  obtain ⟨g0, g1, g2⟩ := Cert.Graph.rings m h c
  exact flat3_ext fun b p => congrFun ((Cert.Reference.out g0 g1 g2 b).trans (Cert.KernelValue.out m ρ c b).symm) p

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_sphere_graph
public import proofs.«01_k».proof.Proof.Agree
public import Idealize.ShloMosaic.Adequacy
public import Idealize.ShloMosaic.Init

@[expose] public section

set_option maxRecDepth 16384

noncomputable section

namespace Cert.Proof

open Idealize.ShloMosaic Idealize.ShloMosaic.StableHlo Idealize.SL.Sem

/-- The reference terminates, leaves its arguments unchanged and has no semaphore to leave away from zero. -/
theorem reference_frame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Kernel and reference, run from equal arguments that satisfy the precondition, end with the same result. -/
theorem algebraic : Cert.algebraic_KernelIdeal_ReferenceIdeal_pre_sphere_graph := by
  intro m g m' g' hpre hagree
  refine ⟨fun c => Cert.KernelIdeal.Gen.W16 m g c (Proc.devRef .tc Cert.KernelIdeal.main_v137), Cert.KernelRun.run m g, ?_⟩
  refine (θ_run Cert.ReferenceIdeal.defs _ _).mono (fun r h c => ⟨?_, (h c).2⟩) (Cert.ReferenceIdeal.Value.run (F := Ideal) m' g')
  obtain ⟨a0, a1, a2, a3, a4, a5, a6, a7, a8, a9, a10, a11, a12, a13, a14⟩ := hagree c
  exact ((h c).1.trans (Cert.ReferenceIdeal.Read.val_main_v260_eq (launchContents m' c))).trans
    (Cert.Agree.value m g hpre c a0 a1 a2 a3 a4 a5 a6 a7 a8 a9 a10 a11 a12 a13 a14)

/-- The certificate's claim. -/
theorem claim : Cert.Claim :=
  ⟨Cert.Kernel.Gen.facts, Cert.KernelIdeal.Gen.facts, Cert.ReferenceIdeal.Gen.facts, Cert.Pre_sphere_graph.Gen.facts,
    fun m g _ => Cert.Kernel.Gen.frame m g,
    fun m g _ => Cert.KernelIdeal.Gen.frame m g,
    fun m g _ => Cert.KernelIdeal.Gen.frame m g,
    reference_frame,
    fun m g _ => reference_frame m g trivial,
    trivial,
    algebraic⟩

end Cert.Proof

end
